-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)) (v3 : (c : Dev Cert.Kernel4Ideal.nD) → Buf (Elt Ideal) ((c.tc : Thread Cert.Kernel4Ideal.nD Cert.Kernel4Ideal.τ).loc Cert.Kernel4Ideal.main_v17_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_v17_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v66) = v1 c
          ∧ r.2.mem ((c.tc : Thread Cert.Reference4Ideal.nD Cert.Reference4Ideal.τ).loc Cert.Reference4Ideal.main_v67) = v2 c
          ∧ r.2.mem ((c.tc : Thread Cert.Reference4Ideal.nD Cert.Reference4Ideal.τ).loc Cert.Reference4Ideal.main_v61) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v284) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S8x4096x1024 : Shape := ⟨3, ![8, 4096, 1024]⟩
abbrev S8x1024x4096 : Shape := ⟨3, ![8, 1024, 4096]⟩
abbrev S8x16x4096 : Shape := ⟨3, ![8, 16, 4096]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  bcast_S_S8x1024x4096 : S_.BroadcastsInDim S8x1024x4096 (![] : Fin 0 → Fin S8x1024x4096.rank)
  bcast_S_S8x16x4096 : S_.BroadcastsInDim S8x16x4096 (![] : Fin 0 → Fin S8x16x4096.rank)

variable [Facts]

def fn {F : FTy → Type} [FloatOps F] (main_arg0 : FVec F S8x4096x1024 .bf16) (main_arg1 : FVec F S8x1024x4096 .bf16) (main_arg2 : FVec F S8x4096x1024 .bf16) (main_arg3 : FVec F S8x16x4096 .f32) : IVec S8x4096x1024 1 × IVec S8x1024x4096 1 × IVec S8x16x4096 1 :=
  let main_v0 : FVec F S8x4096x1024 .f32 := (extf .f32 · bitsLt_bf16_f32) main_arg0
  let main_v1 : FVec F S8x1024x4096 .f32 := (extf .f32 · bitsLt_bf16_f32) main_arg1
  let main_v2 : FVec F S8x4096x1024 .f32 := Host.absf main_v0
  let main_cst : FVec F S_ .f32 := constant S_ .f32 0x7F800000#32
  let main_v3 : FVec F S8x4096x1024 .f32 := broadcastInDim S8x4096x1024 ![] bcast_S_S8x4096x1024 main_cst
  let main_v4 : IVec S8x4096x1024 1 := cmpf .olt main_v2 main_v3
  let main_v5 : FVec F S8x1024x4096 .f32 := Host.absf main_v1
  let main_cst_0 : FVec F S_ .f32 := constant S_ .f32 0x7F800000#32
  let main_v6 : FVec F S8x1024x4096 .f32 := broadcastInDim S8x1024x4096 ![] bcast_S_S8x1024x4096 main_cst_0
  let main_v7 : IVec S8x1024x4096 1 := cmpf .olt main_v5 main_v6
  let main_v8 : FVec F S8x16x4096 .f32 := Host.absf main_arg3
  let main_cst_1 : FVec F S_ .f32 := constant S_ .f32 0x7F800000#32
  let main_v9 : FVec F S8x16x4096 .f32 := broadcastInDim S8x16x4096 ![] bcast_S_S8x16x4096 main_cst_1
  let main_v10 : IVec S8x16x4096 1 := cmpf .olt main_v8 main_v9
  (main_v4, main_v7, main_v10)
-- ==== Kernel.lean ====
abbrev S8x4096x1024 : Shape := ⟨3, ![8, 4096, 1024]⟩
abbrev S8x1024x4096 : Shape := ⟨3, ![8, 1024, 4096]⟩
abbrev S8x16x4096 : Shape := ⟨3, ![8, 16, 4096]⟩
abbrev S8x8x2x4096 : Shape := ⟨4, ![8, 8, 2, 4096]⟩
abbrev S1x512x128 : Shape := ⟨3, ![1, 512, 128]⟩
abbrev S1x128x4096 : Shape := ⟨3, ![1, 128, 4096]⟩
abbrev S1x4096x128 : Shape := ⟨3, ![1, 4096, 128]⟩
abbrev S1x1x2x4096 : Shape := ⟨4, ![1, 1, 2, 4096]⟩
abbrev S512x128 : Shape := ⟨2, ![512, 128]⟩
abbrev S1x256x128 : Shape := ⟨3, ![1, 256, 128]⟩
abbrev S256x128 : Shape := ⟨2, ![256, 128]⟩
abbrev S256x256 : Shape := ⟨2, ![256, 256]⟩
abbrev S1x128x256 : Shape := ⟨3, ![1, 128, 256]⟩
abbrev S128x256 : Shape := ⟨2, ![128, 256]⟩
abbrev S1x1x1x256 : Shape := ⟨4, ![1, 1, 1, 256]⟩
abbrev S1x256 : Shape := ⟨2, ![1, 256]⟩
abbrev S256x512 : Shape := ⟨2, ![256, 512]⟩
abbrev S1x128x512 : Shape := ⟨3, ![1, 128, 512]⟩
abbrev S128x512 : Shape := ⟨2, ![128, 512]⟩
abbrev S1x1x1x512 : Shape := ⟨4, ![1, 1, 1, 512]⟩
abbrev S1x512 : Shape := ⟨2, ![1, 512]⟩
abbrev S256 : Shape := ⟨1, ![256]⟩
abbrev S256x1 : Shape := ⟨2, ![256, 1]⟩
abbrev S1x1024x128 : Shape := ⟨3, ![1, 1024, 128]⟩
abbrev S1024x128 : Shape := ⟨2, ![1024, 128]⟩
abbrev S1x128x1024 : Shape := ⟨3, ![1, 128, 1024]⟩
abbrev S128x1024 : Shape := ⟨2, ![128, 1024]⟩
abbrev S512x1024 : Shape := ⟨2, ![512, 1024]⟩
abbrev S1x1x1x1024 : Shape := ⟨4, ![1, 1, 1, 1024]⟩
abbrev S1x1024 : Shape := ⟨2, ![1, 1024]⟩
abbrev S512 : Shape := ⟨1, ![512]⟩
abbrev S512x1 : Shape := ⟨2, ![512, 1]⟩
abbrev S512x512 : Shape := ⟨2, ![512, 512]⟩

abbrev nBuf : Space → Nat
  | .hbm => 6
  | .vmem => 14
  | .smem => 0
  | _ => 0

abbrev bufTy : (tb : Table) → Fin (tcTables nBuf tb) → BufTy
  | .hbm, ⟨0, _⟩ => ⟨S8x4096x1024, .bf16⟩
  | .hbm, ⟨1, _⟩ => ⟨S8x1024x4096, .bf16⟩
  | .hbm, ⟨2, _⟩ => ⟨S8x4096x1024, .bf16⟩
  | .hbm, ⟨3, _⟩ => ⟨S8x16x4096, .f32⟩
  | .hbm, ⟨4, _⟩ => ⟨S8x8x2x4096, .f32⟩
  | .hbm, ⟨5, _⟩ => ⟨S8x4096x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x2x4096, .f32⟩
  | .local _ .vmem, ⟨7, _⟩ => ⟨S1x1x2x4096, .f32⟩
  | .local _ .vmem, ⟨8, _⟩ => ⟨S1x512x128, .bf16⟩
  | .local _ .vmem, ⟨9, _⟩ => ⟨S1x512x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let arg2 : BitVec 32 := BitVec.ofNat 32 (i 2).val
  let c512_i32 : BitVec 32 := 512#32
  let v8 : BitVec 32 := Scalar.muli arg2 c512_i32
  v8
def k0_off1 (i : grid0.Coords) : Fin 3 → Nat :=
  let c0_2 : Index := 0#32
  let arg2 : BitVec 32 := BitVec.ofNat 32 (i 2).val
  let c512_i32 : BitVec 32 := 512#32
  let v8 : BitVec 32 := Scalar.muli arg2 c512_i32
  let v9 : BitVec 32 := v8
  let v10 : Index := Scalar.indexCast v9
  let c0_3 : Index := 0#32
  ![0, v10.toNat, 0]
def k0_off2 (i : grid0.Coords) : Fin 3 → Nat :=
  let c0_6 : Index := 0#32
  let arg2 : BitVec 32 := BitVec.ofNat 32 (i 2).val
  let c512_i32 : BitVec 32 := 512#32
  let v8 : BitVec 32 := Scalar.muli arg2 c512_i32
  let v9 : BitVec 32 := v8
  let v19 : Index := Scalar.indexCast v9
  let c0_7 : Index := 0#32
  ![0, v19.toNat, 0]
def k0_off3 (i : grid0.Coords) : Fin 3 → Nat :=
  let c0_10 : Index := 0#32
  let c0_11 : Index := 0#32
  let arg2 : BitVec 32 := BitVec.ofNat 32 (i 2).val
  let c512_i32 : BitVec 32 := 512#32
  let v8 : BitVec 32 := Scalar.muli arg2 c512_i32
  let v9 : BitVec 32 := v8
  let v34 : Index := Scalar.indexCast v9
  ![0, 0, v34.toNat]
def k0_off4 (i : grid0.Coords) : Fin 4 → Nat :=
  let c0_13 : Index := 0#32
  let c0_14 : Index := 0#32
  let c0_15 : Index := 0#32
  let arg2 : BitVec 32 := BitVec.ofNat 32 (i 2).val
  let c512_i32 : BitVec 32 := 512#32
  let v8 : BitVec 32 := Scalar.muli arg2 c512_i32
  let v9 : BitVec 32 := v8
  let v38 : Index := Scalar.indexCast v9
  ![0, 0, 0, v38.toNat]
def k0_off5 (i : grid0.Coords) : Fin 4 → Nat :=
  let c0_21 : Index := 0#32
  let c0_22 : Index := 0#32
  let c1 : Index := 1#32
  let arg2 : BitVec 32 := BitVec.ofNat 32 (i 2).val
  let c512_i32 : BitVec 32 := 512#32
  let v8 : BitVec 32 := Scalar.muli arg2 c512_i32
  let v9 : BitVec 32 := v8
  let v55 : Index := Scalar.indexCast v9
  ![0, 0, 1, v55.toNat]
def k0_off6 (i : grid0.Coords) : Fin 3 → Nat :=
  let c0_24 : Index := 0#32
  let c0_25 : Index := 0#32
  let arg2 : BitVec 32 := BitVec.ofNat 32 (i 2).val
  let c512_i32 : BitVec 32 := 512#32
  let v8 : BitVec 32 := Scalar.muli arg2 c512_i32
  let v9 : BitVec 32 := v8
  let v68 : Index := Scalar.indexCast v9
  ![0, 0, v68.toNat]
def k0_off7 (i : grid0.Coords) : Fin 4 → Nat :=
  let c0_27 : Index := 0#32
  let c0_28 : Index := 0#32
  let c0_29 : Index := 0#32
  let arg2 : BitVec 32 := BitVec.ofNat 32 (i 2).val
  let c512_i32 : BitVec 32 := 512#32
  let v8 : BitVec 32 := Scalar.muli arg2 c512_i32
  let v9 : BitVec 32 := v8
  let v72 : Index := Scalar.indexCast v9
  ![0, 0, 0, v72.toNat]
def k0_off8 (i : grid0.Coords) : Fin 4 → Nat :=
  let c0_35 : Index := 0#32
  let c0_36 : Index := 0#32
  let c1_37 : Index := 1#32
  let arg2 : BitVec 32 := BitVec.ofNat 32 (i 2).val
  let c512_i32 : BitVec 32 := 512#32
  let v8 : BitVec 32 := Scalar.muli arg2 c512_i32
  let v9 : BitVec 32 := v8
  let v89 : Index := Scalar.indexCast v9
  ![0, 0, 1, v89.toNat]
@[reducible] def k0_t1_loop (i : grid0.Coords) : Scf.Loop 32 :=
  let c0_i32_68 : BitVec 32 := 0#32
  let arg2 : BitVec 32 := BitVec.ofNat 32 (i 2).val
  let c0_i32_62 : BitVec 32 := 0#32
  let v157 : BitVec 1 := Scalar.cmpi .sgt arg2 c0_i32_62
  let v158 : BitVec 32 := Scalar.extui v157
  let c0_i32_63 : BitVec 32 := 0#32
  let v159 : BitVec 1 := Scalar.cmpi .slt arg2 c0_i32_63
  let v160 : BitVec 32 := Scalar.extui v159
  let v161 : BitVec 32 := Scalar.subi v158 v160
  let c2_i32 : BitVec 32 := 2#32
  let c0_i32_64 : BitVec 32 := 0#32
  let v162 : BitVec 1 := Scalar.cmpi .sgt c2_i32 c0_i32_64
  let v163 : BitVec 32 := Scalar.extui v162
  let c0_i32_65 : BitVec 32 := 0#32
  let v164 : BitVec 1 := Scalar.cmpi .slt c2_i32 c0_i32_65
  let v165 : BitVec 32 := Scalar.extui v164
  let v166 : BitVec 32 := Scalar.subi v163 v165
  let v167 : BitVec 1 := Scalar.cmpi .ne v161 v166
  let v168 : BitVec 32 := Scalar.remsi arg2 c2_i32
  let c0_i32_66 : BitVec 32 := 0#32
  let v169 : BitVec 1 := Scalar.cmpi .ne v168 c0_i32_66
  let v170 : BitVec 1 := Scalar.andi v167 v169
  let v156 : BitVec 32 := Scalar.divsi arg2 c2_i32
  let c1_i32 : BitVec 32 := 1#32
  let v171 : BitVec 32 := Scalar.subi v156 c1_i32
  let v172 : BitVec 32 := Scalar.select v170 v171 v156
  let v173 : BitVec 32 := Scalar.subi v172 c0_i32_68
  let c1_i32_69 : BitVec 32 := 1#32
  let v175 : BitVec 32 := Scalar.divsi v173 c1_i32_69
  let v176 : BitVec 32 := Scalar.muli v175 c1_i32_69
  let v177 : BitVec 32 := Scalar.addi c0_i32_68 v176
  let c1_i32_70 : BitVec 32 := 1#32
  ⟨c0_i32_68, v177, c1_i32_70⟩
def k0_mult2 (i : grid0.Coords) (k0_t1 : Fin (k0_t1_loop i).trips) : BitVec 32 :=
  let c0_i32_68 : BitVec 32 := 0#32
  let c1_i32_70 : BitVec 32 := 1#32
  let arg12 : BitVec 32 := Scf.iv c0_i32_68 c1_i32_70 k0_t1
  let c2_i32_87 : BitVec 32 := 2#32
  let v204 : BitVec 32 := Scalar.muli arg12 c2_i32_87
  let c512_i32_88 : BitVec 32 := 512#32
  let v205 : BitVec 32 := Scalar.muli v204 c512_i32_88
  v205
def k0_off9 (i : grid0.Coords) (k0_t1 : Fin (k0_t1_loop i).trips) : Fin 3 → Nat :=
  let c0_89 : Index := 0#32
  let c0_i32_68 : BitVec 32 := 0#32
  let c1_i32_70 : BitVec 32 := 1#32
  let arg12 : BitVec 32 := Scf.iv c0_i32_68 c1_i32_70 k0_t1
  let c2_i32_87 : BitVec 32 := 2#32
  let v204 : BitVec 32 := Scalar.muli arg12 c2_i32_87
  let c512_i32_88 : BitVec 32 := 512#32
  let v205 : BitVec 32 := Scalar.muli v204 c512_i32_88
  let v206 : BitVec 32 := v205
  let v207 : Index := Scalar.indexCast v206
  let c0_90 : Index := 0#32
  ![0, v207.toNat, 0]
def k0_off10 (i : grid0.Coords) (k0_t1 : Fin (k0_t1_loop i).trips) : Fin 3 → Nat :=
  let c0_93 : Index := 0#32
  let c0_94 : Index := 0#32
  let c0_i32_68 : BitVec 32 := 0#32
  let c1_i32_70 : BitVec 32 := 1#32
  let arg12 : BitVec 32 := Scf.iv c0_i32_68 c1_i32_70 k0_t1
  let c2_i32_87 : BitVec 32 := 2#32
  let v204 : BitVec 32 := Scalar.muli arg12 c2_i32_87
  let c512_i32_88 : BitVec 32 := 512#32
  let v205 : BitVec 32 := Scalar.muli v204 c512_i32_88
  let v206 : BitVec 32 := v205
  let v216 : Index := Scalar.indexCast v206
  ![0, 0, v216.toNat]
def k0_off11 (i : grid0.Coords) (k0_t1 : Fin (k0_t1_loop i).trips) : Fin 4 → Nat :=
  let c0_96 : Index := 0#32
  let c0_97 : Index := 0#32
  let c0_98 : Index := 0#32
  let c0_i32_68 : BitVec 32 := 0#32
  let c1_i32_70 : BitVec 32 := 1#32
  let arg12 : BitVec 32 := Scf.iv c0_i32_68 c1_i32_70 k0_t1
  let c2_i32_87 : BitVec 32 := 2#32
  let v204 : BitVec 32 := Scalar.muli arg12 c2_i32_87
  let c512_i32_88 : BitVec 32 := 512#32
  let v205 : BitVec 32 := Scalar.muli v204 c512_i32_88
  let v206 : BitVec 32 := v205
  let v220 : Index := Scalar.indexCast v206
  ![0, 0, 0, v220.toNat]
def k0_off12 (i : grid0.Coords) (k0_t1 : Fin (k0_t1_loop i).trips) : Fin 4 → Nat :=
  let c0_102 : Index := 0#32
  let c0_103 : Index := 0#32
  let c1_104 : Index := 1#32
  let c0_i32_68 : BitVec 32 := 0#32
  let c1_i32_70 : BitVec 32 := 1#32
  let arg12 : BitVec 32 := Scf.iv c0_i32_68 c1_i32_70 k0_t1
  let c2_i32_87 : BitVec 32 := 2#32
  let v204 : BitVec 32 := Scalar.muli arg12 c2_i32_87
  let c512_i32_88 : BitVec 32 := 512#32
  let v205 : BitVec 32 := Scalar.muli v204 c512_i32_88
  let v206 : BitVec 32 := v205
  let v229 : Index := Scalar.indexCast v206
  ![0, 0, 1, v229.toNat]
@[reducible] def k0_t2_loop (i : grid0.Coords) : Scf.Loop 32 :=
  let c0_i32_68 : BitVec 32 := 0#32
  let arg2 : BitVec 32 := BitVec.ofNat 32 (i 2).val
  let c0_i32_62 : BitVec 32 := 0#32
  let v157 : BitVec 1 := Scalar.cmpi .sgt arg2 c0_i32_62
  let v158 : BitVec 32 := Scalar.extui v157
  let c0_i32_63 : BitVec 32 := 0#32
  let v159 : BitVec 1 := Scalar.cmpi .slt arg2 c0_i32_63
  let v160 : BitVec 32 := Scalar.extui v159
  let v161 : BitVec 32 := Scalar.subi v158 v160
  let c2_i32 : BitVec 32 := 2#32
  let c0_i32_64 : BitVec 32 := 0#32
  let v162 : BitVec 1 := Scalar.cmpi .sgt c2_i32 c0_i32_64
  let v163 : BitVec 32 := Scalar.extui v162
  let c0_i32_65 : BitVec 32 := 0#32
  let v164 : BitVec 1 := Scalar.cmpi .slt c2_i32 c0_i32_65
  let v165 : BitVec 32 := Scalar.extui v164
  let v166 : BitVec 32 := Scalar.subi v163 v165
  let v167 : BitVec 1 := Scalar.cmpi .ne v161 v166
  let v168 : BitVec 32 := Scalar.remsi arg2 c2_i32
  let c0_i32_66 : BitVec 32 := 0#32
  let v169 : BitVec 1 := Scalar.cmpi .ne v168 c0_i32_66
  let v170 : BitVec 1 := Scalar.andi v167 v169
  let v156 : BitVec 32 := Scalar.divsi arg2 c2_i32
  let c1_i32 : BitVec 32 := 1#32
  let v171 : BitVec 32 := Scalar.subi v156 c1_i32
  let v172 : BitVec 32 := Scalar.select v170 v171 v156
  let v173 : BitVec 32 := Scalar.subi v172 c0_i32_68
  let c1_i32_69 : BitVec 32 := 1#32
  let v175 : BitVec 32 := Scalar.divsi v173 c1_i32_69
  let v176 : BitVec 32 := Scalar.muli v175 c1_i32_69
  let v177 : BitVec 32 := Scalar.addi c0_i32_68 v176
  let v174 : BitVec 32 := Scalar.addi c0_i32_68 v173
  let c1_i32_71 : BitVec 32 := 1#32
  ⟨v177, v174, c1_i32_71⟩
def k0_mult3 (i : grid0.Coords) (k0_t2 : Fin (k0_t2_loop i).trips) : BitVec 32 :=
  let c0_i32_68 : BitVec 32 := 0#32
  let arg2 : BitVec 32 := BitVec.ofNat 32 (i 2).val
  let c0_i32_62 : BitVec 32 := 0#32
  let v157 : BitVec 1 := Scalar.cmpi .sgt arg2 c0_i32_62
  let v158 : BitVec 32 := Scalar.extui v157
  let c0_i32_63 : BitVec 32 := 0#32
  let v159 : BitVec 1 := Scalar.cmpi .slt arg2 c0_i32_63
  let v160 : BitVec 32 := Scalar.extui v159
  let v161 : BitVec 32 := Scalar.subi v158 v160
  let c2_i32 : BitVec 32 := 2#32
  let c0_i32_64 : BitVec 32 := 0#32
  let v162 : BitVec 1 := Scalar.cmpi .sgt c2_i32 c0_i32_64
  let v163 : BitVec 32 := Scalar.extui v162
  let c0_i32_65 : BitVec 32 := 0#32
  let v164 : BitVec 1 := Scalar.cmpi .slt c2_i32 c0_i32_65
  let v165 : BitVec 32 := Scalar.extui v164
  let v166 : BitVec 32 := Scalar.subi v163 v165
  let v167 : BitVec 1 := Scalar.cmpi .ne v161 v166
  let v168 : BitVec 32 := Scalar.remsi arg2 c2_i32
  let c0_i32_66 : BitVec 32 := 0#32
  let v169 : BitVec 1 := Scalar.cmpi .ne v168 c0_i32_66
  let v170 : BitVec 1 := Scalar.andi v167 v169
  let v156 : BitVec 32 := Scalar.divsi arg2 c2_i32
  let c1_i32 : BitVec 32 := 1#32
  let v171 : BitVec 32 := Scalar.subi v156 c1_i32
  let v172 : BitVec 32 := Scalar.select v170 v171 v156
  let v173 : BitVec 32 := Scalar.subi v172 c0_i32_68
  let c1_i32_69 : BitVec 32 := 1#32
  let v175 : BitVec 32 := Scalar.divsi v173 c1_i32_69
  let v176 : BitVec 32 := Scalar.muli v175 c1_i32_69
  let v177 : BitVec 32 := Scalar.addi c0_i32_68 v176
  let c1_i32_71 : BitVec 32 := 1#32
  let arg12 : BitVec 32 := Scf.iv v177 c1_i32_71 k0_t2
  let c2_i32_87 : BitVec 32 := 2#32
  let v204 : BitVec 32 := Scalar.muli arg12 c2_i32_87
  let c512_i32_88 : BitVec 32 := 512#32
  let v205 : BitVec 32 := Scalar.muli v204 c512_i32_88
  v205
def k0_off13 (i : grid0.Coords) (k0_t2 : Fin (k0_t2_loop i).trips) : Fin 3 → Nat :=
  let c0_89 : Index := 0#32
  let c0_i32_68 : BitVec 32 := 0#32
  let arg2 : BitVec 32 := BitVec.ofNat 32 (i 2).val
  let c0_i32_62 : BitVec 32 := 0#32
  let v157 : BitVec 1 := Scalar.cmpi .sgt arg2 c0_i32_62
  let v158 : BitVec 32 := Scalar.extui v157
  let c0_i32_63 : BitVec 32 := 0#32
  let v159 : BitVec 1 := Scalar.cmpi .slt arg2 c0_i32_63
  let v160 : BitVec 32 := Scalar.extui v159
  let v161 : BitVec 32 := Scalar.subi v158 v160
  let c2_i32 : BitVec 32 := 2#32
  let c0_i32_64 : BitVec 32 := 0#32
  let v162 : BitVec 1 := Scalar.cmpi .sgt c2_i32 c0_i32_64
  let v163 : BitVec 32 := Scalar.extui v162
  let c0_i32_65 : BitVec 32 := 0#32
  let v164 : BitVec 1 := Scalar.cmpi .slt c2_i32 c0_i32_65
  let v165 : BitVec 32 := Scalar.extui v164
  let v166 : BitVec 32 := Scalar.subi v163 v165
  let v167 : BitVec 1 := Scalar.cmpi .ne v161 v166
  let v168 : BitVec 32 := Scalar.remsi arg2 c2_i32
  let c0_i32_66 : BitVec 32 := 0#32
  let v169 : BitVec 1 := Scalar.cmpi .ne v168 c0_i32_66
  let v170 : BitVec 1 := Scalar.andi v167 v169
  let v156 : BitVec 32 := Scalar.divsi arg2 c2_i32
  let c1_i32 : BitVec 32 := 1#32
  let v171 : BitVec 32 := Scalar.subi v156 c1_i32
  let v172 : BitVec 32 := Scalar.select v170 v171 v156
  let v173 : BitVec 32 := Scalar.subi v172 c0_i32_68
  let c1_i32_69 : BitVec 32 := 1#32
  let v175 : BitVec 32 := Scalar.divsi v173 c1_i32_69
  let v176 : BitVec 32 := Scalar.muli v175 c1_i32_69
  let v177 : BitVec 32 := Scalar.addi c0_i32_68 v176
  let c1_i32_71 : BitVec 32 := 1#32
  let arg12 : BitVec 32 := Scf.iv v177 c1_i32_71 k0_t2
  let c2_i32_87 : BitVec 32 := 2#32
  let v204 : BitVec 32 := Scalar.muli arg12 c2_i32_87
  let c512_i32_88 : BitVec 32 := 512#32
  let v205 : BitVec 32 := Scalar.muli v204 c512_i32_88
  let v206 : BitVec 32 := v205
  let v207 : Index := Scalar.indexCast v206
  let c0_90 : Index := 0#32
  ![0, v207.toNat, 0]
def k0_off14 (i : grid0.Coords) (k0_t2 : Fin (k0_t2_loop i).trips) : Fin 3 → Nat :=
  let c0_93 : Index := 0#32
  let c0_94 : Index := 0#32
  let c0_i32_68 : BitVec 32 := 0#32
  let arg2 : BitVec 32 := BitVec.ofNat 32 (i 2).val
  let c0_i32_62 : BitVec 32 := 0#32
  let v157 : BitVec 1 := Scalar.cmpi .sgt arg2 c0_i32_62
  let v158 : BitVec 32 := Scalar.extui v157
  let c0_i32_63 : BitVec 32 := 0#32
  let v159 : BitVec 1 := Scalar.cmpi .slt arg2 c0_i32_63
  let v160 : BitVec 32 := Scalar.extui v159
  let v161 : BitVec 32 := Scalar.subi v158 v160
  let c2_i32 : BitVec 32 := 2#32
  let c0_i32_64 : BitVec 32 := 0#32
  let v162 : BitVec 1 := Scalar.cmpi .sgt c2_i32 c0_i32_64
  let v163 : BitVec 32 := Scalar.extui v162
  let c0_i32_65 : BitVec 32 := 0#32
  let v164 : BitVec 1 := Scalar.cmpi .slt c2_i32 c0_i32_65
  let v165 : BitVec 32 := Scalar.extui v164
  let v166 : BitVec 32 := Scalar.subi v163 v165
  let v167 : BitVec 1 := Scalar.cmpi .ne v161 v166
  let v168 : BitVec 32 := Scalar.remsi arg2 c2_i32
  let c0_i32_66 : BitVec 32 := 0#32
  let v169 : BitVec 1 := Scalar.cmpi .ne v168 c0_i32_66
  let v170 : BitVec 1 := Scalar.andi v167 v169
  let v156 : BitVec 32 := Scalar.divsi arg2 c2_i32
  let c1_i32 : BitVec 32 := 1#32
  let v171 : BitVec 32 := Scalar.subi v156 c1_i32
  let v172 : BitVec 32 := Scalar.select v170 v171 v156
  let v173 : BitVec 32 := Scalar.subi v172 c0_i32_68
  let c1_i32_69 : BitVec 32 := 1#32
  let v175 : BitVec 32 := Scalar.divsi v173 c1_i32_69
  let v176 : BitVec 32 := Scalar.muli v175 c1_i32_69
  let v177 : BitVec 32 := Scalar.addi c0_i32_68 v176
  let c1_i32_71 : BitVec 32 := 1#32
  let arg12 : BitVec 32 := Scf.iv v177 c1_i32_71 k0_t2
  let c2_i32_87 : BitVec 32 := 2#32
  let v204 : BitVec 32 := Scalar.muli arg12 c2_i32_87
  let c512_i32_88 : BitVec 32 := 512#32
  let v205 : BitVec 32 := Scalar.muli v204 c512_i32_88
  let v206 : BitVec 32 := v205
  let v216 : Index := Scalar.indexCast v206
  ![0, 0, v216.toNat]
def k0_off15 (i : grid0.Coords) (k0_t2 : Fin (k0_t2_loop i).trips) : Fin 4 → Nat :=
  let c0_96 : Index := 0#32
  let c0_97 : Index := 0#32
  let c0_98 : Index := 0#32
  let c0_i32_68 : BitVec 32 := 0#32
  let arg2 : BitVec 32 := BitVec.ofNat 32 (i 2).val
  let c0_i32_62 : BitVec 32 := 0#32
  let v157 : BitVec 1 := Scalar.cmpi .sgt arg2 c0_i32_62
  let v158 : BitVec 32 := Scalar.extui v157
  let c0_i32_63 : BitVec 32 := 0#32
  let v159 : BitVec 1 := Scalar.cmpi .slt arg2 c0_i32_63
  let v160 : BitVec 32 := Scalar.extui v159
  let v161 : BitVec 32 := Scalar.subi v158 v160
  let c2_i32 : BitVec 32 := 2#32
  let c0_i32_64 : BitVec 32 := 0#32
  let v162 : BitVec 1 := Scalar.cmpi .sgt c2_i32 c0_i32_64
  let v163 : BitVec 32 := Scalar.extui v162
  let c0_i32_65 : BitVec 32 := 0#32
  let v164 : BitVec 1 := Scalar.cmpi .slt c2_i32 c0_i32_65
  let v165 : BitVec 32 := Scalar.extui v164
  let v166 : BitVec 32 := Scalar.subi v163 v165
  let v167 : BitVec 1 := Scalar.cmpi .ne v161 v166
  let v168 : BitVec 32 := Scalar.remsi arg2 c2_i32
  let c0_i32_66 : BitVec 32 := 0#32
  let v169 : BitVec 1 := Scalar.cmpi .ne v168 c0_i32_66
  let v170 : BitVec 1 := Scalar.andi v167 v169
  let v156 : BitVec 32 := Scalar.divsi arg2 c2_i32
  let c1_i32 : BitVec 32 := 1#32
  let v171 : BitVec 32 := Scalar.subi v156 c1_i32
  let v172 : BitVec 32 := Scalar.select v170 v171 v156
  let v173 : BitVec 32 := Scalar.subi v172 c0_i32_68
  let c1_i32_69 : BitVec 32 := 1#32
  let v175 : BitVec 32 := Scalar.divsi v173 c1_i32_69
  let v176 : BitVec 32 := Scalar.muli v175 c1_i32_69
  let v177 : BitVec 32 := Scalar.addi c0_i32_68 v176
  let c1_i32_71 : BitVec 32 := 1#32
  let arg12 : BitVec 32 := Scf.iv v177 c1_i32_71 k0_t2
  let c2_i32_87 : BitVec 32 := 2#32
  let v204 : BitVec 32 := Scalar.muli arg12 c2_i32_87
  let c512_i32_88 : BitVec 32 := 512#32
  let v205 : BitVec 32 := Scalar.muli v204 c512_i32_88
  let v206 : BitVec 32 := v205
  let v220 : Index := Scalar.indexCast v206
  ![0, 0, 0, v220.toNat]
def k0_off16 (i : grid0.Coords) (k0_t2 : Fin (k0_t2_loop i).trips) : Fin 4 → Nat :=
  let c0_102 : Index := 0#32
  let c0_103 : Index := 0#32
  let c1_104 : Index := 1#32
  let c0_i32_68 : BitVec 32 := 0#32
  let arg2 : BitVec 32 := BitVec.ofNat 32 (i 2).val
  let c0_i32_62 : BitVec 32 := 0#32
  let v157 : BitVec 1 := Scalar.cmpi .sgt arg2 c0_i32_62
  let v158 : BitVec 32 := Scalar.extui v157
  let c0_i32_63 : BitVec 32 := 0#32
  let v159 : BitVec 1 := Scalar.cmpi .slt arg2 c0_i32_63
  let v160 : BitVec 32 := Scalar.extui v159
  let v161 : BitVec 32 := Scalar.subi v158 v160
  let c2_i32 : BitVec 32 := 2#32
  let c0_i32_64 : BitVec 32 := 0#32
  let v162 : BitVec 1 := Scalar.cmpi .sgt c2_i32 c0_i32_64
  let v163 : BitVec 32 := Scalar.extui v162
  let c0_i32_65 : BitVec 32 := 0#32
  let v164 : BitVec 1 := Scalar.cmpi .slt c2_i32 c0_i32_65
  let v165 : BitVec 32 := Scalar.extui v164
  let v166 : BitVec 32 := Scalar.subi v163 v165
  let v167 : BitVec 1 := Scalar.cmpi .ne v161 v166
  let v168 : BitVec 32 := Scalar.remsi arg2 c2_i32
  let c0_i32_66 : BitVec 32 := 0#32
  let v169 : BitVec 1 := Scalar.cmpi .ne v168 c0_i32_66
  let v170 : BitVec 1 := Scalar.andi v167 v169
  let v156 : BitVec 32 := Scalar.divsi arg2 c2_i32
  let c1_i32 : BitVec 32 := 1#32
  let v171 : BitVec 32 := Scalar.subi v156 c1_i32
  let v172 : BitVec 32 := Scalar.select v170 v171 v156
  let v173 : BitVec 32 := Scalar.subi v172 c0_i32_68
  let c1_i32_69 : BitVec 32 := 1#32
  let v175 : BitVec 32 := Scalar.divsi v173 c1_i32_69
  let v176 : BitVec 32 := Scalar.muli v175 c1_i32_69
  let v177 : BitVec 32 := Scalar.addi c0_i32_68 v176
  let c1_i32_71 : BitVec 32 := 1#32
  let arg12 : BitVec 32 := Scf.iv v177 c1_i32_71 k0_t2
  let c2_i32_87 : BitVec 32 := 2#32
  let v204 : BitVec 32 := Scalar.muli arg12 c2_i32_87
  let c512_i32_88 : BitVec 32 := 512#32
  let v205 : BitVec 32 := Scalar.muli v204 c512_i32_88
  let v206 : BitVec 32 := v205
  let v229 : Index := Scalar.indexCast v206
  ![0, 0, 1, v229.toNat]
def k0_cond1 (i : grid0.Coords) : BitVec 1 :=
  let arg2 : BitVec 32 := BitVec.ofNat 32 (i 2).val
  let c2_i32_72 : BitVec 32 := 2#32
  let c0_i32_73 : BitVec 32 := 0#32
  let v178 : BitVec 1 := Scalar.cmpi .eq c2_i32_72 c0_i32_73
  let c1_i32_74 : BitVec 32 := 1#32
  let v179 : BitVec 32 := Scalar.select v178 c1_i32_74 c2_i32_72
  let v180 : BitVec 32 := Scalar.remsi arg2 v179
  let c0_i32_76 : BitVec 32 := 0#32
  let v182 : BitVec 1 := Scalar.cmpi .slt v180 c0_i32_76
  let c0_i32_77 : BitVec 32 := 0#32
  let v183 : BitVec 1 := Scalar.cmpi .slt v179 c0_i32_77
  let v184 : BitVec 1 := Scalar.xori v182 v183
  let c0_i32_75 : BitVec 32 := 0#32
  let v181 : BitVec 1 := Scalar.cmpi .ne v180 c0_i32_75
  let v185 : BitVec 1 := Scalar.andi v184 v181
  let v186 : BitVec 32 := Scalar.addi v180 v179
  let v187 : BitVec 32 := Scalar.select v185 v186 v180
  let c1_i32_78 : BitVec 32 := 1#32
  let v188 : BitVec 1 := Scalar.cmpi .eq v187 c1_i32_78
  let v189 : BitVec 32 := Scalar.extui v188
  let c0_i32_79 : BitVec 32 := 0#32
  let v190 : BitVec 1 := Scalar.cmpi .ne v189 c0_i32_79
  v190

def k0_mult4 (i : grid0.Coords) : BitVec 32 :=
  let arg2 : BitVec 32 := BitVec.ofNat 32 (i 2).val
  let c1_i32_87 : BitVec 32 := 1#32
  let v204 : BitVec 32 := Scalar.subi arg2 c1_i32_87
  let c512_i32_88 : BitVec 32 := 512#32
  let v205 : BitVec 32 := Scalar.muli v204 c512_i32_88
  v205
def k0_off17 (i : grid0.Coords) : Fin 3 → Nat :=
  let c0_89 : Index := 0#32
  let arg2 : BitVec 32 := BitVec.ofNat 32 (i 2).val
  let c1_i32_87 : BitVec 32 := 1#32
  let v204 : BitVec 32 := Scalar.subi arg2 c1_i32_87
  let c512_i32_88 : BitVec 32 := 512#32
  let v205 : BitVec 32 := Scalar.muli v204 c512_i32_88
  let v206 : BitVec 32 := v205
  let v207 : Index := Scalar.indexCast v206
  let c0_90 : Index := 0#32
  ![0, v207.toNat, 0]
def k0_off18 (i : grid0.Coords) : Fin 3 → Nat :=
  let c0_93 : Index := 0#32
  let c0_94 : Index := 0#32
  let arg2 : BitVec 32 := BitVec.ofNat 32 (i 2).val
  let c1_i32_87 : BitVec 32 := 1#32
  let v204 : BitVec 32 := Scalar.subi arg2 c1_i32_87
  let c512_i32_88 : BitVec 32 := 512#32
  let v205 : BitVec 32 := Scalar.muli v204 c512_i32_88
  let v206 : BitVec 32 := v205
  let v216 : Index := Scalar.indexCast v206
  ![0, 0, v216.toNat]
def k0_off19 (i : grid0.Coords) : Fin 4 → Nat :=
  let c0_96 : Index := 0#32
  let c0_97 : Index := 0#32
  let c0_98 : Index := 0#32
  let arg2 : BitVec 32 := BitVec.ofNat 32 (i 2).val
  let c1_i32_87 : BitVec 32 := 1#32
  let v204 : BitVec 32 := Scalar.subi arg2 c1_i32_87
  let c512_i32_88 : BitVec 32 := 512#32
  let v205 : BitVec 32 := Scalar.muli v204 c512_i32_88
  let v206 : BitVec 32 := v205
  let v220 : Index := Scalar.indexCast v206
  ![0, 0, 0, v220.toNat]
def k0_off20 (i : grid0.Coords) : Fin 4 → Nat :=
  let c0_102 : Index := 0#32
  let c0_103 : Index := 0#32
  let c1_104 : Index := 1#32
  let arg2 : BitVec 32 := BitVec.ofNat 32 (i 2).val
  let c1_i32_87 : BitVec 32 := 1#32
  let v204 : BitVec 32 := Scalar.subi arg2 c1_i32_87
  let c512_i32_88 : BitVec 32 := 512#32
  let v205 : BitVec 32 := Scalar.muli v204 c512_i32_88
  let v206 : BitVec 32 := v205
  let v229 : Index := Scalar.indexCast v206
  ![0, 0, 1, v229.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S8x1024x4096 : Shape := ⟨3, ![8, 1024, 4096]⟩
abbrev S8x16x4096 : Shape := ⟨3, ![8, 16, 4096]⟩
abbrev S8x4096x16x64 : Shape := ⟨4, ![8, 4096, 16, 64]⟩
abbrev S8x16x4096x64 : Shape := ⟨4, ![8, 16, 4096, 64]⟩
abbrev S8x16x64x4096 : Shape := ⟨4, ![8, 16, 64, 4096]⟩
abbrev S8x16x4096x4096 : Shape := ⟨4, ![8, 16, 4096, 4096]⟩
abbrev S8x16x4096x1 : Shape := ⟨4, ![8, 16, 4096, 1]⟩
abbrev S8x16x1x4096 : Shape := ⟨4, ![8, 16, 1, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x1024x4096, .bf16⟩
  | .hbm, ⟨2, _⟩ => ⟨S8x4096x1024, .bf16⟩
  | .hbm, ⟨3, _⟩ => ⟨S8x16x4096, .f32⟩
  | .hbm, ⟨4, _⟩ => ⟨S8x4096x1024, .f32⟩
  | .hbm, ⟨5, _⟩ => ⟨S8x4096x16x64, .f32⟩
  | .hbm, ⟨6, _⟩ => ⟨S8x16x4096x64, .f32⟩
  | .hbm, ⟨7, _⟩ => ⟨S8x1024x4096, .f32⟩
  | .hbm, ⟨8, _⟩ => ⟨S8x16x64x4096, .f32⟩
  | .hbm, ⟨9, _⟩ => ⟨S8x16x4096x64, .f32⟩
  | .hbm, ⟨10, _⟩ => ⟨S8x4096x1024, .f32⟩
  | .hbm, ⟨11, _⟩ => ⟨S8x4096x16x64, .f32⟩
  | .hbm, ⟨12, _⟩ => ⟨S8x16x4096x64, .f32⟩
  | .hbm, ⟨13, _⟩ => ⟨S8x16x4096x4096, .f32⟩
  | .hbm, ⟨14, _⟩ => ⟨S8x16x4096x1, .f32⟩
  | .hbm, ⟨15, _⟩ => ⟨S8x16x4096x4096, .f32⟩
  | .hbm, ⟨16, _⟩ => ⟨S8x16x4096x4096, .f32⟩
  | .hbm, ⟨17, _⟩ => ⟨S8x16x1x4096, .f32⟩
  | .hbm, ⟨18, _⟩ => ⟨S8x16x4096x4096, .f32⟩
  | .hbm, ⟨19, _⟩ => ⟨S8x16x4096x4096, .f32⟩
  | .hbm, ⟨20, _⟩ => ⟨S_, .f32⟩
  | .hbm, ⟨21, _⟩ => ⟨S_, .f32⟩
  | .hbm, ⟨22, _⟩ => ⟨S8x16x4096x4096, .f32⟩
  | .hbm, ⟨23, _⟩ => ⟨S8x16x4096x4096, .f32⟩
  | .hbm, ⟨24, _⟩ => ⟨S4096, .i32⟩
  | .hbm, ⟨25, _⟩ => ⟨S4096x1, .i32⟩
  | .hbm, ⟨26, _⟩ => ⟨S4096, .i32⟩
  | .hbm, ⟨27, _⟩ => ⟨S1x4096, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x16x4096x4096, .i1⟩
  | .hbm, ⟨34, _⟩ => ⟨S8x16x4096x4096, .f32⟩
  | .hbm, ⟨35, _⟩ => ⟨S8x16x4096x4096, .f32⟩
  | .hbm, ⟨36, _⟩ => ⟨S_, .f32⟩
  | .hbm, ⟨37, _⟩ => ⟨S8x16x4096, .f32⟩
  | .hbm, ⟨38, _⟩ => ⟨S_, .f32⟩
  | .hbm, ⟨39, _⟩ => ⟨S8x16x4096, .f32⟩
  | .hbm, ⟨40, _⟩ => ⟨S8x16x4096, .f32⟩
  | .hbm, ⟨41, _⟩ => ⟨S8x16x4096x1, .f32⟩
  | .hbm, ⟨42, _⟩ => ⟨S8x16x4096x4096, .f32⟩
  | .hbm, ⟨43, _⟩ => ⟨S8x16x4096x4096, .f32⟩
  | .hbm, ⟨44, _⟩ => ⟨S8x16x4096x4096, .f32⟩
  | .hbm, ⟨45, _⟩ => ⟨S_, .f32⟩
  | .hbm, ⟨46, _⟩ => ⟨S8x16x4096, .f32⟩
  | .hbm, ⟨47, _⟩ => ⟨S8x16x4096x1, .f32⟩
  | .hbm, ⟨48, _⟩ => ⟨S8x16x4096x4096, .f32⟩
  | .hbm, ⟨49, _⟩ => ⟨S8x16x4096x4096, .f32⟩
  | .hbm, ⟨50, _⟩ => ⟨S8x16x4096x64, .f32⟩
  | .hbm, ⟨51, _⟩ => ⟨S8x4096x16x64, .f32⟩
  | .hbm, ⟨52, _⟩ => ⟨S8x4096x1024, .f32⟩
  | .hbm, ⟨53, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel2.lean ====
abbrev S32768x1024 : Shape := ⟨2, ![32768, 1024]⟩
abbrev S4x2x1024 : Shape := ⟨3, ![4, 2, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x1x1024x5632 : Shape := ⟨4, ![1, 1, 1024, 5632]⟩
abbrev S1x1x2816x1024 : Shape := ⟨4, ![1, 1, 2816, 1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 10
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S4x2x1024, .f32⟩
  | .hbm, ⟨2, _⟩ => ⟨S4x2x1024x5632, .f32⟩
  | .hbm, ⟨3, _⟩ => ⟨S4x2x2816x1024, .f32⟩
  | .hbm, ⟨4, _⟩ => ⟨S1x1x1024, .f32⟩
  | .hbm, ⟨5, _⟩ => ⟨S1024, .f32⟩
  | .hbm, ⟨6, _⟩ => ⟨S1x1024, .f32⟩
  | .hbm, ⟨7, _⟩ => ⟨S4x2x1024x5632, .bf16⟩
  | .hbm, ⟨8, _⟩ => ⟨S4x2x2816x1024, .bf16⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x5632, .bf16⟩
  | .local _ .vmem, ⟨4, _⟩ => ⟨S1x1x2816x1024, .bf16⟩
  | .local _ .vmem, ⟨5, _⟩ => ⟨S1024x1024, .f32⟩
  | .local _ .vmem, ⟨6, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S32768x1024 : Shape := ⟨2, ![32768, 1024]⟩
abbrev S4x2x1024 : Shape := ⟨3, ![4, 2, 1024]⟩
abbrev S4x2x1024x5632 : Shape := ⟨4, ![4, 2, 1024, 5632]⟩
abbrev S4x2x2816x1024 : Shape := ⟨4, ![4, 2, 2816, 1024]⟩
abbrev S_ : Shape := ⟨0, ![]⟩
abbrev S32768 : Shape := ⟨1, ![32768]⟩
abbrev S32768x1 : Shape := ⟨2, ![32768, 1]⟩
abbrev S1x1x1024 : Shape := ⟨3, ![1, 1, 1024]⟩
abbrev S1024 : Shape := ⟨1, ![1024]⟩
abbrev S1x1024 : Shape := ⟨2, ![1, 1024]⟩
abbrev S1x1x1024x5632 : Shape := ⟨4, ![1, 1, 1024, 5632]⟩
abbrev S1024x5632 : Shape := ⟨2, ![1024, 5632]⟩
abbrev S32768x5632 : Shape := ⟨2, ![32768, 5632]⟩
abbrev S32768x2816 : Shape := ⟨2, ![32768, 2816]⟩
abbrev S1x1x2816x1024 : Shape := ⟨4, ![1, 1, 2816, 1024]⟩
abbrev S2816x1024 : Shape := ⟨2, ![2816, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x2x1024, .f32⟩
  | .hbm, ⟨2, _⟩ => ⟨S4x2x1024x5632, .f32⟩
  | .hbm, ⟨3, _⟩ => ⟨S4x2x2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1x1x1024x5632, .f32⟩
  | .hbm, ⟨23, _⟩ => ⟨S1024x5632, .f32⟩
  | .hbm, ⟨24, _⟩ => ⟨S32768x5632, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S1x1x2816x1024, .f32⟩
  | .hbm, ⟨38, _⟩ => ⟨S2816x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel3.lean ====
abbrev S32768x1024 : Shape := ⟨2, ![32768, 1024]⟩
abbrev S1x1024x1024 : Shape := ⟨3, ![1, 1024, 1024]⟩
abbrev S4x2x1024 : Shape := ⟨3, ![4, 2, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x1x1024x5632 : Shape := ⟨4, ![1, 1, 1024, 5632]⟩
abbrev S1x1x2816x1024 : Shape := ⟨4, ![1, 1, 2816, 1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 13
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1x1024x1024, .f32⟩
  | .hbm, ⟨3, _⟩ => ⟨S4x2x1024, .f32⟩
  | .hbm, ⟨4, _⟩ => ⟨S4x2x1024x5632, .f32⟩
  | .hbm, ⟨5, _⟩ => ⟨S4x2x2816x1024, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S4x2x1024x5632, .bf16⟩
  | .hbm, ⟨10, _⟩ => ⟨S4x2x2816x1024, .bf16⟩
  | .hbm, ⟨11, _⟩ => ⟨S1x1024x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1x1024x5632, .bf16⟩
  | .local _ .vmem, ⟨7, _⟩ => ⟨S1x1x2816x1024, .bf16⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S1x1024x1024 : Shape := ⟨3, ![1, 1024, 1024]⟩
abbrev S4x2x1024 : Shape := ⟨3, ![4, 2, 1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1x1024 : Shape := ⟨3, ![1, 1, 1024]⟩
abbrev S1024 : Shape := ⟨1, ![1024]⟩
abbrev S1x1024 : Shape := ⟨2, ![1, 1024]⟩
abbrev S1x1x1024x5632 : Shape := ⟨4, ![1, 1, 1024, 5632]⟩
abbrev S1024x5632 : Shape := ⟨2, ![1024, 5632]⟩
abbrev S32768x5632 : Shape := ⟨2, ![32768, 5632]⟩
abbrev S32768x2816 : Shape := ⟨2, ![32768, 2816]⟩
abbrev S1x1x2816x1024 : Shape := ⟨4, ![1, 1, 2816, 1024]⟩
abbrev S2816x1024 : Shape := ⟨2, ![2816, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1x1024x1024, .f32⟩
  | .hbm, ⟨3, _⟩ => ⟨S4x2x1024, .f32⟩
  | .hbm, ⟨4, _⟩ => ⟨S4x2x1024x5632, .f32⟩
  | .hbm, ⟨5, _⟩ => ⟨S4x2x2816x1024, .f32⟩
  | .hbm, ⟨6, _⟩ => ⟨S32768x1024, .f32⟩
  | .hbm, ⟨7, _⟩ => ⟨S1024x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1x1024, .f32⟩
  | .hbm, ⟨24, _⟩ => ⟨S1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S1x1x1024x5632, .f32⟩
  | .hbm, ⟨29, _⟩ => ⟨S1024x5632, .f32⟩
  | .hbm, ⟨30, _⟩ => ⟨S32768x5632, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S_, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S1x1x2816x1024, .f32⟩
  | .hbm, ⟨44, _⟩ => ⟨S2816x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel4.lean ====
abbrev S8x4096x1024 : Shape := ⟨3, ![8, 4096, 1024]⟩
abbrev S4x1024 : Shape := ⟨2, ![4, 1024]⟩
abbrev S1x1024x3088 : Shape := ⟨3, ![1, 1024, 3088]⟩
abbrev S1x16 : Shape := ⟨2, ![1, 16]⟩
abbrev S1x64 : Shape := ⟨2, ![1, 64]⟩
abbrev S1x1024x3072 : Shape := ⟨3, ![1, 1024, 3072]⟩
abbrev S1x1024x16 : Shape := ⟨3, ![1, 1024, 16]⟩
abbrev S_ : Shape := ⟨0, ![]⟩
abbrev S1x1024x128 : Shape := ⟨3, ![1, 1024, 128]⟩
abbrev S1x1024 : Shape := ⟨2, ![1, 1024]⟩
abbrev S1024 : Shape := ⟨1, ![1024]⟩
abbrev S16 : Shape := ⟨1, ![16]⟩
abbrev S128 : Shape := ⟨1, ![128]⟩
abbrev S1x128 : Shape := ⟨2, ![1, 128]⟩
abbrev S64 : Shape := ⟨1, ![64]⟩
abbrev S8x1024x4096 : Shape := ⟨3, ![8, 1024, 4096]⟩
abbrev S8x16x4096 : Shape := ⟨3, ![8, 16, 4096]⟩
abbrev S1x1024x1024 : Shape := ⟨3, ![1, 1024, 1024]⟩
abbrev S1x16x1024 : Shape := ⟨3, ![1, 16, 1024]⟩
abbrev S1024x1024 : Shape := ⟨2, ![1024, 1024]⟩
abbrev S1024x1 : Shape := ⟨2, ![1024, 1]⟩
abbrev S1024x128 : Shape := ⟨2, ![1024, 128]⟩
abbrev S128x1024 : Shape := ⟨2, ![128, 1024]⟩
abbrev S1x128x1024 : Shape := ⟨3, ![1, 128, 1024]⟩
abbrev S16x1024 : Shape := ⟨2, ![16, 1024]⟩

abbrev nBuf : Space → Nat
  | .hbm => 31
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S1x1024x3088, .f32⟩
  | .hbm, ⟨3, _⟩ => ⟨S1x16, .f32⟩
  | .hbm, ⟨4, _⟩ => ⟨S1x64, .f32⟩
  | .hbm, ⟨5, _⟩ => ⟨S1x64, .f32⟩
  | .hbm, ⟨6, _⟩ => ⟨S1x1024x3072, .f32⟩
  | .hbm, ⟨7, _⟩ => ⟨S1x1024x3072, .bf16⟩
  | .hbm, ⟨8, _⟩ => ⟨S1x1024x16, .f32⟩
  | .hbm, ⟨9, _⟩ => ⟨S_, .i32⟩
  | .hbm, ⟨10, _⟩ => ⟨S_, .f32⟩
  | .hbm, ⟨11, _⟩ => ⟨S1x1024x128, .f32⟩
  | .hbm, ⟨12, _⟩ => ⟨S1x1024x128, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S64, .f32⟩
  | .hbm, ⟨22, _⟩ => ⟨S128, .f32⟩
  | .hbm, ⟨23, _⟩ => ⟨S1x128, .f32⟩
  | .hbm, ⟨24, _⟩ => ⟨S64, .f32⟩
  | .hbm, ⟨25, _⟩ => ⟨S128, .f32⟩
  | .hbm, ⟨26, _⟩ => ⟨S1x128, .f32⟩
  | .hbm, ⟨27, _⟩ => ⟨S8x4096x1024, .bf16⟩
  | .hbm, ⟨28, _⟩ => ⟨S8x1024x4096, .bf16⟩
  | .hbm, ⟨29, _⟩ => ⟨S8x4096x1024, .bf16⟩
  | .hbm, ⟨30, _⟩ => ⟨S8x16x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x3072, .bf16⟩
  | .local _ .vmem, ⟨4, _⟩ => ⟨S1x1024x128, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x16x1024, .f32⟩
  | .local _ .vmem, ⟨15, _⟩ => ⟨S1x16x1024, .f32⟩
  | .local _ .vmem, ⟨16, _⟩ => ⟨S1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x4096x1024 : Shape := ⟨3, ![8, 4096, 1024]⟩
abbrev S4x1024 : Shape := ⟨2, ![4, 1024]⟩
abbrev S1x1024x3088 : Shape := ⟨3, ![1, 1024, 3088]⟩
abbrev S1x16 : Shape := ⟨2, ![1, 16]⟩
abbrev S1x64 : Shape := ⟨2, ![1, 64]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3088 : Shape := ⟨2, ![1024, 3088]⟩
abbrev S8x4096x3088 : Shape := ⟨3, ![8, 4096, 3088]⟩
abbrev S8x4096x16 : Shape := ⟨3, ![8, 4096, 16]⟩
abbrev S8x4096x16x64 : Shape := ⟨4, ![8, 4096, 16, 64]⟩
abbrev S64 : Shape := ⟨1, ![64]⟩
abbrev S8x4096x16x1 : Shape := ⟨4, ![8, 4096, 16, 1]⟩
abbrev S1x1x1x64 : Shape := ⟨4, ![1, 1, 1, 64]⟩
abbrev S16 : Shape := ⟨1, ![16]⟩
abbrev S1x1x16 : Shape := ⟨3, ![1, 1, 16]⟩
abbrev S8x16x4096 : Shape := ⟨3, ![8, 16, 4096]⟩
abbrev S8x1024x4096 : Shape := ⟨3, ![8, 1024, 4096]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S1x1024x3088, .f32⟩
  | .hbm, ⟨3, _⟩ => ⟨S1x16, .f32⟩
  | .hbm, ⟨4, _⟩ => ⟨S1x64, .f32⟩
  | .hbm, ⟨5, _⟩ => ⟨S1x64, .f32⟩
  | .hbm, ⟨6, _⟩ => ⟨S1x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1024x3088, .f32⟩
  | .hbm, ⟨25, _⟩ => ⟨S8x4096x3088, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x16, .f32⟩
  | .hbm, ⟨30, _⟩ => ⟨S8x4096x16x64, .f32⟩
  | .hbm, ⟨31, _⟩ => ⟨S64, .f32⟩
  | .hbm, ⟨32, _⟩ => ⟨S8x4096x16x64, .f32⟩
  | .hbm, ⟨33, _⟩ => ⟨S_, .f32⟩
  | .hbm, ⟨34, _⟩ => ⟨S8x4096x16, .f32⟩
  | .hbm, ⟨35, _⟩ => ⟨S8x4096x16x1, .f32⟩
  | .hbm, ⟨36, _⟩ => ⟨S_, .f32⟩
  | .hbm, ⟨37, _⟩ => ⟨S8x4096x16x1, .f32⟩
  | .hbm, ⟨38, _⟩ => ⟨S8x4096x16x1, .f32⟩
  | .hbm, ⟨39, _⟩ => ⟨S_, .f32⟩
  | .hbm, ⟨40, _⟩ => ⟨S8x4096x16x1, .f32⟩
  | .hbm, ⟨41, _⟩ => ⟨S8x4096x16x1, .f32⟩
  | .hbm, ⟨42, _⟩ => ⟨S8x4096x16x1, .f32⟩
  | .hbm, ⟨43, _⟩ => ⟨S8x4096x16x64, .f32⟩
  | .hbm, ⟨44, _⟩ => ⟨S8x4096x16x64, .f32⟩
  | .hbm, ⟨45, _⟩ => ⟨S1x1x1x64, .f32⟩
  | .hbm, ⟨46, _⟩ => ⟨S8x4096x16x64, .f32⟩
  | .hbm, ⟨47, _⟩ => ⟨S8x4096x16x64, .f32⟩
  | .hbm, ⟨48, _⟩ => ⟨S_, .f32⟩
  | .hbm, ⟨49, _⟩ => ⟨S8x4096x16x64, .f32⟩
  | .hbm, ⟨50, _⟩ => ⟨S8x4096x16x64, .f32⟩
  | .hbm, ⟨51, _⟩ => ⟨S8x4096x16x64, .f32⟩
  | .hbm, ⟨52, _⟩ => ⟨S64, .f32⟩
  | .hbm, ⟨53, _⟩ => ⟨S8x4096x16x64, .f32⟩
  | .hbm, ⟨54, _⟩ => ⟨S_, .f32⟩
  | .hbm, ⟨55, _⟩ => ⟨S8x4096x16, .f32⟩
  | .hbm, ⟨56, _⟩ => ⟨S8x4096x16x1, .f32⟩
  | .hbm, ⟨57, _⟩ => ⟨S_, .f32⟩
  | .hbm, ⟨58, _⟩ => ⟨S8x4096x16x1, .f32⟩
  | .hbm, ⟨59, _⟩ => ⟨S8x4096x16x1, .f32⟩
  | .hbm, ⟨60, _⟩ => ⟨S_, .f32⟩
  | .hbm, ⟨61, _⟩ => ⟨S8x4096x16x1, .f32⟩
  | .hbm, ⟨62, _⟩ => ⟨S8x4096x16x1, .f32⟩
  | .hbm, ⟨63, _⟩ => ⟨S8x4096x16x1, .f32⟩
  | .hbm, ⟨64, _⟩ => ⟨S8x4096x16x64, .f32⟩
  | .hbm, ⟨65, _⟩ => ⟨S8x4096x16x64, .f32⟩
  | .hbm, ⟨66, _⟩ => ⟨S1x1x1x64, .f32⟩
  | .hbm, ⟨67, _⟩ => ⟨S8x4096x16x64, .f32⟩
  | .hbm, ⟨68, _⟩ => ⟨S8x4096x16x64, .f32⟩
  | .hbm, ⟨69, _⟩ => ⟨S16, .f32⟩
  | .hbm, ⟨70, _⟩ => ⟨S1x1x16, .f32⟩
  | .hbm, ⟨71, _⟩ => ⟨S8x4096x16, .f32⟩
  | .hbm, ⟨72, _⟩ => ⟨S8x4096x16, .f32⟩
  | .hbm, ⟨73, _⟩ => ⟨S8x4096x16, .f32⟩
  | .hbm, ⟨74, _⟩ => ⟨S_, .f32⟩
  | .hbm, ⟨75, _⟩ => ⟨S8x4096x16, .f32⟩
  | .hbm, ⟨76, _⟩ => ⟨S8x4096x16, .f32⟩
  | .hbm, ⟨77, _⟩ => ⟨S8x4096x16, .f32⟩
  | .hbm, ⟨78, _⟩ => ⟨S8x4096x16, .f32⟩
  | .hbm, ⟨79, _⟩ => ⟨S8x4096x16, .i1⟩
  | .hbm, ⟨80, _⟩ => ⟨S8x4096x16, .f32⟩
  | .hbm, ⟨81, _⟩ => ⟨S8x4096x16, .f32⟩
  | .hbm, ⟨82, _⟩ => ⟨S8x4096x16, .f32⟩
  | .hbm, ⟨83, _⟩ => ⟨S8x4096x16, .f32⟩
  | .hbm, ⟨84, _⟩ => ⟨S8x4096x16, .f32⟩
  | .hbm, ⟨85, _⟩ => ⟨S8x4096x16, .f32⟩
  | .hbm, ⟨86, _⟩ => ⟨S8x4096x16, .f32⟩
  | .hbm, ⟨87, _⟩ => ⟨S8x4096x16, .f32⟩
  | .hbm, ⟨88, _⟩ => ⟨S8x4096x16, .f32⟩
  | .hbm, ⟨89, _⟩ => ⟨S_, .f32⟩
  | .hbm, ⟨90, _⟩ => ⟨S_, .f32⟩
  | .hbm, ⟨91, _⟩ => ⟨S8x4096x16, .f32⟩
  | .hbm, ⟨92, _⟩ => ⟨S8x16x4096, .f32⟩
  | .hbm, ⟨93, _⟩ => ⟨S_, .f32⟩
  | .hbm, ⟨94, _⟩ => ⟨S8x16x4096, .f32⟩
  | .hbm, ⟨95, _⟩ => ⟨S8x16x4096, .f32⟩
  | .hbm, ⟨96, _⟩ => ⟨S8x4096x1024, .f32⟩
  | .hbm, ⟨97, _⟩ => ⟨S8x4096x1024, .f32⟩
  | .hbm, ⟨98, _⟩ => ⟨S8x1024x4096, .f32⟩
  | .hbm, ⟨99, _⟩ => ⟨S8x4096x1024, .bf16⟩
  | .hbm, ⟨100, _⟩ => ⟨S8x1024x4096, .bf16⟩
  | .hbm, ⟨101, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_call0_v0 : Ref sig .tc := ⟨.hbm, 73, rfl⟩
abbrev main_call0_call0_cst : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_call0_v2 : Ref sig .tc := ⟨.hbm, 77, rfl⟩
abbrev main_call0_call0_v3 : Ref sig .tc := ⟨.hbm, 78, rfl⟩
abbrev main_call0_call0_v4 : Ref sig .tc := ⟨.hbm, 79, rfl⟩
abbrev main_call0_call0_v5 : Ref sig .tc := ⟨.hbm, 80, rfl⟩
abbrev main_call0_call0_v6 : Ref sig .tc := ⟨.hbm, 81, rfl⟩
abbrev main_call0_call0_v7 : Ref sig .tc := ⟨.hbm, 82, rfl⟩
abbrev main_call0_call0_v8 : Ref sig .tc := ⟨.hbm, 83, rfl⟩
abbrev main_call0_call0_v9 : Ref sig .tc := ⟨.hbm, 84, rfl⟩
abbrev main_call0_call0_v10 : Ref sig .tc := ⟨.hbm, 85, rfl⟩
abbrev main_call0_call0_v11 : Ref sig .tc := ⟨.hbm, 86, rfl⟩
abbrev main_call0_v1 : Ref sig .tc := ⟨.hbm, 87, rfl⟩
abbrev main_v57 : Ref sig .tc := ⟨.hbm, 88, rfl⟩
abbrev main_call1_call0_cst : Ref sig .tc := ⟨.hbm, 89, rfl⟩
abbrev main_call1_call0_v0 : Ref sig .tc := ⟨.hbm, 90, rfl⟩
abbrev main_v58 : Ref sig .tc := ⟨.hbm, 91, rfl⟩
abbrev main_v59 : Ref sig .tc := ⟨.hbm, 92, rfl⟩
abbrev main_cst_9 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Kernel5.lean ====
abbrev S8x4096x1024 : Shape := ⟨3, ![8, 4096, 1024]⟩
abbrev S4x1024 : Shape := ⟨2, ![4, 1024]⟩
abbrev S1x1024x2048 : Shape := ⟨3, ![1, 1024, 2048]⟩
abbrev S1x2048 : Shape := ⟨2, ![1, 2048]⟩
abbrev S1x31x1024 : Shape := ⟨3, ![1, 31, 1024]⟩
abbrev S1x1024 : Shape := ⟨2, ![1, 1024]⟩
abbrev S1x1024x1024 : Shape := ⟨3, ![1, 1024, 1024]⟩
abbrev S1024 : Shape := ⟨1, ![1024]⟩
abbrev S2048 : Shape := ⟨1, ![2048]⟩
abbrev S31x1024 : Shape := ⟨2, ![31, 1024]⟩
abbrev S1056x1024 : Shape := ⟨2, ![1056, 1024]⟩
abbrev S1024x1024 : Shape := ⟨2, ![1024, 1024]⟩
abbrev S32x1024 : Shape := ⟨2, ![32, 1024]⟩
abbrev S1024x1 : Shape := ⟨2, ![1024, 1]⟩
abbrev S31x128 : Shape := ⟨2, ![31, 128]⟩
abbrev S1x128 : Shape := ⟨2, ![1, 128]⟩
abbrev S160x128 : Shape := ⟨2, ![160, 128]⟩
abbrev S128x128 : Shape := ⟨2, ![128, 128]⟩

abbrev nBuf : Space → Nat
  | .hbm => 27
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S1x1024x2048, .f32⟩
  | .hbm, ⟨3, _⟩ => ⟨S1x2048, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024x2048, .bf16⟩
  | .hbm, ⟨14, _⟩ => ⟨S2048, .f32⟩
  | .hbm, ⟨15, _⟩ => ⟨S1x2048, .f32⟩
  | .hbm, ⟨16, _⟩ => ⟨S31x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024x1024, .bf16⟩
  | .hbm, ⟨24, _⟩ => ⟨S1024, .f32⟩
  | .hbm, ⟨25, _⟩ => ⟨S1x1024, .f32⟩
  | .hbm, ⟨26, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x2048, .bf16⟩
  | .local _ .vmem, ⟨4, _⟩ => ⟨S1x2048, .f32⟩
  | .local _ .vmem, ⟨5, _⟩ => ⟨S31x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024x1024, .bf16⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1056x1024, .f32⟩
  | .local _ .vmem, ⟨14, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_22 : BitVec 32 := 0#32
  let c8_i32 : BitVec 32 := 8#32
  let v45 : BitVec 32 := Scalar.addi c0_i32_22 c8_i32
  let c1_i32 : BitVec 32 := 1#32
  ⟨c0_i32_22, v45, c1_i32⟩
def k0_mult1 (k0_t1 : Fin k0_t1_loop.trips) : BitVec 32 :=
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  v95
def k0_off1 (k0_t1 : Fin k0_t1_loop.trips) : Fin 2 → Nat :=
  let c0_49 : Index := 0#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v97 : Index := Scalar.indexCast v96
  ![0, v97.toNat]
def k0_off2 (k0_t1 : Fin k0_t1_loop.trips) : Fin 2 → Nat :=
  let c0_50 : Index := 0#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v100 : Index := Scalar.indexCast v96
  ![0, v100.toNat]
def k0_off3 (k0_t1 : Fin k0_t1_loop.trips) : Fin 2 → Nat :=
  let c0_51 : Index := 0#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v103 : Index := Scalar.indexCast v96
  ![0, v103.toNat]
def k0_off4 (k0_t1 : Fin k0_t1_loop.trips) : Fin 2 → Nat :=
  let c0_54 : Index := 0#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v270 : Index := Scalar.indexCast v96
  ![0, v270.toNat]
def k0_off5 (k0_t1 : Fin k0_t1_loop.trips) : Fin 2 → Nat :=
  let c128 : Index := 128#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v274 : Index := Scalar.indexCast v96
  ![128, v274.toNat]
def k0_off6 (k0_t1 : Fin k0_t1_loop.trips) : Fin 2 → Nat :=
  let c128_63 : Index := 128#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v441 : Index := Scalar.indexCast v96
  ![128, v441.toNat]
def k0_off7 (k0_t1 : Fin k0_t1_loop.trips) : Fin 2 → Nat :=
  let c256 : Index := 256#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v445 : Index := Scalar.indexCast v96
  ![256, v445.toNat]
def k0_off8 (k0_t1 : Fin k0_t1_loop.trips) : Fin 2 → Nat :=
  let c256_72 : Index := 256#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v612 : Index := Scalar.indexCast v96
  ![256, v612.toNat]
def k0_off9 (k0_t1 : Fin k0_t1_loop.trips) : Fin 2 → Nat :=
  let c384 : Index := 384#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v616 : Index := Scalar.indexCast v96
  ![384, v616.toNat]
def k0_off10 (k0_t1 : Fin k0_t1_loop.trips) : Fin 2 → Nat :=
  let c384_81 : Index := 384#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v783 : Index := Scalar.indexCast v96
  ![384, v783.toNat]
def k0_off11 (k0_t1 : Fin k0_t1_loop.trips) : Fin 2 → Nat :=
  let c512 : Index := 512#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v787 : Index := Scalar.indexCast v96
  ![512, v787.toNat]
def k0_off12 (k0_t1 : Fin k0_t1_loop.trips) : Fin 2 → Nat :=
  let c512_90 : Index := 512#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v954 : Index := Scalar.indexCast v96
  ![512, v954.toNat]
def k0_off13 (k0_t1 : Fin k0_t1_loop.trips) : Fin 2 → Nat :=
  let c640 : Index := 640#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v958 : Index := Scalar.indexCast v96
  ![640, v958.toNat]
def k0_off14 (k0_t1 : Fin k0_t1_loop.trips) : Fin 2 → Nat :=
  let c640_99 : Index := 640#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v1125 : Index := Scalar.indexCast v96
  ![640, v1125.toNat]
def k0_off15 (k0_t1 : Fin k0_t1_loop.trips) : Fin 2 → Nat :=
  let c768 : Index := 768#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v1129 : Index := Scalar.indexCast v96
  ![768, v1129.toNat]
def k0_off16 (k0_t1 : Fin k0_t1_loop.trips) : Fin 2 → Nat :=
  let c768_108 : Index := 768#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v1296 : Index := Scalar.indexCast v96
  ![768, v1296.toNat]
def k0_off17 (k0_t1 : Fin k0_t1_loop.trips) : Fin 2 → Nat :=
  let c896 : Index := 896#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v1300 : Index := Scalar.indexCast v96
  ![896, v1300.toNat]
def k0_off18 (k0_t1 : Fin k0_t1_loop.trips) : Fin 2 → Nat :=
  let c896_117 : Index := 896#32
  let c0_i32_22 : BitVec 32 := 0#32
  let c1_i32 : BitVec 32 := 1#32
  let arg15 : BitVec 32 := Scf.iv c0_i32_22 c1_i32 k0_t1
  let c128_i32 : BitVec 32 := 128#32
  let v95 : BitVec 32 := Scalar.muli arg15 c128_i32
  let v96 : BitVec 32 := v95
  let v1467 : Index := Scalar.indexCast v96
  ![896, v1467.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S8x4096x1024 : Shape := ⟨3, ![8, 4096, 1024]⟩
abbrev S4x1024 : Shape := ⟨2, ![4, 1024]⟩
abbrev S1x1024x2048 : Shape := ⟨3, ![1, 1024, 2048]⟩
abbrev S1x2048 : Shape := ⟨2, ![1, 2048]⟩
abbrev S1x31x1024 : Shape := ⟨3, ![1, 31, 1024]⟩
abbrev S1x1024 : Shape := ⟨2, ![1, 1024]⟩
abbrev S1x1024x1024 : Shape := ⟨3, ![1, 1024, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x2048 : Shape := ⟨2, ![1024, 2048]⟩
abbrev S8x4096x2048 : Shape := ⟨3, ![8, 4096, 2048]⟩
abbrev S2048 : Shape := ⟨1, ![2048]⟩
abbrev S1x1x2048 : Shape := ⟨3, ![1, 1, 2048]⟩
abbrev S8x4126x1024 : Shape := ⟨3, ![8, 4126, 1024]⟩
abbrev S1024x1024 : Shape := ⟨2, ![1024, 1024]⟩

abbrev nBuf : Space → Nat
  | .hbm => 315
  | .vmem => 0
  | .smem => 0
  | _ => 0

abbrev hbmTy0_0 (i : Nat) : BufTy := match i % 128 with
  | 0 => ⟨S8x4096x1024, .f32⟩
  | 1 => ⟨S4x1024, .f32⟩
  | 2 => ⟨S1x1024x2048, .f32⟩
  | 3 => ⟨S1x2048, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1024, .f32⟩
  | 24 => ⟨S1024, .f32⟩
  | 25 => ⟨S1x1x1024, .f32⟩
  | 26 => ⟨S8x4096x1024, .f32⟩
  | 27 => ⟨S8x4096x1024, .f32⟩
  | 28 => ⟨S1024x2048, .f32⟩
  | 29 => ⟨S8x4096x2048, .f32⟩
  | 30 => ⟨S2048, .f32⟩
  | 31 => ⟨S1x1x2048, .f32⟩
  | 32 => ⟨S8x4096x2048, .f32⟩
  | 33 => ⟨S8x4096x2048, .f32⟩
  | 34 => ⟨S8x4096x1024, .f32⟩
  | 35 => ⟨S8x4096x1024, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S_, .f32⟩
  | 42 => ⟨S8x4096x1024, .f32⟩
  | 43 => ⟨S8x4096x1024, .f32⟩
  | 44 => ⟨S8x4096x1024, .f32⟩
  | 45 => ⟨S_, .i32⟩
  | 46 => ⟨S_, .f32⟩
  | 47 => ⟨S8x4126x1024, .f32⟩
  | 48 => ⟨S1x1x1024, .f32⟩
  | 49 => ⟨S1024, .f32⟩
  | 50 => ⟨S8x4096x1024, .f32⟩
  | 51 => ⟨S1x1x1024, .f32⟩
  | 52 => ⟨S8x4096x1024, .f32⟩
  | 53 => ⟨S8x4096x1024, .f32⟩
  | 54 => ⟨S1x1x1024, .f32⟩
  | 55 => ⟨S1024, .f32⟩
  | 56 => ⟨S8x4096x1024, .f32⟩
  | 57 => ⟨S1x1x1024, .f32⟩
  | 58 => ⟨S8x4096x1024, .f32⟩
  | 59 => ⟨S8x4096x1024, .f32⟩
  | 60 => ⟨S8x4096x1024, .f32⟩
  | 61 => ⟨S1x1x1024, .f32⟩
  | 62 => ⟨S1024, .f32⟩
  | 63 => ⟨S8x4096x1024, .f32⟩
  | 64 => ⟨S1x1x1024, .f32⟩
  | 65 => ⟨S8x4096x1024, .f32⟩
  | 66 => ⟨S8x4096x1024, .f32⟩
  | 67 => ⟨S8x4096x1024, .f32⟩
  | 68 => ⟨S1x1x1024, .f32⟩
  | 69 => ⟨S1024, .f32⟩
  | 70 => ⟨S8x4096x1024, .f32⟩
  | 71 => ⟨S1x1x1024, .f32⟩
  | 72 => ⟨S8x4096x1024, .f32⟩
  | 73 => ⟨S8x4096x1024, .f32⟩
  | 74 => ⟨S8x4096x1024, .f32⟩
  | 75 => ⟨S1x1x1024, .f32⟩
  | 76 => ⟨S1024, .f32⟩
  | 77 => ⟨S8x4096x1024, .f32⟩
  | 78 => ⟨S1x1x1024, .f32⟩
  | 79 => ⟨S8x4096x1024, .f32⟩
  | 80 => ⟨S8x4096x1024, .f32⟩
  | 81 => ⟨S8x4096x1024, .f32⟩
  | 82 => ⟨S1x1x1024, .f32⟩
  | 83 => ⟨S1024, .f32⟩
  | 84 => ⟨S8x4096x1024, .f32⟩
  | 85 => ⟨S1x1x1024, .f32⟩
  | 86 => ⟨S8x4096x1024, .f32⟩
  | 87 => ⟨S8x4096x1024, .f32⟩
  | 88 => ⟨S8x4096x1024, .f32⟩
  | 89 => ⟨S1x1x1024, .f32⟩
  | 90 => ⟨S1024, .f32⟩
  | 91 => ⟨S8x4096x1024, .f32⟩
  | 92 => ⟨S1x1x1024, .f32⟩
  | 93 => ⟨S8x4096x1024, .f32⟩
  | 94 => ⟨S8x4096x1024, .f32⟩
  | 95 => ⟨S8x4096x1024, .f32⟩
  | 96 => ⟨S1x1x1024, .f32⟩
  | 97 => ⟨S1024, .f32⟩
  | 98 => ⟨S8x4096x1024, .f32⟩
  | 99 => ⟨S1x1x1024, .f32⟩
  | 100 => ⟨S8x4096x1024, .f32⟩
  | 101 => ⟨S8x4096x1024, .f32⟩
  | 102 => ⟨S8x4096x1024, .f32⟩
  | 103 => ⟨S1x1x1024, .f32⟩
  | 104 => ⟨S1024, .f32⟩
  | 105 => ⟨S8x4096x1024, .f32⟩
  | 106 => ⟨S1x1x1024, .f32⟩
  | 107 => ⟨S8x4096x1024, .f32⟩
  | 108 => ⟨S8x4096x1024, .f32⟩
  | 109 => ⟨S8x4096x1024, .f32⟩
  | 110 => ⟨S1x1x1024, .f32⟩
  | 111 => ⟨S1024, .f32⟩
  | 112 => ⟨S8x4096x1024, .f32⟩
  | 113 => ⟨S1x1x1024, .f32⟩
  | 114 => ⟨S8x4096x1024, .f32⟩
  | 115 => ⟨S8x4096x1024, .f32⟩
  | 116 => ⟨S8x4096x1024, .f32⟩
  | 117 => ⟨S1x1x1024, .f32⟩
  | 118 => ⟨S1024, .f32⟩
  | 119 => ⟨S8x4096x1024, .f32⟩
  | 120 => ⟨S1x1x1024, .f32⟩
  | 121 => ⟨S8x4096x1024, .f32⟩
  | 122 => ⟨S8x4096x1024, .f32⟩
  | 123 => ⟨S8x4096x1024, .f32⟩
  | 124 => ⟨S1x1x1024, .f32⟩
  | 125 => ⟨S1024, .f32⟩
  | 126 => ⟨S8x4096x1024, .f32⟩
  | 127 => ⟨S1x1x1024, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S8x4096x1024, .f32⟩
  | 3 => ⟨S1x1x1024, .f32⟩
  | 4 => ⟨S1024, .f32⟩
  | 5 => ⟨S8x4096x1024, .f32⟩
  | 6 => ⟨S1x1x1024, .f32⟩
  | 7 => ⟨S8x4096x1024, .f32⟩
  | 8 => ⟨S8x4096x1024, .f32⟩
  | 9 => ⟨S8x4096x1024, .f32⟩
  | 10 => ⟨S1x1x1024, .f32⟩
  | 11 => ⟨S1024, .f32⟩
  | 12 => ⟨S8x4096x1024, .f32⟩
  | 13 => ⟨S1x1x1024, .f32⟩
  | 14 => ⟨S8x4096x1024, .f32⟩
  | 15 => ⟨S8x4096x1024, .f32⟩
  | 16 => ⟨S8x4096x1024, .f32⟩
  | 17 => ⟨S1x1x1024, .f32⟩
  | 18 => ⟨S1024, .f32⟩
  | 19 => ⟨S8x4096x1024, .f32⟩
  | 20 => ⟨S1x1x1024, .f32⟩
  | 21 => ⟨S8x4096x1024, .f32⟩
  | 22 => ⟨S8x4096x1024, .f32⟩
  | 23 => ⟨S8x4096x1024, .f32⟩
  | 24 => ⟨S1x1x1024, .f32⟩
  | 25 => ⟨S1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x4096x1024, .f32⟩
  | 31 => ⟨S1x1x1024, .f32⟩
  | 32 => ⟨S1024, .f32⟩
  | 33 => ⟨S8x4096x1024, .f32⟩
  | 34 => ⟨S1x1x1024, .f32⟩
  | 35 => ⟨S8x4096x1024, .f32⟩
  | 36 => ⟨S8x4096x1024, .f32⟩
  | 37 => ⟨S8x4096x1024, .f32⟩
  | 38 => ⟨S1x1x1024, .f32⟩
  | 39 => ⟨S1024, .f32⟩
  | 40 => ⟨S8x4096x1024, .f32⟩
  | 41 => ⟨S1x1x1024, .f32⟩
  | 42 => ⟨S8x4096x1024, .f32⟩
  | 43 => ⟨S8x4096x1024, .f32⟩
  | 44 => ⟨S8x4096x1024, .f32⟩
  | 45 => ⟨S1x1x1024, .f32⟩
  | 46 => ⟨S1024, .f32⟩
  | 47 => ⟨S8x4096x1024, .f32⟩
  | 48 => ⟨S1x1x1024, .f32⟩
  | 49 => ⟨S8x4096x1024, .f32⟩
  | 50 => ⟨S8x4096x1024, .f32⟩
  | 51 => ⟨S8x4096x1024, .f32⟩
  | 52 => ⟨S1x1x1024, .f32⟩
  | 53 => ⟨S1024, .f32⟩
  | 54 => ⟨S8x4096x1024, .f32⟩
  | 55 => ⟨S1x1x1024, .f32⟩
  | 56 => ⟨S8x4096x1024, .f32⟩
  | 57 => ⟨S8x4096x1024, .f32⟩
  | 58 => ⟨S8x4096x1024, .f32⟩
  | 59 => ⟨S1x1x1024, .f32⟩
  | 60 => ⟨S1024, .f32⟩
  | 61 => ⟨S8x4096x1024, .f32⟩
  | 62 => ⟨S1x1x1024, .f32⟩
  | 63 => ⟨S8x4096x1024, .f32⟩
  | 64 => ⟨S8x4096x1024, .f32⟩
  | 65 => ⟨S8x4096x1024, .f32⟩
  | 66 => ⟨S1x1x1024, .f32⟩
  | 67 => ⟨S1024, .f32⟩
  | 68 => ⟨S8x4096x1024, .f32⟩
  | 69 => ⟨S1x1x1024, .f32⟩
  | 70 => ⟨S8x4096x1024, .f32⟩
  | 71 => ⟨S8x4096x1024, .f32⟩
  | 72 => ⟨S8x4096x1024, .f32⟩
  | 73 => ⟨S1x1x1024, .f32⟩
  | 74 => ⟨S1024, .f32⟩
  | 75 => ⟨S8x4096x1024, .f32⟩
  | 76 => ⟨S1x1x1024, .f32⟩
  | 77 => ⟨S8x4096x1024, .f32⟩
  | 78 => ⟨S8x4096x1024, .f32⟩
  | 79 => ⟨S8x4096x1024, .f32⟩
  | 80 => ⟨S1x1x1024, .f32⟩
  | 81 => ⟨S1024, .f32⟩
  | 82 => ⟨S8x4096x1024, .f32⟩
  | 83 => ⟨S1x1x1024, .f32⟩
  | 84 => ⟨S8x4096x1024, .f32⟩
  | 85 => ⟨S8x4096x1024, .f32⟩
  | 86 => ⟨S8x4096x1024, .f32⟩
  | 87 => ⟨S1x1x1024, .f32⟩
  | 88 => ⟨S1024, .f32⟩
  | 89 => ⟨S8x4096x1024, .f32⟩
  | 90 => ⟨S1x1x1024, .f32⟩
  | 91 => ⟨S8x4096x1024, .f32⟩
  | 92 => ⟨S8x4096x1024, .f32⟩
  | 93 => ⟨S8x4096x1024, .f32⟩
  | 94 => ⟨S1x1x1024, .f32⟩
  | 95 => ⟨S1024, .f32⟩
  | 96 => ⟨S8x4096x1024, .f32⟩
  | 97 => ⟨S1x1x1024, .f32⟩
  | 98 => ⟨S8x4096x1024, .f32⟩
  | 99 => ⟨S8x4096x1024, .f32⟩
  | 100 => ⟨S8x4096x1024, .f32⟩
  | 101 => ⟨S1x1x1024, .f32⟩
  | 102 => ⟨S1024, .f32⟩
  | 103 => ⟨S8x4096x1024, .f32⟩
  | 104 => ⟨S1x1x1024, .f32⟩
  | 105 => ⟨S8x4096x1024, .f32⟩
  | 106 => ⟨S8x4096x1024, .f32⟩
  | 107 => ⟨S8x4096x1024, .f32⟩
  | 108 => ⟨S1x1x1024, .f32⟩
  | 109 => ⟨S1024, .f32⟩
  | 110 => ⟨S8x4096x1024, .f32⟩
  | 111 => ⟨S1x1x1024, .f32⟩
  | 112 => ⟨S8x4096x1024, .f32⟩
  | 113 => ⟨S8x4096x1024, .f32⟩
  | 114 => ⟨S8x4096x1024, .f32⟩
  | 115 => ⟨S1x1x1024, .f32⟩
  | 116 => ⟨S1024, .f32⟩
  | 117 => ⟨S8x4096x1024, .f32⟩
  | 118 => ⟨S1x1x1024, .f32⟩
  | 119 => ⟨S8x4096x1024, .f32⟩
  | 120 => ⟨S8x4096x1024, .f32⟩
  | 121 => ⟨S8x4096x1024, .f32⟩
  | 122 => ⟨S1x1x1024, .f32⟩
  | 123 => ⟨S1024, .f32⟩
  | 124 => ⟨S8x4096x1024, .f32⟩
  | 125 => ⟨S1x1x1024, .f32⟩
  | 126 => ⟨S8x4096x1024, .f32⟩
  | 127 => ⟨S8x4096x1024, .f32⟩
  | _ => ⟨S8x4096x1024, .f32⟩

abbrev hbmTy0_2 (i : Nat) : BufTy := match i % 128 with
  | 0 => ⟨S8x4096x1024, .f32⟩
  | 1 => ⟨S1x1x1024, .f32⟩
  | 2 => ⟨S1024, .f32⟩
  | 3 => ⟨S8x4096x1024, .f32⟩
  | 4 => ⟨S1x1x1024, .f32⟩
  | 5 => ⟨S8x4096x1024, .f32⟩
  | 6 => ⟨S8x4096x1024, .f32⟩
  | 7 => ⟨S8x4096x1024, .f32⟩
  | 8 => ⟨S1024, .f32⟩
  | 9 => ⟨S1x1x1024, .f32⟩
  | 10 => ⟨S8x4096x1024, .f32⟩
  | 11 => ⟨S8x4096x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S8x4096x1024, .f32⟩
  | 19 => ⟨S8x4096x1024, .f32⟩
  | 20 => ⟨S8x4096x1024, .f32⟩
  | 21 => ⟨S_, .f32⟩
  | 22 => ⟨S8x4096, .f32⟩
  | 23 => ⟨S8x4096x1, .f32⟩
  | 24 => ⟨S_, .f32⟩
  | 25 => ⟨S8x4096x1, .f32⟩
  | 26 => ⟨S8x4096x1, .f32⟩
  | 27 => ⟨S8x4096x1024, .f32⟩
  | 28 => ⟨S8x4096x1024, .f32⟩
  | 29 => ⟨S_, .f32⟩
  | 30 => ⟨S8x4096x1, .f32⟩
  | 31 => ⟨S8x4096x1, .f32⟩
  | 32 => ⟨S8x4096x1, .f32⟩
  | 33 => ⟨S8x4096x1024, .f32⟩
  | 34 => ⟨S8x4096x1024, .f32⟩
  | 35 => ⟨S1024, .f32⟩
  | 36 => ⟨S1x1x1024, .f32⟩
  | 37 => ⟨S8x4096x1024, .f32⟩
  | 38 => ⟨S8x4096x1024, .f32⟩
  | 39 => ⟨S1024, .f32⟩
  | 40 => ⟨S1x1x1024, .f32⟩
  | 41 => ⟨S8x4096x1024, .f32⟩
  | 42 => ⟨S8x4096x1024, .f32⟩
  | 43 => ⟨S8x4096x1024, .f32⟩
  | 44 => ⟨S8x4096x1024, .f32⟩
  | 45 => ⟨S_, .f32⟩
  | 46 => ⟨S8x4096x1024, .f32⟩
  | 47 => ⟨S8x4096x1024, .f32⟩
  | 48 => ⟨S_, .f32⟩
  | 49 => ⟨S8x4096x1024, .f32⟩
  | 50 => ⟨S8x4096x1024, .f32⟩
  | 51 => ⟨S8x4096x1024, .f32⟩
  | 52 => ⟨S1024x1024, .f32⟩
  | 53 => ⟨S8x4096x1024, .f32⟩
  | 54 => ⟨S1024, .f32⟩
  | 55 => ⟨S1x1x1024, .f32⟩
  | 56 => ⟨S8x4096x1024, .f32⟩
  | 57 => ⟨S8x4096x1024, .f32⟩
  | 58 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_cst_4 : Ref sig .tc := ⟨.hbm, 268, rfl⟩
abbrev main_v251 : Ref sig .tc := ⟨.hbm, 269, rfl⟩
abbrev main_v252 : Ref sig .tc := ⟨.hbm, 270, rfl⟩
abbrev main_cst_5 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_cst_6 : Ref sig .tc := ⟨.hbm, 277, rfl⟩
abbrev main_v258 : Ref sig .tc := ⟨.hbm, 278, rfl⟩
abbrev main_v259 : Ref sig .tc := ⟨.hbm, 279, rfl⟩
abbrev main_cst_7 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_cst_8 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_call1_v0 : Ref sig .tc := ⟨.hbm, 299, rfl⟩
abbrev main_call1_v1 : Ref sig .tc := ⟨.hbm, 300, rfl⟩
abbrev main_call1_cst : Ref sig .tc := ⟨.hbm, 301, rfl⟩
abbrev main_call1_v2 : Ref sig .tc := ⟨.hbm, 302, rfl⟩
abbrev main_call1_v3 : Ref sig .tc := ⟨.hbm, 303, rfl⟩
abbrev main_call1_cst_0 : Ref sig .tc := ⟨.hbm, 304, rfl⟩
abbrev main_call1_v4 : Ref sig .tc := ⟨.hbm, 305, rfl⟩
abbrev main_call1_v5 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩

abbrev nD : Nat := 1
abbrev τ : Topo := Topo.v7x

variable {F : FTy → Type} [FloatOps F]
-- ==== Proof.Attn.Online.lean ====
/- A row of attention over the extended reals: its running maximum and weighted sum, block by block, and the
   softmax they end at. -/
module

public import Idealize.ShloMosaic.PureOps.Ideal.Laws
public import Idealize.ShloMosaic.Lib.IdealHost

@[expose] public section

noncomputable section

namespace Cert.Proof.Attn

open Idealize.ShloMosaic
open scoped BigOperators

/-- The weighted sum over the keys `K`: weights are powers of two, taken from the greatest score of `K`. -/
def acc (s V : ℕ → EReal) (K : Finset ℕ) : EReal := ∑ j ∈ K, Ideal.exp2 (s j - K.sup s) * V j

theorem mul_sum_real (x : ℝ) (hx : 0 ≤ x) (K : Finset ℕ) (f : ℕ → EReal) :
    (x : EReal) * ∑ j ∈ K, f j = ∑ j ∈ K, (x : EReal) * f j := by
  classical
  induction K using Finset.induction_on with
  | empty => simp
  | insert a K ha ih =>
    rw [Finset.sum_insert ha, Finset.sum_insert ha,
      EReal.left_distrib_of_nonneg_of_ne_top (EReal.coe_nonneg.2 hx) (EReal.coe_ne_top x), ih]

theorem coe_sum (K : Finset ℕ) (f : ℕ → ℝ) : ((∑ j ∈ K, f j : ℝ) : EReal) = ∑ j ∈ K, (f j : EReal) := by
  classical
  induction K using Finset.induction_on with
  | empty => simp
  | insert a K ha ih => rw [Finset.sum_insert ha, Finset.sum_insert ha, EReal.coe_add, ih]

theorem sup_real (s : ℕ → EReal) (hs : ∀ j, ∃ x : ℝ, s j = x) (K : Finset ℕ) (hK : K.Nonempty) :
    ∃ x : ℝ, K.sup s = x := by
  obtain ⟨j, _, h⟩ := Finset.exists_mem_eq_sup K hK s
  rw [h]; exact hs j

theorem exp2_real (x : ℝ) : Ideal.exp2 (x : EReal) = ((2 ^ x : ℝ) : EReal) := Ideal.exp2_coe x

/-- One more block of keys: rescale what was summed, add the block, both from the new maximum. -/
theorem acc_union (s V : ℕ → EReal) (hs : ∀ j, ∃ x : ℝ, s j = x) (K J : Finset ℕ) (hK : K.Nonempty) (hJ : J.Nonempty)
    (hd : Disjoint K J) :
    Ideal.exp2 (K.sup s - max (K.sup s) (J.sup s)) * acc s V K
      + ∑ j ∈ J, Ideal.exp2 (s j - max (K.sup s) (J.sup s)) * V j = acc s V (K ∪ J) := by
  obtain ⟨a, ha⟩ := sup_real s hs K hK
  have hM : (K ∪ J).sup s = max (K.sup s) (J.sup s) := Finset.sup_union
  obtain ⟨b, hb⟩ := sup_real s hs (K ∪ J) (hK.mono Finset.subset_union_left)
  unfold acc
  rw [Finset.sum_union hd, hM]
  rw [hM] at hb
  rw [hb, ha, ← EReal.coe_sub, exp2_real, mul_sum_real _ (Real.rpow_nonneg (by norm_num) _)]
  refine congrArg (· + _) (Finset.sum_congr rfl fun j _ => ?_)
  obtain ⟨x, hx⟩ := hs j
  rw [hx, ← EReal.coe_sub, ← EReal.coe_sub, exp2_real, exp2_real, ← mul_assoc, ← EReal.coe_mul,
    ← Real.rpow_add (by norm_num)]
  congr 3
  ring

theorem sup_fin (n o : ℕ) (s : ℕ → EReal) (f : Fin n → EReal) (hf : ∀ c : Fin n, f c = s (o + c.val)) :
    (Finset.univ.sup f) = (Finset.Ico o (o + n)).sup s := by
  refine le_antisymm (Finset.sup_le fun c _ => ?_) (Finset.sup_le fun j hj => ?_)
  · rw [hf]; exact Finset.le_sup (f := s) (Finset.mem_Ico.2 ⟨by omega, by omega⟩)
  · obtain ⟨h1, h2⟩ := Finset.mem_Ico.1 hj
    have h := Finset.le_sup (f := f) (Finset.mem_univ (⟨j - o, by omega⟩ : Fin n))
    rw [hf, show o + (j - o) = j by omega] at h
    exact h

theorem sum_fin (n o : ℕ) (g : ℕ → EReal) (f : Fin n → EReal) (hf : ∀ c : Fin n, f c = g (o + c.val)) :
    ∑ c, f c = ∑ j ∈ Finset.Ico o (o + n), g j := by
  rw [Finset.sum_Ico_eq_sum_range, Nat.add_sub_cancel_left, Finset.sum_range]
  exact Finset.sum_congr rfl fun c _ => hf c

/-- A masked row's maximum is over what the mask keeps; -/
theorem sup_masked (n o r : ℕ) (hr : r < n) (s : ℕ → EReal) (f : Fin n → EReal)
    (hf : ∀ c : Fin n, f c = if c.val ≤ r then s (o + c.val) else ⊥) :
    (Finset.univ.sup f) = (Finset.Ico o (o + r + 1)).sup s := by
  refine le_antisymm (Finset.sup_le fun c _ => ?_) (Finset.sup_le fun j hj => ?_)
  · rw [hf]
    split_ifs with h
    · exact Finset.le_sup (f := s) (Finset.mem_Ico.2 ⟨by omega, by omega⟩)
    · exact bot_le
  · obtain ⟨h1, h2⟩ := Finset.mem_Ico.1 hj
    have h := Finset.le_sup (f := f) (Finset.mem_univ (⟨j - o, by omega⟩ : Fin n))
    rw [hf, if_pos (by show j - o ≤ r; omega), show o + (j - o) = j by omega] at h
    exact h

/-- and its weighted sum too, a masked key weighing nothing. -/
theorem sum_masked (n o r : ℕ) (hr : r < n) (s V : ℕ → EReal) (f W : Fin n → EReal)
    (hf : ∀ c : Fin n, f c = if c.val ≤ r then s (o + c.val) else ⊥) (hW : ∀ c : Fin n, W c = V (o + c.val)) :
    ∑ c, Ideal.exp2 (f c - Finset.univ.sup f) * W c = acc s V (Finset.Ico o (o + r + 1)) := by
  rw [sup_masked n o r hr s f hf]
  unfold acc
  rw [sum_fin n o (fun j => if j ≤ o + r then Ideal.exp2 (s j - (Finset.Ico o (o + r + 1)).sup s) * V j else 0) _ fun c => ?_]
  · rw [← Finset.sum_subset (Finset.Ico_subset_Ico_right (show o + r + 1 ≤ o + n by omega)) fun j hj hj' =>
      if_neg fun h => hj' (Finset.mem_Ico.2 ⟨(Finset.mem_Ico.1 hj).1, by omega⟩)]
    exact Finset.sum_congr rfl fun j hj => if_pos (by have := (Finset.mem_Ico.1 hj).2; omega)
  · rw [hf, hW]
    split_ifs with h h' h'
    · rfl
    · omega
    · omega
    · rw [EReal.bot_sub, Ideal.exp2_bot, zero_mul]

/-- A row's softmax over its unmasked keys, taken by natural exponentials of scores in units of `log 2` and shifted by a
    number of the row, is the weighted sums' quotient. -/
theorem softmax_eq (S u v : ℕ → EReal) (c : EReal) (hS : ∀ j, ∃ x : ℝ, S j = x) (hu : ∀ j, ∃ x : ℝ, u j = x)
    (hc : ∃ x : ℝ, c = x) (n : ℕ) (P : ℕ → Prop) [DecidablePred P] (N : Finset ℕ) (hN : N.Nonempty)
    (hP : ∀ j, j ∈ N ↔ j < n ∧ P j) (T : ℕ → EReal)
    (hT : ∀ j, T j = if P j then (S j + c - u j) * (Real.log 2 : ℝ) else ⊥) :
    ∑ j ∈ Finset.range n, Ideal.div (Ideal.exp (T j - (Finset.range n).sup T))
        (∑ k ∈ Finset.range n, Ideal.exp (T k - (Finset.range n).sup T)) * v j
      = Ideal.div (acc (fun j => S j - u j) v N) (acc (fun j => S j - u j) (fun _ => 1) N) := by
  obtain ⟨cr, rfl⟩ := hc
  choose Sr hSr using hS
  choose ur hur using hu
  obtain rfl : S = fun j => (Sr j : EReal) := funext hSr
  obtain rfl : u = fun j => (ur j : EReal) := funext hur
  have hlog : 0 < Real.log 2 := Real.log_pos (by norm_num)
  obtain ⟨j0, h0, hs0⟩ := Finset.exists_mem_eq_sup N hN (fun j => (Sr j : EReal) - (ur j : EReal))
  have hle : ∀ j ∈ N, Sr j - ur j ≤ Sr j0 - ur j0 := fun j hj => by
    have h := Finset.le_sup (f := fun j => (Sr j : EReal) - (ur j : EReal)) hj
    rw [hs0] at h
    exact_mod_cast h
  have hTN : ∀ j ∈ N, T j = (((Sr j + cr - ur j) * Real.log 2 : ℝ) : EReal) := fun j hj => by
    rw [hT, if_pos ((hP j).1 hj).2]; norm_cast
  have hTn : ∀ j ∈ Finset.range n, j ∉ N → T j = ⊥ := fun j hj hjN => by
    rw [hT, if_neg fun h => hjN ((hP j).2 ⟨Finset.mem_range.1 hj, h⟩)]
  have hsub : N ⊆ Finset.range n := fun j hj => Finset.mem_range.2 ((hP j).1 hj).1
  have hM : (Finset.range n).sup T = (((Sr j0 + cr - ur j0) * Real.log 2 : ℝ) : EReal) := by
    refine le_antisymm (Finset.sup_le fun j hj => ?_) ((hTN j0 h0).symm.le.trans (Finset.le_sup (f := T) (hsub h0)))
    by_cases hjN : j ∈ N
    · rw [hTN j hjN]
      refine EReal.coe_le_coe_iff.2 (mul_le_mul_of_nonneg_right ?_ hlog.le)
      have := hle j hjN
      linarith
    · rw [hTn j hj hjN]; exact bot_le
  rw [hM]
  have hw : ∀ j ∈ N, Ideal.exp (T j - (((Sr j0 + cr - ur j0) * Real.log 2 : ℝ) : EReal))
      = ((2 ^ (Sr j - ur j - (Sr j0 - ur j0)) : ℝ) : EReal) := fun j hj => by
    rw [hTN j hj, ← EReal.coe_sub, Ideal.exp_coe, Real.rpow_def_of_pos (by norm_num)]
    congr 2
    ring
  have hz : ∀ j ∈ Finset.range n, j ∉ N → Ideal.exp (T j - (((Sr j0 + cr - ur j0) * Real.log 2 : ℝ) : EReal)) = 0 :=
    fun j hj hjN => by rw [hTn j hj hjN, EReal.bot_sub, Ideal.exp_bot]
  have hk : ∀ j, Ideal.exp2 ((Sr j : EReal) - (ur j : EReal) - N.sup fun j => (Sr j : EReal) - (ur j : EReal))
      = ((2 ^ (Sr j - ur j - (Sr j0 - ur j0)) : ℝ) : EReal) := fun j => by
    rw [hs0, ← EReal.coe_sub, ← EReal.coe_sub, ← EReal.coe_sub, exp2_real]
  rw [← Finset.sum_subset hsub hz, Finset.sum_congr rfl hw]
  have hacc : ∀ V : ℕ → EReal, acc (fun j => (Sr j : EReal) - (ur j : EReal)) V N
      = ∑ j ∈ N, ((2 ^ (Sr j - ur j - (Sr j0 - ur j0)) : ℝ) : EReal) * V j := fun V => by
    unfold acc; exact Finset.sum_congr rfl fun j _ => by rw [hk]
  rw [hacc, hacc]
  simp only [mul_one]
  have hZ : ∑ j ∈ N, ((2 ^ (Sr j - ur j - (Sr j0 - ur j0)) : ℝ) : EReal)
      = ((∑ j ∈ N, (2 : ℝ) ^ (Sr j - ur j - (Sr j0 - ur j0)) : ℝ) : EReal) := by
    exact (coe_sum N _).symm
  have hZ0 : 0 < ∑ j ∈ N, (2 : ℝ) ^ (Sr j - ur j - (Sr j0 - ur j0)) :=
    Finset.sum_pos (fun j _ => Real.rpow_pos_of_pos (by norm_num) _) hN
  rw [hZ]
  generalize (∑ j ∈ N, (2 : ℝ) ^ (Sr j - ur j - (Sr j0 - ur j0)) : ℝ) = Z at hZ0
  have hdiv : ∀ x : EReal, Ideal.div x (Z : EReal) = ((Z⁻¹ : ℝ) : EReal) * x := fun x => by
    unfold Ideal.div
    rw [if_neg (by exact_mod_cast hZ0.ne'), EReal.coe_inv, mul_comm]
  simp only [hdiv]
  rw [mul_sum_real _ (inv_nonneg.2 hZ0.le)]
  rw [← Finset.sum_subset hsub fun j hj hjN => by rw [hz j hj hjN, mul_zero, zero_mul]]
  exact Finset.sum_congr rfl fun j hj => by rw [hw j hj, mul_assoc]

end Cert.Proof.Attn

end
-- ==== Proof.Attn.Block.lean ====
/- The attention body's operations, entry by entry. -/
module

public import proofs.«01_k».proof.Proof.Gen.KernelIdeal.Value
public import proofs.«01_k».proof.Proof.Attn.Online
public import Idealize.ShloMosaic.Lib.MatmulPlain
public import Idealize.ShloMosaic.Lib.Pointwise
public import Idealize.ShloMosaic.Lib.IdealHost
public import Idealize.ShloMosaic.Lib.Pipeline.ValueKit

@[expose] public section

noncomputable section

namespace Cert.Proof.Attn

open Cert.KernelIdeal Cert.KernelIdeal.Gen Idealize.ShloMosaic Idealize.ShloMosaic.TcCoe Idealize.SL.Sem
open scoped BigOperators

theorem ofBits_ninf : Ideal.ofBits .f32 0xFF800000#32 = ⊥ := by
  simp only [Ideal.ofBits]; rfl

theorem mask_ninf : Named.named (F := Ideal) κ (φ := .f32) "mask" 0xF149F2CA#32 = ⊥ := by rfl

theorem fold_max {n : ℕ} (f : Fin n → EReal) :
    (Finset.univ : Finset (Fin n)).fold max (Ideal.ofBits .f32 0xFF800000#32) f = Finset.univ.sup f := by
  rw [ofBits_ninf]; rfl

theorem slt_nat (a b : ℕ) (ha : a < 2147483648) (hb : b < 2147483648) :
    IntOp.cmpi .slt (BitVec.ofNat 32 a) (BitVec.ofNat 32 b) = if a < b then 1#1 else 0#1 := by
  have h1 : (BitVec.ofNat 32 a).toInt = a := by
    rw [BitVec.toInt_eq_toNat_of_lt] <;> rw [BitVec.toNat_ofNat, Nat.mod_eq_of_lt] <;> omega
  have h2 : (BitVec.ofNat 32 b).toInt = b := by
    rw [BitVec.toInt_eq_toNat_of_lt] <;> rw [BitVec.toNat_ofNat, Nat.mod_eq_of_lt] <;> omega
  simp only [IntOp.cmpi, BitVec.slt, h1, h2]
  split_ifs with h <;> simp [h]

theorem sge_nat (a b : ℕ) (ha : a < 2147483648) (hb : b < 2147483648) :
    IntOp.cmpi .sge (BitVec.ofNat 32 a) (BitVec.ofNat 32 b) = if b ≤ a then 1#1 else 0#1 := by
  have h1 : (BitVec.ofNat 32 a).toInt = a := by
    rw [BitVec.toInt_eq_toNat_of_lt] <;> rw [BitVec.toNat_ofNat, Nat.mod_eq_of_lt] <;> omega
  have h2 : (BitVec.ofNat 32 b).toInt = b := by
    rw [BitVec.toInt_eq_toNat_of_lt] <;> rw [BitVec.toNat_ofNat, Nat.mod_eq_of_lt] <;> omega
  simp only [IntOp.cmpi, BitVec.sle, h1, h2]
  split_ifs with h <;> simp [h]

theorem max_256_256 (F : FVec Ideal S256x256 .f32) (r : Fin 256) (l : Fin 128) :
    broadcastTo S256x128 (shapeCast S256x1 (shapeCast S256x1 (multiReduction .maximumf [1] S256 F 0xFF800000#32 reduces_S256x256_S256 (.inl rfl) rfl) shapeCasts_S256_S256x1) shapeCasts_S256x1_S256x1) broadcasts_S256x1_S256x128 (ix2 r l)
      = Finset.univ.sup fun c : Fin 256 => F (ix2 r c) := by
  rw [← fold_max]
  pointwise

theorem cat_256_256 (x : FVec Ideal S256x128 .f32) (r : Fin 256) (m : EReal) (hx : ∀ l, x (ix2 r l) = m) (c : Fin 256) :
    concatenate S256x256 1 [⟨S256x128, x⟩, ⟨S256x128, x⟩] concatenates_S256x128_S256x128_S256x256_d1 (ix2 r c)
      = m := by
  pointwise
  simp only [hx, dite_eq_ite, ite_self]

theorem max_256_512 (F : FVec Ideal S256x512 .f32) (r : Fin 256) (l : Fin 128) :
    broadcastTo S256x128 (shapeCast S256x1 (shapeCast S256x1 (multiReduction .maximumf [1] S256 F 0xFF800000#32 reduces_S256x512_S256 (.inl rfl) rfl) shapeCasts_S256_S256x1) shapeCasts_S256x1_S256x1) broadcasts_S256x1_S256x128 (ix2 r l)
      = Finset.univ.sup fun c : Fin 512 => F (ix2 r c) := by
  rw [← fold_max]
  pointwise

theorem cat_256_512 (x : FVec Ideal S256x128 .f32) (r : Fin 256) (m : EReal) (hx : ∀ l, x (ix2 r l) = m) (c : Fin 512) :
    concatenate S256x512 1 [⟨S256x128, x⟩, ⟨S256x128, x⟩, ⟨S256x128, x⟩, ⟨S256x128, x⟩] concatenates_S256x128_S256x128_S256x128_S256x128_S256x512_d1 (ix2 r c)
      = m := by
  pointwise
  simp only [hx, dite_eq_ite, ite_self]

theorem max_512_512 (F : FVec Ideal S512x512 .f32) (r : Fin 512) (l : Fin 128) :
    broadcastTo S512x128 (shapeCast S512x1 (shapeCast S512x1 (multiReduction .maximumf [1] S512 F 0xFF800000#32 reduces_S512x512_S512 (.inl rfl) rfl) shapeCasts_S512_S512x1) shapeCasts_S512x1_S512x1) broadcasts_S512x1_S512x128 (ix2 r l)
      = Finset.univ.sup fun c : Fin 512 => F (ix2 r c) := by
  rw [← fold_max]
  pointwise

theorem cat_512_512 (x : FVec Ideal S512x128 .f32) (r : Fin 512) (m : EReal) (hx : ∀ l, x (ix2 r l) = m) (c : Fin 512) :
    concatenate S512x512 1 [⟨S512x128, x⟩, ⟨S512x128, x⟩, ⟨S512x128, x⟩, ⟨S512x128, x⟩] concatenates_S512x128_S512x128_S512x128_S512x128_S512x512_d1 (ix2 r c)
      = m := by
  pointwise
  simp only [hx, dite_eq_ite, ite_self]

theorem max_512_1024 (F : FVec Ideal S512x1024 .f32) (r : Fin 512) (l : Fin 128) :
    broadcastTo S512x128 (shapeCast S512x1 (shapeCast S512x1 (multiReduction .maximumf [1] S512 F 0xFF800000#32 reduces_S512x1024_S512 (.inl rfl) rfl) shapeCasts_S512_S512x1) shapeCasts_S512x1_S512x1) broadcasts_S512x1_S512x128 (ix2 r l)
      = Finset.univ.sup fun c : Fin 1024 => F (ix2 r c) := by
  rw [← fold_max]
  pointwise

theorem cat_512_1024 (x : FVec Ideal S512x128 .f32) (r : Fin 512) (m : EReal) (hx : ∀ l, x (ix2 r l) = m) (c : Fin 1024) :
    concatenate S512x1024 1 [⟨S512x128, x⟩, ⟨S512x128, x⟩, ⟨S512x128, x⟩, ⟨S512x128, x⟩, ⟨S512x128, x⟩, ⟨S512x128, x⟩, ⟨S512x128, x⟩, ⟨S512x128, x⟩] concatenates_S512x128_S512x128_S512x128_S512x128_S512x128_S512x128_S512x128_S512x128_S512x1024_d1 (ix2 r c)
      = m := by
  pointwise
  simp only [hx, dite_eq_ite, ite_self]

theorem lane_27 (r : Fin 512) (l : Fin 128) : k0_pay27 (ix2 r l) = if l.val < 64 then 1#1 else 0#1 := by
  unfold k0_pay27
  pointwise
  exact slt_nat _ 64 (by omega) (by omega)

theorem lane_3 (r : Fin 1024) (l : Fin 128) : k0_pay3 (ix2 r l) = if l.val < 64 then 1#1 else 0#1 := by
  unfold k0_pay3
  pointwise
  exact slt_nat _ 64 (by omega) (by omega)

theorem lane_19 (r : Fin 512) (l : Fin 128) : k0_pay19 (ix2 r l) = if l.val < 64 then 1#1 else 0#1 := by
  unfold k0_pay19
  pointwise
  exact slt_nat _ 64 (by omega) (by omega)

theorem lane_32 (r : Fin 256) (l : Fin 128) : k0_pay32 (ix2 r l) = if l.val < 64 then 1#1 else 0#1 := by
  unfold k0_pay32
  pointwise
  exact slt_nat _ 64 (by omega) (by omega)

theorem lane_37 (r : Fin 512) (l : Fin 128) : k0_pay37 (ix2 r l) = if l.val < 64 then 1#1 else 0#1 := by
  unfold k0_pay37
  pointwise
  exact slt_nat _ 64 (by omega) (by omega)

theorem one_bf16 : Ideal.ofBits .bf16 0x3F80#16 = 1 := by
  simp [Ideal.ofBits, Ideal.ieee, -EReal.coe_mul]; norm_num

theorem zero_bf16 : Ideal.ofBits .bf16 0x0000#16 = 0 := by
  simp [Ideal.ofBits, Ideal.ieee]

theorem val_5 (v : Vec Ideal S1x1024x128 .bf16) (c : Fin 1024) (l : Fin 128) :
    k0_pay5 (F := Ideal) v (ix2 c l) = if l.val < 64 then v (ix3 0 c l) else 1 := by
  unfold k0_pay5
  refine (congrArg (fun b => if b = 1#1 then _ else _) (lane_3 c l)).trans ?_
  unfold k0_pay2 k0_pay4
  rw [← one_bf16]
  split_ifs <;> first | contradiction | pointwise

theorem val_6 (v : Vec Ideal S1x1024x128 .bf16) (c : Fin 1024) (l : Fin 128) :
    k0_pay6 (F := Ideal) v (ix2 c l) = if l.val < 64 then 1 else v (ix3 0 c l) := by
  unfold k0_pay6
  refine (congrArg (fun b => if b = 1#1 then _ else _) (lane_3 c l)).trans ?_
  unfold k0_pay2 k0_pay4
  rw [← one_bf16]
  split_ifs <;> first | contradiction | pointwise

theorem val_21 (v : Vec Ideal S1x512x128 .bf16) (c : Fin 512) (l : Fin 128) :
    k0_pay21 (F := Ideal) v (ix2 c l) = if l.val < 64 then v (ix3 0 c l) else 1 := by
  unfold k0_pay21
  refine (congrArg (fun b => if b = 1#1 then _ else _) (lane_19 c l)).trans ?_
  unfold k0_pay18 k0_pay20
  rw [← one_bf16]
  split_ifs <;> first | contradiction | pointwise

theorem val_22 (v : Vec Ideal S1x512x128 .bf16) (c : Fin 512) (l : Fin 128) :
    k0_pay22 (F := Ideal) v (ix2 c l) = if l.val < 64 then 1 else v (ix3 0 c l) := by
  unfold k0_pay22
  refine (congrArg (fun b => if b = 1#1 then _ else _) (lane_19 c l)).trans ?_
  unfold k0_pay18 k0_pay20
  rw [← one_bf16]
  split_ifs <;> first | contradiction | pointwise

theorem val_34 (v : Vec Ideal S1x256x128 .bf16) (c : Fin 256) (l : Fin 128) :
    k0_pay34 (F := Ideal) v (ix2 c l) = if l.val < 64 then v (ix3 0 c l) else 1 := by
  unfold k0_pay34
  refine (congrArg (fun b => if b = 1#1 then _ else _) (lane_32 c l)).trans ?_
  unfold k0_pay31 k0_pay33
  rw [← one_bf16]
  split_ifs <;> first | contradiction | pointwise

theorem val_35 (v : Vec Ideal S1x256x128 .bf16) (c : Fin 256) (l : Fin 128) :
    k0_pay35 (F := Ideal) v (ix2 c l) = if l.val < 64 then 1 else v (ix3 0 c l) := by
  unfold k0_pay35
  refine (congrArg (fun b => if b = 1#1 then _ else _) (lane_32 c l)).trans ?_
  unfold k0_pay31 k0_pay33
  rw [← one_bf16]
  split_ifs <;> first | contradiction | pointwise

theorem val_39 (v : Vec Ideal S1x512x128 .bf16) (c : Fin 512) (l : Fin 128) :
    k0_pay39 (F := Ideal) v (ix2 c l) = if l.val < 64 then v (ix3 0 c l) else 1 := by
  unfold k0_pay39
  refine (congrArg (fun b => if b = 1#1 then _ else _) (lane_37 c l)).trans ?_
  unfold k0_pay36 k0_pay38
  rw [← one_bf16]
  split_ifs <;> first | contradiction | pointwise

theorem val_40 (v : Vec Ideal S1x512x128 .bf16) (c : Fin 512) (l : Fin 128) :
    k0_pay40 (F := Ideal) v (ix2 c l) = if l.val < 64 then 1 else v (ix3 0 c l) := by
  unfold k0_pay40
  refine (congrArg (fun b => if b = 1#1 then _ else _) (lane_37 c l)).trans ?_
  unfold k0_pay36 k0_pay38
  rw [← one_bf16]
  split_ifs <;> first | contradiction | pointwise

theorem q_29 (v : Vec Ideal S1x512x128 .bf16) (r : Fin 512) (l : Fin 128) :
    k0_pay29 (F := Ideal) v (ix2 r l) = if l.val < 64 then v (ix3 0 r l) else 0 := by
  unfold k0_pay29
  refine (congrArg (fun b => if b = 1#1 then _ else _) (lane_27 r l)).trans ?_
  unfold k0_pay26 k0_pay28
  rw [← zero_bf16]
  split_ifs <;> first | contradiction | pointwise

theorem q_30 (v : Vec Ideal S1x512x128 .bf16) (r : Fin 512) (l : Fin 128) :
    k0_pay30 (F := Ideal) v (ix2 r l) = if l.val < 64 then 0 else v (ix3 0 r l) := by
  unfold k0_pay30
  refine (congrArg (fun b => if b = 1#1 then _ else _) (lane_27 r l)).trans ?_
  unfold k0_pay26 k0_pay28
  rw [← zero_bf16]
  split_ifs <;> first | contradiction | pointwise

theorem score_7 (q : FVec Ideal S512x128 .bf16) (kt : Vec Ideal S1x128x1024 .bf16) (u : Vec Ideal S1x1x1x1024 .f32) (r : Fin 512) (c : Fin 1024) :
    k0_pay7 (F := Ideal) q kt u (ix2 r c) = (∑ k : Fin 128, q (ix2 r k) * kt (ix3 0 k c)) - u (ix4 0 0 0 c) := by
  unfold k0_pay7
  refine congrArg₂ (· - ·) ?_ (by pointwise)
  refine (Ideal.matmul_plain_apply none _ _ _ r c).trans ?_
  refine (congrArg (· + _) Ideal.ofBits_zero_f32).trans ((zero_add _).trans ?_)
  exact Finset.sum_congr rfl fun k _ => congrArg (q (ix2 r k) * ·) (by pointwise)

theorem score_8 (q : FVec Ideal S512x128 .bf16) (kt : Vec Ideal S1x128x1024 .bf16) (u : Vec Ideal S1x1x1x1024 .f32) (r : Fin 512) (c : Fin 1024) :
    k0_pay8 (F := Ideal) q kt u (ix2 r c) = (∑ k : Fin 128, q (ix2 r k) * kt (ix3 0 k c)) - u (ix4 0 0 0 c) := by
  unfold k0_pay8
  refine congrArg₂ (· - ·) ?_ (by pointwise)
  refine (Ideal.matmul_plain_apply none _ _ _ r c).trans ?_
  refine (congrArg (· + _) Ideal.ofBits_zero_f32).trans ((zero_add _).trans ?_)
  exact Finset.sum_congr rfl fun k _ => congrArg (q (ix2 r k) * ·) (by pointwise)

theorem score_23 (q : FVec Ideal S512x128 .bf16) (kt : Vec Ideal S1x128x512 .bf16) (u : Vec Ideal S1x1x1x512 .f32) (r : Fin 512) (c : Fin 512) :
    k0_pay23 (F := Ideal) q kt u (ix2 r c) = (∑ k : Fin 128, q (ix2 r k) * kt (ix3 0 k c)) - u (ix4 0 0 0 c) := by
  unfold k0_pay23
  refine congrArg₂ (· - ·) ?_ (by pointwise)
  refine (Ideal.matmul_plain_apply none _ _ _ r c).trans ?_
  refine (congrArg (· + _) Ideal.ofBits_zero_f32).trans ((zero_add _).trans ?_)
  exact Finset.sum_congr rfl fun k _ => congrArg (q (ix2 r k) * ·) (by pointwise)

theorem score_24 (q : FVec Ideal S512x128 .bf16) (kt : Vec Ideal S1x128x512 .bf16) (u : Vec Ideal S1x1x1x512 .f32) (r : Fin 512) (c : Fin 512) :
    k0_pay24 (F := Ideal) q kt u (ix2 r c) = (∑ k : Fin 128, q (ix2 r k) * kt (ix3 0 k c)) - u (ix4 0 0 0 c) := by
  unfold k0_pay24
  refine congrArg₂ (· - ·) ?_ (by pointwise)
  refine (Ideal.matmul_plain_apply none _ _ _ r c).trans ?_
  refine (congrArg (· + _) Ideal.ofBits_zero_f32).trans ((zero_add _).trans ?_)
  exact Finset.sum_congr rfl fun k _ => congrArg (q (ix2 r k) * ·) (by pointwise)

theorem score_43 (v : Vec Ideal S1x512x128 .bf16) (kt : Vec Ideal S1x128x256 .bf16) (u : Vec Ideal S1x1x1x256 .f32) (r : Fin 256) (c : Fin 256) :
    k0_pay43 (F := Ideal) k0_pay41 (k0_pay42 v kt) u (ix2 r c)
      = if c.val ≤ r.val then (∑ k : Fin 128, k0_pay29 (F := Ideal) v (ix2 ⟨r.val, by omega⟩ k) * kt (ix3 0 k c)) - u (ix4 0 0 0 c) else ⊥ := by
  unfold k0_pay43
  have hc : k0_pay41 (ix2 r c) = if c.val ≤ r.val then 1#1 else 0#1 := by
    unfold k0_pay41
    pointwise
    exact (congrArg (IntOp.cmpi .sge · _) (BitVec.add_zero (BitVec.ofNat 32 r.val))).trans (sge_nat r.val c.val (by omega) (by omega))
  refine (congrArg (fun b => if b = 1#1 then _ else _) hc).trans ?_
  split_ifs with h1 h2 h2
  · refine congrArg₂ (· - ·) ?_ (by pointwise)
    unfold k0_pay42
    refine (Ideal.matmul_plain_apply none _ _ _ r c).trans ?_
    refine (congrArg (· + _) Ideal.ofBits_zero_f32).trans ((zero_add _).trans ?_)
    exact Finset.sum_congr rfl fun k _ => congrArg₂ (· * ·) (by pointwise) (by pointwise)
  · exact absurd rfl h2
  · exact absurd h2 (by decide)
  · rfl

theorem score_44 (q : FVec Ideal S512x128 .bf16) (kt : Vec Ideal S1x128x256 .bf16) (u : Vec Ideal S1x1x1x256 .f32) (r : Fin 256) (c : Fin 256) :
    k0_pay44 (F := Ideal) q kt u (ix2 r c)
      = if c.val ≤ r.val then (∑ k : Fin 128, q (ix2 ⟨r.val, by omega⟩ k) * kt (ix3 0 k c)) - u (ix4 0 0 0 c) else ⊥ := by
  unfold k0_pay44
  have hc : cmpi .sge (addi (iota .tc S256x256 32 [0] iota_S256x256_d0_w32) (broadcast S256x256 0#32)) (iota .tc S256x256 32 [1] iota_S256x256_d1_w32) (ix2 r c)
      = if c.val ≤ r.val then 1#1 else 0#1 := by
    pointwise
    exact (congrArg (IntOp.cmpi .sge · _) (BitVec.add_zero (BitVec.ofNat 32 r.val))).trans (sge_nat r.val c.val (by omega) (by omega))
  refine (congrArg (fun b => if b = 1#1 then _ else _) hc).trans ?_
  split_ifs with h1 h2 h2
  · refine congrArg₂ (· - ·) ?_ (by pointwise)
    refine (Ideal.matmul_plain_apply none _ _ _ r c).trans ?_
    refine (congrArg (· + _) Ideal.ofBits_zero_f32).trans ((zero_add _).trans ?_)
    exact Finset.sum_congr rfl fun k _ => congrArg₂ (· * ·) (by pointwise) (by pointwise)
  · exact absurd rfl h2
  · exact absurd h2 (by decide)
  · rfl

theorem score_45 (q : FVec Ideal S512x128 .bf16) (kt : Vec Ideal S1x128x512 .bf16) (u : Vec Ideal S1x1x1x512 .f32) (r : Fin 256) (c : Fin 512) :
    k0_pay45 (F := Ideal) q kt u (ix2 r c)
      = if c.val ≤ r.val + 256 then (∑ k : Fin 128, q (ix2 ⟨256 + r.val, by omega⟩ k) * kt (ix3 0 k c)) - u (ix4 0 0 0 c) else ⊥ := by
  unfold k0_pay45
  have hc : cmpi .sge (addi (iota .tc S256x512 32 [0] iota_S256x512_d0_w32) (broadcast S256x512 256#32)) (iota .tc S256x512 32 [1] iota_S256x512_d1_w32) (ix2 r c)
      = if c.val ≤ r.val + 256 then 1#1 else 0#1 := by
    pointwise
    exact (congrArg (IntOp.cmpi .sge · _) (BitVec.ofNat_add_ofNat r.val 256)).trans (sge_nat _ _ (by omega) (by omega))
  refine (congrArg (fun b => if b = 1#1 then _ else _) hc).trans ?_
  split_ifs with h1 h2 h2
  · refine congrArg₂ (· - ·) ?_ (by pointwise)
    refine (Ideal.matmul_plain_apply none _ _ _ r c).trans ?_
    refine (congrArg (· + _) Ideal.ofBits_zero_f32).trans ((zero_add _).trans ?_)
    exact Finset.sum_congr rfl fun k _ => congrArg₂ (· * ·) (by pointwise) (by pointwise)
  · exact absurd rfl h2
  · exact absurd h2 (by decide)
  · rfl

theorem score_46 (q : FVec Ideal S512x128 .bf16) (kt : Vec Ideal S1x128x512 .bf16) (u : Vec Ideal S1x1x1x512 .f32) (r : Fin 256) (c : Fin 512) :
    k0_pay46 (F := Ideal) q kt u (ix2 r c)
      = if c.val ≤ r.val + 256 then (∑ k : Fin 128, q (ix2 ⟨256 + r.val, by omega⟩ k) * kt (ix3 0 k c)) - u (ix4 0 0 0 c) else ⊥ := by
  unfold k0_pay46
  have hc : cmpi .sge (addi (iota .tc S256x512 32 [0] iota_S256x512_d0_w32) (broadcast S256x512 256#32)) (iota .tc S256x512 32 [1] iota_S256x512_d1_w32) (ix2 r c)
      = if c.val ≤ r.val + 256 then 1#1 else 0#1 := by
    pointwise
    exact (congrArg (IntOp.cmpi .sge · _) (BitVec.ofNat_add_ofNat r.val 256)).trans (sge_nat _ _ (by omega) (by omega))
  refine (congrArg (fun b => if b = 1#1 then _ else _) hc).trans ?_
  split_ifs with h1 h2 h2
  · refine congrArg₂ (· - ·) ?_ (by pointwise)
    refine (Ideal.matmul_plain_apply none _ _ _ r c).trans ?_
    refine (congrArg (· + _) Ideal.ofBits_zero_f32).trans ((zero_add _).trans ?_)
    exact Finset.sum_congr rfl fun k _ => congrArg₂ (· * ·) (by pointwise) (by pointwise)
  · exact absurd rfl h2
  · exact absurd h2 (by decide)
  · rfl

theorem out_1 (a b : Vec Ideal S512x128 .f32) (r : Fin 512) (l : Fin 128) :
    k0_pay1 (F := Ideal) k0_pay27 a b (ix3 0 r l)
      = if l.val < 64 then Ideal.div (a (ix2 r l)) (a (ix2 r 127)) else Ideal.div (b (ix2 r l)) (b (ix2 r 0)) := by
  unfold k0_pay1
  pointwise
  rw [lane_27]
  split_ifs <;> first | contradiction | rfl

theorem same_256 (x : FVec Ideal S256x128 .f32) (r : Fin 256) (l : Fin 128) :
    shapeCast S256x128 x shapeCasts_S256x128_S256x128 (ix2 r l) = x (ix2 r l) := by
  pointwise

theorem same_512 (x : FVec Ideal S512x128 .f32) (r : Fin 512) (l : Fin 128) :
    shapeCast S512x128 x shapeCasts_S512x128_S512x128 (ix2 r l) = x (ix2 r l) := by
  pointwise

theorem dot_256_256 (p : FVec Ideal S256x256 .bf16) (w : FVec Ideal S256x128 .bf16) (r : Fin 256) (l : Fin 128) (f : Fin 256 → EReal)
    (hf : ∀ c, p (ix2 r c) = f c) :
    matmul dot_S256x256_S256x128_S256x128_1_0_0_1_n_n none p w (constant S256x128 .f32 0x00000000#32 : FVec Ideal S256x128 .f32) (ix2 r l)
      = ∑ c : Fin 256, f c * w (ix2 c l) := by
  refine (Ideal.matmul_plain_apply none _ _ _ r l).trans ?_
  refine (congrArg (· + _) Ideal.ofBits_zero_f32).trans ((zero_add _).trans ?_)
  exact Finset.sum_congr rfl fun c _ => congrArg (· * w (ix2 c l)) (hf c)

theorem dot_256_512 (p : FVec Ideal S256x512 .bf16) (w : FVec Ideal S512x128 .bf16) (r : Fin 256) (l : Fin 128) (f : Fin 512 → EReal)
    (hf : ∀ c, p (ix2 r c) = f c) :
    matmul dot_S256x512_S512x128_S256x128_1_0_0_1_n_n none p w (constant S256x128 .f32 0x00000000#32 : FVec Ideal S256x128 .f32) (ix2 r l)
      = ∑ c : Fin 512, f c * w (ix2 c l) := by
  refine (Ideal.matmul_plain_apply none _ _ _ r l).trans ?_
  refine (congrArg (· + _) Ideal.ofBits_zero_f32).trans ((zero_add _).trans ?_)
  exact Finset.sum_congr rfl fun c _ => congrArg (· * w (ix2 c l)) (hf c)

theorem dot_512_512 (p : FVec Ideal S512x512 .bf16) (w : FVec Ideal S512x128 .bf16) (r : Fin 512) (l : Fin 128) (f : Fin 512 → EReal)
    (hf : ∀ c, p (ix2 r c) = f c) :
    matmul dot_S512x512_S512x128_S512x128_1_0_0_1_n_n none p w (constant S512x128 .f32 0x00000000#32 : FVec Ideal S512x128 .f32) (ix2 r l)
      = ∑ c : Fin 512, f c * w (ix2 c l) := by
  refine (Ideal.matmul_plain_apply none _ _ _ r l).trans ?_
  refine (congrArg (· + _) Ideal.ofBits_zero_f32).trans ((zero_add _).trans ?_)
  exact Finset.sum_congr rfl fun c _ => congrArg (· * w (ix2 c l)) (hf c)

theorem dot_512_1024 (p : FVec Ideal S512x1024 .bf16) (w : FVec Ideal S1024x128 .bf16) (r : Fin 512) (l : Fin 128) (f : Fin 1024 → EReal)
    (hf : ∀ c, p (ix2 r c) = f c) :
    matmul dot_S512x1024_S1024x128_S512x128_1_0_0_1_n_n none p w (constant S512x128 .f32 0x00000000#32 : FVec Ideal S512x128 .f32) (ix2 r l)
      = ∑ c : Fin 1024, f c * w (ix2 c l) := by
  refine (Ideal.matmul_plain_apply none _ _ _ r l).trans ?_
  refine (congrArg (· + _) Ideal.ofBits_zero_f32).trans ((zero_add _).trans ?_)
  exact Finset.sum_congr rfl fun c _ => congrArg (· * w (ix2 c l)) (hf c)

end Cert.Proof.Attn

end
-- ==== Proof.Attn.Step.lean ====
/- The attention body's operations, entry by entry. -/
module

public import proofs.«01_k».proof.Proof.Gen.KernelIdeal.Value
public import proofs.«01_k».proof.Proof.Attn.Block
public import Idealize.ShloMosaic.Lib.MatmulPlain
public import Idealize.ShloMosaic.Lib.Pointwise
public import Idealize.ShloMosaic.Lib.IdealHost
public import Idealize.ShloMosaic.Lib.Pipeline.ValueKit

@[expose] public section

noncomputable section

namespace Cert.Proof.Attn

open Cert.KernelIdeal Cert.KernelIdeal.Gen Idealize.ShloMosaic Idealize.ShloMosaic.TcCoe Idealize.SL.Sem
open scoped BigOperators

theorem max_9 (q : FVec Ideal S512x128 .bf16) (kt : Vec Ideal S1x128x1024 .bf16) (u : Vec Ideal S1x1x1x1024 .f32) (r : Fin 512) (l : Fin 128) :
    k0_pay9 (F := Ideal) q kt u (ix2 r l) = Finset.univ.sup fun c : Fin 1024 => k0_pay7 (F := Ideal) q kt u (ix2 r c) := by
  unfold k0_pay9
  generalize k0_pay7 (F := Ideal) q kt u = G
  exact max_512_1024 G r l

theorem m_65 (x y : FVec Ideal S512x128 .f32) (r : Fin 512) (l : Fin 128) :
    k0_pay65 (F := Ideal) x y (ix2 r l) = max (x (ix2 r l)) (y (ix2 r l)) := by
  unfold k0_pay65 k0_pay63
  pointwise

theorem m_67 (F : FVec Ideal S512x1024 .f32) (x : FVec Ideal S512x128 .f32) (r : Fin 512) (l : Fin 128) :
    k0_pay67 (F := Ideal) F x (ix2 r l) = max (x (ix2 r l)) (Finset.univ.sup fun c : Fin 1024 => F (ix2 r c)) := by
  rw [← max_512_1024 F r l]
  unfold k0_pay67 k0_pay64
  pointwise

theorem acc_66 (W : FVec Ideal S1024x128 .bf16) (F : FVec Ideal S512x1024 .f32) (x y a : FVec Ideal S512x128 .f32) (r : Fin 512) (l : Fin 128)
    (m : EReal) (hm : ∀ l, max (x (ix2 r l)) (y (ix2 r l)) = m) :
    k0_pay66 (F := Ideal) W F x y a (ix2 r l)
      = Ideal.exp2 (x (ix2 r l) - m) * a (ix2 r l) + ∑ c : Fin 1024, Ideal.exp2 (F (ix2 r c) - m) * W (ix2 c l) := by
  have h63 : ∀ l, k0_pay63 (F := Ideal) x y (ix2 r l) = m := fun l => (by unfold k0_pay63; pointwise : _ = max (x (ix2 r l)) (y (ix2 r l))).trans (hm l)
  unfold k0_pay66
  refine (same_512 _ r l).trans ?_
  refine congrArg₂ (· + ·) ?_ (dot_512_1024 _ W r l _ fun c => ?_)
  · exact congrArg (fun z => Ideal.exp2 (x (ix2 r l) - z) * a (ix2 r l)) (h63 l)
  · exact congrArg (fun z => Ideal.exp2 (F (ix2 r c) - z)) (cat_512_1024 _ r m h63 c)

theorem acc_68 (W : FVec Ideal S1024x128 .bf16) (F : FVec Ideal S512x1024 .f32) (x a : FVec Ideal S512x128 .f32) (r : Fin 512) (l : Fin 128)
    (m : EReal) (hm : ∀ l, max (x (ix2 r l)) (Finset.univ.sup fun c : Fin 1024 => F (ix2 r c)) = m) :
    k0_pay68 (F := Ideal) W F x a (ix2 r l)
      = Ideal.exp2 (x (ix2 r l) - m) * a (ix2 r l) + ∑ c : Fin 1024, Ideal.exp2 (F (ix2 r c) - m) * W (ix2 c l) := by
  have h64 : ∀ l, k0_pay64 (F := Ideal) F x (ix2 r l) = m := fun l => by
    rw [← hm l, ← max_512_1024 F r l]
    unfold k0_pay64
    pointwise
  unfold k0_pay68
  generalize k0_pay64 (F := Ideal) F x = y at h64 ⊢
  refine (same_512 _ r l).trans ?_
  refine congrArg₂ (· + ·) ?_ (dot_512_1024 _ W r l _ fun c => ?_)
  · exact congrArg (fun z => Ideal.exp2 (x (ix2 r l) - z) * a (ix2 r l)) (h64 l)
  · exact congrArg (fun z => Ideal.exp2 (F (ix2 r c) - z)) (cat_512_1024 _ r m h64 c)

theorem m_25 (q : FVec Ideal S512x128 .bf16) (kt : Vec Ideal S1x128x512 .bf16) (u : Vec Ideal S1x1x1x512 .f32) (x : FVec Ideal S512x128 .f32) (r : Fin 512) (l : Fin 128) :
    k0_pay25 (F := Ideal) q kt u x (ix2 r l) = max (x (ix2 r l)) (Finset.univ.sup fun c : Fin 512 => k0_pay23 (F := Ideal) q kt u (ix2 r c)) := by
  unfold k0_pay25
  generalize k0_pay23 (F := Ideal) q kt u = G
  exact congrArg (max (x (ix2 r l))) (max_512_512 G r l)

theorem m_76 (x : FVec Ideal S512x128 .f32) (r : Fin 512) (l : Fin 128) : k0_pay76 (F := Ideal) x (ix2 r l) = x (ix2 r l) := by
  unfold k0_pay76
  pointwise

theorem m_78 (F : FVec Ideal S512x512 .f32) (x : FVec Ideal S512x128 .f32) (r : Fin 512) (l : Fin 128) :
    k0_pay78 (F := Ideal) F x (ix2 r l) = max (x (ix2 r l)) (Finset.univ.sup fun c : Fin 512 => F (ix2 r c)) := by
  rw [← max_512_512 F r l]
  unfold k0_pay78 k0_pay75
  pointwise

theorem acc_77 (W : FVec Ideal S512x128 .bf16) (F : FVec Ideal S512x512 .f32) (x y a : FVec Ideal S512x128 .f32) (r : Fin 512) (l : Fin 128)
    (m : EReal) (hm : ∀ l, y (ix2 r l) = m) :
    k0_pay77 (F := Ideal) W F x y a (ix2 r l)
      = Ideal.exp2 (x (ix2 r l) - m) * a (ix2 r l) + ∑ c : Fin 512, Ideal.exp2 (F (ix2 r c) - m) * W (ix2 c l) := by
  unfold k0_pay77
  refine (same_512 _ r l).trans ?_
  refine congrArg₂ (· + ·) ?_ (dot_512_512 _ W r l _ fun c => ?_)
  · exact congrArg (fun z => Ideal.exp2 (x (ix2 r l) - z) * a (ix2 r l)) (hm l)
  · exact congrArg (fun z => Ideal.exp2 (F (ix2 r c) - z)) (cat_512_512 _ r m hm c)

theorem acc_79 (W : FVec Ideal S512x128 .bf16) (F : FVec Ideal S512x512 .f32) (x a : FVec Ideal S512x128 .f32) (r : Fin 512) (l : Fin 128)
    (m : EReal) (hm : ∀ l, max (x (ix2 r l)) (Finset.univ.sup fun c : Fin 512 => F (ix2 r c)) = m) :
    k0_pay79 (F := Ideal) W F x a (ix2 r l)
      = Ideal.exp2 (x (ix2 r l) - m) * a (ix2 r l) + ∑ c : Fin 512, Ideal.exp2 (F (ix2 r c) - m) * W (ix2 c l) := by
  have h75 : ∀ l, k0_pay75 (F := Ideal) F x (ix2 r l) = m := fun l => by
    rw [← hm l, ← max_512_512 F r l]
    unfold k0_pay75
    pointwise
  unfold k0_pay79
  generalize k0_pay75 (F := Ideal) F x = y at h75 ⊢
  refine (same_512 _ r l).trans ?_
  refine congrArg₂ (· + ·) ?_ (dot_512_512 _ W r l _ fun c => ?_)
  · exact congrArg (fun z => Ideal.exp2 (x (ix2 r l) - z) * a (ix2 r l)) (h75 l)
  · exact congrArg (fun z => Ideal.exp2 (F (ix2 r c) - z)) (cat_512_512 _ r m h75 c)

theorem m_55 (F : FVec Ideal S256x256 .f32) (r : Fin 256) (l : Fin 128) :
    k0_pay55 (F := Ideal) (k0_pay47 F) (ix2 r l) = Finset.univ.sup fun c : Fin 256 => F (ix2 r c) := by
  rw [← max_256_256 F r l]
  unfold k0_pay55 k0_pay47
  pointwise

theorem acc_56 (W : FVec Ideal S256x128 .bf16) (F : FVec Ideal S256x256 .f32) (r : Fin 256) (l : Fin 128) :
    k0_pay56 (F := Ideal) W (k0_pay51 F) (ix2 r l)
      = ∑ c : Fin 256, Ideal.exp2 (F (ix2 r c) - Finset.univ.sup fun c : Fin 256 => F (ix2 r c)) * W (ix2 c l) := by
  unfold k0_pay56
  refine (same_256 _ r l).trans ?_
  refine dot_256_256 _ W r l _ fun c => ?_
  exact congrArg (fun z => Ideal.exp2 (F (ix2 r c) - z)) (cat_256_256 _ r _ (max_256_256 F r) c)

theorem m_57 (F : FVec Ideal S256x256 .f32) (r : Fin 256) (l : Fin 128) :
    k0_pay57 (F := Ideal) (k0_pay48 F) (ix2 r l) = Finset.univ.sup fun c : Fin 256 => F (ix2 r c) := by
  rw [← max_256_256 F r l]
  unfold k0_pay57 k0_pay48
  pointwise

theorem acc_58 (W : FVec Ideal S256x128 .bf16) (F : FVec Ideal S256x256 .f32) (r : Fin 256) (l : Fin 128) :
    k0_pay58 (F := Ideal) W (k0_pay52 F) (ix2 r l)
      = ∑ c : Fin 256, Ideal.exp2 (F (ix2 r c) - Finset.univ.sup fun c : Fin 256 => F (ix2 r c)) * W (ix2 c l) := by
  unfold k0_pay58
  refine (same_256 _ r l).trans ?_
  refine dot_256_256 _ W r l _ fun c => ?_
  exact congrArg (fun z => Ideal.exp2 (F (ix2 r c) - z)) (cat_256_256 _ r _ (max_256_256 F r) c)

theorem m_59 (F : FVec Ideal S256x512 .f32) (r : Fin 256) (l : Fin 128) :
    k0_pay59 (F := Ideal) (k0_pay49 F) (ix2 r l) = Finset.univ.sup fun c : Fin 512 => F (ix2 r c) := by
  rw [← max_256_512 F r l]
  unfold k0_pay59 k0_pay49
  pointwise

theorem acc_60 (W : FVec Ideal S512x128 .bf16) (F : FVec Ideal S256x512 .f32) (r : Fin 256) (l : Fin 128) :
    k0_pay60 (F := Ideal) W (k0_pay53 F) (ix2 r l)
      = ∑ c : Fin 512, Ideal.exp2 (F (ix2 r c) - Finset.univ.sup fun c : Fin 512 => F (ix2 r c)) * W (ix2 c l) := by
  unfold k0_pay60
  refine (same_256 _ r l).trans ?_
  refine dot_256_512 _ W r l _ fun c => ?_
  exact congrArg (fun z => Ideal.exp2 (F (ix2 r c) - z)) (cat_256_512 _ r _ (max_256_512 F r) c)

theorem m_61 (q : FVec Ideal S512x128 .bf16) (kt : Vec Ideal S1x128x512 .bf16) (u : Vec Ideal S1x1x1x512 .f32) (r : Fin 256) (l : Fin 128) :
    k0_pay61 (F := Ideal) (k0_pay50 q kt u) (ix2 r l) = Finset.univ.sup fun c : Fin 512 => k0_pay46 (F := Ideal) q kt u (ix2 r c) := by
  unfold k0_pay61 k0_pay50
  generalize k0_pay46 (F := Ideal) q kt u = G
  rw [← max_256_512 G r l]
  pointwise

theorem acc_62 (W : FVec Ideal S512x128 .bf16) (q : FVec Ideal S512x128 .bf16) (kt : Vec Ideal S1x128x512 .bf16) (u : Vec Ideal S1x1x1x512 .f32) (r : Fin 256) (l : Fin 128) :
    k0_pay62 (F := Ideal) W (k0_pay54 q kt u) (ix2 r l)
      = ∑ c : Fin 512, Ideal.exp2 (k0_pay46 (F := Ideal) q kt u (ix2 r c) - Finset.univ.sup fun c : Fin 512 => k0_pay46 (F := Ideal) q kt u (ix2 r c)) * W (ix2 c l) := by
  unfold k0_pay62 k0_pay54 k0_pay50
  generalize k0_pay46 (F := Ideal) q kt u = G
  refine (same_256 _ r l).trans ?_
  refine dot_256_512 _ W r l _ fun c => ?_
  exact congrArg (fun z => Ideal.exp2 (G (ix2 r c) - z)) (cat_256_512 _ r _ (max_256_512 G r) c)

end Cert.Proof.Attn

end
-- ==== Proof.Attn.Rows.lean ====
/- The attention body's state, row by row: what one block of keys does to the running maxima and weighted sums. -/
module

public import proofs.«01_k».proof.Proof.Attn.Step

@[expose] public section

noncomputable section

namespace Cert.Proof.Attn

open Cert.KernelIdeal Cert.KernelIdeal.Gen Idealize.ShloMosaic Idealize.ShloMosaic.TcCoe Idealize.SL.Sem
open scoped BigOperators

/-- A key's position, from its number. -/
def key (j : ℕ) : Fin 4096 := ⟨j % 4096, Nat.mod_lt _ (by norm_num)⟩

/-- The first head's score of row `r` at key `j`; -/
def s0 (x0 : Vec Ideal S1x512x128 .bf16) (x1 : Vec Ideal S1x128x4096 .bf16) (x3 : Vec Ideal S1x1x2x4096 .f32) (r : Fin 512) (j : ℕ) : EReal :=
  (∑ k : Fin 128, k0_pay29 (F := Ideal) x0 (ix2 r k) * x1 (ix3 0 k (key j))) - x3 (ix4 0 0 0 (key j))

/-- the second head's. -/
def s1 (x0 : Vec Ideal S1x512x128 .bf16) (x1 : Vec Ideal S1x128x4096 .bf16) (x3 : Vec Ideal S1x1x2x4096 .f32) (r : Fin 512) (j : ℕ) : EReal :=
  (∑ k : Fin 128, k0_pay30 (F := Ideal) x0 (ix2 r k) * x1 (ix3 0 k (key j))) - x3 (ix4 0 0 1 (key j))

/-- The first head's values, ones in the other head's lanes; -/
def V0 (x2 : Vec Ideal S1x4096x128 .bf16) (l : Fin 128) (j : ℕ) : EReal := if l.val < 64 then x2 (ix3 0 (key j) l) else 1

/-- the second head's. -/
def V1 (x2 : Vec Ideal S1x4096x128 .bf16) (l : Fin 128) (j : ℕ) : EReal := if l.val < 64 then 1 else x2 (ix3 0 (key j) l)

/-- Both heads' maxima and sums over each row's keys `K`. -/
structure St (x0 : Vec Ideal S1x512x128 .bf16) (x1 : Vec Ideal S1x128x4096 .bf16) (x2 : Vec Ideal S1x4096x128 .bf16)
    (x3 : Vec Ideal S1x1x2x4096 .f32) (K : Fin 512 → Finset ℕ) (A B C D : FVec Ideal S512x128 .f32) : Prop where
  a : ∀ r l, A (ix2 r l) = (K r).sup (s0 x0 x1 x3 r)
  b : ∀ r l, B (ix2 r l) = (K r).sup (s1 x0 x1 x3 r)
  c : ∀ r l, C (ix2 r l) = acc (s0 x0 x1 x3 r) (V0 x2 l) (K r)
  d : ∀ r l, D (ix2 r l) = acc (s1 x0 x1 x3 r) (V1 x2 l) (K r)

variable {x0 : Vec Ideal S1x512x128 .bf16} {x1 : Vec Ideal S1x128x4096 .bf16} {x2 : Vec Ideal S1x4096x128 .bf16}
    {x3 : Vec Ideal S1x1x2x4096 .f32}

/-- A block of 1024 keys. -/
theorem wide (h0 : ∀ r j, ∃ x : ℝ, s0 x0 x1 x3 r j = x) (h1 : ∀ r j, ∃ x : ℝ, s1 x0 x1 x3 r j = x)
    {K : Fin 512 → Finset ℕ} {A B C D : FVec Ideal S512x128 .f32} (h : St x0 x1 x2 x3 K A B C D) (hK : ∀ r, (K r).Nonempty)
    (o : ℕ) (hd : ∀ r, Disjoint (K r) (Finset.Ico o (o + 1024)))
    (kt : Vec Ideal S1x128x1024 .bf16) (v : Vec Ideal S1x1024x128 .bf16) (u w : Vec Ideal S1x1x1x1024 .f32)
    (hkt : ∀ k c, kt (ix3 0 k c) = x1 (ix3 0 k (key (o + c.val)))) (hv : ∀ c l, v (ix3 0 c l) = x2 (ix3 0 (key (o + c.val)) l))
    (hu : ∀ c, u (ix4 0 0 0 c) = x3 (ix4 0 0 0 (key (o + c.val)))) (hw : ∀ c, w (ix4 0 0 0 c) = x3 (ix4 0 0 1 (key (o + c.val)))) :
    St x0 x1 x2 x3 (fun r => K r ∪ Finset.Ico o (o + 1024))
      (k0_pay65 A (k0_pay9 (k0_pay29 x0) kt u))
      (k0_pay67 (k0_pay8 (k0_pay30 x0) kt w) B)
      (k0_pay66 (k0_pay5 v) (k0_pay7 (k0_pay29 x0) kt u) A (k0_pay9 (k0_pay29 x0) kt u) C)
      (k0_pay68 (k0_pay6 v) (k0_pay8 (k0_pay30 x0) kt w) B D) := by
  have f0 : ∀ (r : Fin 512) (c : Fin 1024), k0_pay7 (F := Ideal) (k0_pay29 x0) kt u (ix2 r c) = s0 x0 x1 x3 r (o + c.val) := fun r c => by
    rw [score_7, hu]
    exact congrArg (· - _) (Finset.sum_congr rfl fun k _ => congrArg (_ * ·) (hkt k c))
  have f1 : ∀ (r : Fin 512) (c : Fin 1024), k0_pay8 (F := Ideal) (k0_pay30 x0) kt w (ix2 r c) = s1 x0 x1 x3 r (o + c.val) := fun r c => by
    rw [score_8, hw]
    exact congrArg (· - _) (Finset.sum_congr rfl fun k _ => congrArg (_ * ·) (hkt k c))
  have w0 : ∀ (l : Fin 128) (c : Fin 1024), k0_pay5 (F := Ideal) v (ix2 c l) = V0 x2 l (o + c.val) := fun l c => by
    rw [val_5, hv]; rfl
  have w1 : ∀ (l : Fin 128) (c : Fin 1024), k0_pay6 (F := Ideal) v (ix2 c l) = V1 x2 l (o + c.val) := fun l c => by
    rw [val_6, hv]; rfl
  have j0 := fun r => sup_fin 1024 o (s0 x0 x1 x3 r) _ (f0 r)
  have j1 := fun r => sup_fin 1024 o (s1 x0 x1 x3 r) _ (f1 r)
  have hJ : (Finset.Ico o (o + 1024)).Nonempty := Finset.nonempty_Ico.2 (by omega)
  have a0 : ∀ r (l : Fin 128), max (A (ix2 r l)) (k0_pay9 (F := Ideal) (k0_pay29 x0) kt u (ix2 r l))
      = max ((K r).sup (s0 x0 x1 x3 r)) ((Finset.Ico o (o + 1024)).sup (s0 x0 x1 x3 r)) := fun r l => by
    rw [max_9, j0, h.a]
  have b0 : ∀ r (l : Fin 128), max (B (ix2 r l)) (Finset.univ.sup fun c : Fin 1024 => k0_pay8 (F := Ideal) (k0_pay30 x0) kt w (ix2 r c))
      = max ((K r).sup (s1 x0 x1 x3 r)) ((Finset.Ico o (o + 1024)).sup (s1 x0 x1 x3 r)) := fun r l => by
    rw [j1, h.b]
  refine ⟨fun r l => ?_, fun r l => ?_, fun r l => ?_, fun r l => ?_⟩
  · rw [m_65, a0, Finset.sup_union]
  · rw [m_67, b0, Finset.sup_union]
  · rw [acc_66 _ _ _ _ _ r l _ (a0 r), h.a, h.c]
    rw [sum_fin 1024 o (fun j => Ideal.exp2 (s0 x0 x1 x3 r j - max ((K r).sup (s0 x0 x1 x3 r)) ((Finset.Ico o (o + 1024)).sup (s0 x0 x1 x3 r))) * V0 x2 l j) _
      fun c => by rw [f0, w0]]
    exact acc_union _ _ (h0 r) _ _ (hK r) hJ (hd r)
  · rw [acc_68 _ _ _ _ r l _ (b0 r), h.b, h.d]
    rw [sum_fin 1024 o (fun j => Ideal.exp2 (s1 x0 x1 x3 r j - max ((K r).sup (s1 x0 x1 x3 r)) ((Finset.Ico o (o + 1024)).sup (s1 x0 x1 x3 r))) * V1 x2 l j) _
      fun c => by rw [f1, w1]]
    exact acc_union _ _ (h1 r) _ _ (hK r) hJ (hd r)

/-- A block of 512 keys. -/
theorem narrow (h0 : ∀ r j, ∃ x : ℝ, s0 x0 x1 x3 r j = x) (h1 : ∀ r j, ∃ x : ℝ, s1 x0 x1 x3 r j = x)
    {K : Fin 512 → Finset ℕ} {A B C D : FVec Ideal S512x128 .f32} (h : St x0 x1 x2 x3 K A B C D) (hK : ∀ r, (K r).Nonempty)
    (o : ℕ) (hd : ∀ r, Disjoint (K r) (Finset.Ico o (o + 512)))
    (kt : Vec Ideal S1x128x512 .bf16) (v : Vec Ideal S1x512x128 .bf16) (u w : Vec Ideal S1x1x1x512 .f32)
    (hkt : ∀ k c, kt (ix3 0 k c) = x1 (ix3 0 k (key (o + c.val)))) (hv : ∀ c l, v (ix3 0 c l) = x2 (ix3 0 (key (o + c.val)) l))
    (hu : ∀ c, u (ix4 0 0 0 c) = x3 (ix4 0 0 0 (key (o + c.val)))) (hw : ∀ c, w (ix4 0 0 0 c) = x3 (ix4 0 0 1 (key (o + c.val)))) :
    St x0 x1 x2 x3 (fun r => K r ∪ Finset.Ico o (o + 512))
      (k0_pay76 (k0_pay25 (k0_pay29 x0) kt u A))
      (k0_pay78 (k0_pay24 (k0_pay30 x0) kt w) B)
      (k0_pay77 (k0_pay21 v) (k0_pay23 (k0_pay29 x0) kt u) A (k0_pay25 (k0_pay29 x0) kt u A) C)
      (k0_pay79 (k0_pay22 v) (k0_pay24 (k0_pay30 x0) kt w) B D) := by
  have f0 : ∀ (r : Fin 512) (c : Fin 512), k0_pay23 (F := Ideal) (k0_pay29 x0) kt u (ix2 r c) = s0 x0 x1 x3 r (o + c.val) := fun r c => by
    rw [score_23, hu]
    exact congrArg (· - _) (Finset.sum_congr rfl fun k _ => congrArg (_ * ·) (hkt k c))
  have f1 : ∀ (r : Fin 512) (c : Fin 512), k0_pay24 (F := Ideal) (k0_pay30 x0) kt w (ix2 r c) = s1 x0 x1 x3 r (o + c.val) := fun r c => by
    rw [score_24, hw]
    exact congrArg (· - _) (Finset.sum_congr rfl fun k _ => congrArg (_ * ·) (hkt k c))
  have w0 : ∀ (l : Fin 128) (c : Fin 512), k0_pay21 (F := Ideal) v (ix2 c l) = V0 x2 l (o + c.val) := fun l c => by
    rw [val_21, hv]; rfl
  have w1 : ∀ (l : Fin 128) (c : Fin 512), k0_pay22 (F := Ideal) v (ix2 c l) = V1 x2 l (o + c.val) := fun l c => by
    rw [val_22, hv]; rfl
  have j0 := fun r => sup_fin 512 o (s0 x0 x1 x3 r) _ (f0 r)
  have j1 := fun r => sup_fin 512 o (s1 x0 x1 x3 r) _ (f1 r)
  have hJ : (Finset.Ico o (o + 512)).Nonempty := Finset.nonempty_Ico.2 (by omega)
  have a0 : ∀ r (l : Fin 128), k0_pay25 (F := Ideal) (k0_pay29 x0) kt u A (ix2 r l)
      = max ((K r).sup (s0 x0 x1 x3 r)) ((Finset.Ico o (o + 512)).sup (s0 x0 x1 x3 r)) := fun r l => by
    rw [m_25, j0, h.a]
  have b0 : ∀ r (l : Fin 128), max (B (ix2 r l)) (Finset.univ.sup fun c : Fin 512 => k0_pay24 (F := Ideal) (k0_pay30 x0) kt w (ix2 r c))
      = max ((K r).sup (s1 x0 x1 x3 r)) ((Finset.Ico o (o + 512)).sup (s1 x0 x1 x3 r)) := fun r l => by
    rw [j1, h.b]
  refine ⟨fun r l => ?_, fun r l => ?_, fun r l => ?_, fun r l => ?_⟩
  · rw [m_76, a0, Finset.sup_union]
  · rw [m_78, b0, Finset.sup_union]
  · rw [acc_77 _ _ _ _ _ r l _ (a0 r), h.a, h.c]
    rw [sum_fin 512 o (fun j => Ideal.exp2 (s0 x0 x1 x3 r j - max ((K r).sup (s0 x0 x1 x3 r)) ((Finset.Ico o (o + 512)).sup (s0 x0 x1 x3 r))) * V0 x2 l j) _
      fun c => by rw [f0, w0]]
    exact acc_union _ _ (h0 r) _ _ (hK r) hJ (hd r)
  · rw [acc_79 _ _ _ _ r l _ (b0 r), h.b, h.d]
    rw [sum_fin 512 o (fun j => Ideal.exp2 (s1 x0 x1 x3 r j - max ((K r).sup (s1 x0 x1 x3 r)) ((Finset.Ico o (o + 512)).sup (s1 x0 x1 x3 r))) * V1 x2 l j) _
      fun c => by rw [f1, w1]]
    exact acc_union _ _ (h1 r) _ _ (hK r) hJ (hd r)

theorem diag_a (o : ℕ) (kt : Vec Ideal S1x128x256 .bf16) (v : Vec Ideal S1x256x128 .bf16) (u : Vec Ideal S1x1x1x256 .f32)
    (hkt : ∀ k c, kt (ix3 0 k c) = x1 (ix3 0 k (key (o + c.val)))) (hv : ∀ c l, v (ix3 0 c l) = x2 (ix3 0 (key (o + c.val)) l))
    (hu : ∀ c, u (ix4 0 0 0 c) = x3 (ix4 0 0 0 (key (o + c.val)))) (r : Fin 256) (l : Fin 128) :
    k0_pay55 (F := Ideal) (k0_pay47 (k0_pay43 k0_pay41 (k0_pay42 x0 kt) u)) (ix2 r l) = (Finset.Ico o (o + (r.val) + 1)).sup (s0 x0 x1 x3 ⟨r.val, by omega⟩)
    ∧ k0_pay56 (F := Ideal) (k0_pay34 v) (k0_pay51 (k0_pay43 k0_pay41 (k0_pay42 x0 kt) u)) (ix2 r l) = acc (s0 x0 x1 x3 ⟨r.val, by omega⟩) (V0 x2 l) (Finset.Ico o (o + (r.val) + 1)) := by
  have f0 : ∀ c : Fin 256, k0_pay43 (F := Ideal) k0_pay41 (k0_pay42 x0 kt) u (ix2 r c) = if c.val ≤ r.val then s0 x0 x1 x3 ⟨r.val, by omega⟩ (o + c.val) else ⊥ := fun c => by
    rw [score_43, hu]
    refine if_congr Iff.rfl ?_ rfl
    exact congrArg (· - _) (Finset.sum_congr rfl fun k _ => congrArg (_ * ·) (hkt k c))
  have w0 : ∀ c : Fin 256, k0_pay34 (F := Ideal) v (ix2 c l) = V0 x2 l (o + c.val) := fun c => by
    rw [val_34, hv]; rfl
  exact ⟨(m_55 _ r l).trans (sup_masked 256 o _ (by omega) _ _ f0), (acc_56 _ _ r l).trans (sum_masked 256 o _ (by omega) _ _ _ _ f0 w0)⟩

theorem diag_b (o : ℕ) (kt : Vec Ideal S1x128x256 .bf16) (v : Vec Ideal S1x256x128 .bf16) (u : Vec Ideal S1x1x1x256 .f32)
    (hkt : ∀ k c, kt (ix3 0 k c) = x1 (ix3 0 k (key (o + c.val)))) (hv : ∀ c l, v (ix3 0 c l) = x2 (ix3 0 (key (o + c.val)) l))
    (hu : ∀ c, u (ix4 0 0 0 c) = x3 (ix4 0 0 1 (key (o + c.val)))) (r : Fin 256) (l : Fin 128) :
    k0_pay57 (F := Ideal) (k0_pay48 (k0_pay44 (k0_pay30 x0) kt u)) (ix2 r l) = (Finset.Ico o (o + (r.val) + 1)).sup (s1 x0 x1 x3 ⟨r.val, by omega⟩)
    ∧ k0_pay58 (F := Ideal) (k0_pay35 v) (k0_pay52 (k0_pay44 (k0_pay30 x0) kt u)) (ix2 r l) = acc (s1 x0 x1 x3 ⟨r.val, by omega⟩) (V1 x2 l) (Finset.Ico o (o + (r.val) + 1)) := by
  have f0 : ∀ c : Fin 256, k0_pay44 (F := Ideal) (k0_pay30 x0) kt u (ix2 r c) = if c.val ≤ r.val then s1 x0 x1 x3 ⟨r.val, by omega⟩ (o + c.val) else ⊥ := fun c => by
    rw [score_44, hu]
    refine if_congr Iff.rfl ?_ rfl
    exact congrArg (· - _) (Finset.sum_congr rfl fun k _ => congrArg (_ * ·) (hkt k c))
  have w0 : ∀ c : Fin 256, k0_pay35 (F := Ideal) v (ix2 c l) = V1 x2 l (o + c.val) := fun c => by
    rw [val_35, hv]; rfl
  exact ⟨(m_57 _ r l).trans (sup_masked 256 o _ (by omega) _ _ f0), (acc_58 _ _ r l).trans (sum_masked 256 o _ (by omega) _ _ _ _ f0 w0)⟩

theorem diag_c (o : ℕ) (kt : Vec Ideal S1x128x512 .bf16) (v : Vec Ideal S1x512x128 .bf16) (u : Vec Ideal S1x1x1x512 .f32)
    (hkt : ∀ k c, kt (ix3 0 k c) = x1 (ix3 0 k (key (o + c.val)))) (hv : ∀ c l, v (ix3 0 c l) = x2 (ix3 0 (key (o + c.val)) l))
    (hu : ∀ c, u (ix4 0 0 0 c) = x3 (ix4 0 0 0 (key (o + c.val)))) (r : Fin 256) (l : Fin 128) :
    k0_pay59 (F := Ideal) (k0_pay49 (k0_pay45 (k0_pay29 x0) kt u)) (ix2 r l) = (Finset.Ico o (o + (256 + r.val) + 1)).sup (s0 x0 x1 x3 ⟨256 + r.val, by omega⟩)
    ∧ k0_pay60 (F := Ideal) (k0_pay39 v) (k0_pay53 (k0_pay45 (k0_pay29 x0) kt u)) (ix2 r l) = acc (s0 x0 x1 x3 ⟨256 + r.val, by omega⟩) (V0 x2 l) (Finset.Ico o (o + (256 + r.val) + 1)) := by
  have f0 : ∀ c : Fin 512, k0_pay45 (F := Ideal) (k0_pay29 x0) kt u (ix2 r c) = if c.val ≤ 256 + r.val then s0 x0 x1 x3 ⟨256 + r.val, by omega⟩ (o + c.val) else ⊥ := fun c => by
    rw [score_45, hu]
    refine if_congr (by omega) ?_ rfl
    exact congrArg (· - _) (Finset.sum_congr rfl fun k _ => congrArg (_ * ·) (hkt k c))
  have w0 : ∀ c : Fin 512, k0_pay39 (F := Ideal) v (ix2 c l) = V0 x2 l (o + c.val) := fun c => by
    rw [val_39, hv]; rfl
  exact ⟨(m_59 _ r l).trans (sup_masked 512 o _ (by omega) _ _ f0), (acc_60 _ _ r l).trans (sum_masked 512 o _ (by omega) _ _ _ _ f0 w0)⟩

theorem diag_d (o : ℕ) (kt : Vec Ideal S1x128x512 .bf16) (v : Vec Ideal S1x512x128 .bf16) (u : Vec Ideal S1x1x1x512 .f32)
    (hkt : ∀ k c, kt (ix3 0 k c) = x1 (ix3 0 k (key (o + c.val)))) (hv : ∀ c l, v (ix3 0 c l) = x2 (ix3 0 (key (o + c.val)) l))
    (hu : ∀ c, u (ix4 0 0 0 c) = x3 (ix4 0 0 1 (key (o + c.val)))) (r : Fin 256) (l : Fin 128) :
    k0_pay61 (F := Ideal) (k0_pay50 (k0_pay30 x0) kt u) (ix2 r l) = (Finset.Ico o (o + (256 + r.val) + 1)).sup (s1 x0 x1 x3 ⟨256 + r.val, by omega⟩)
    ∧ k0_pay62 (F := Ideal) (k0_pay40 v) (k0_pay54 (k0_pay30 x0) kt u) (ix2 r l) = acc (s1 x0 x1 x3 ⟨256 + r.val, by omega⟩) (V1 x2 l) (Finset.Ico o (o + (256 + r.val) + 1)) := by
  have f0 : ∀ c : Fin 512, k0_pay46 (F := Ideal) (k0_pay30 x0) kt u (ix2 r c) = if c.val ≤ 256 + r.val then s1 x0 x1 x3 ⟨256 + r.val, by omega⟩ (o + c.val) else ⊥ := fun c => by
    rw [score_46, hu]
    refine if_congr (by omega) ?_ rfl
    exact congrArg (· - _) (Finset.sum_congr rfl fun k _ => congrArg (_ * ·) (hkt k c))
  have w0 : ∀ c : Fin 512, k0_pay40 (F := Ideal) v (ix2 c l) = V1 x2 l (o + c.val) := fun c => by
    rw [val_40, hv]; rfl
  exact ⟨(m_61 _ _ _ r l).trans (sup_masked 512 o _ (by omega) _ _ f0), (acc_62 _ _ _ _ r l).trans (sum_masked 512 o _ (by omega) _ _ _ _ f0 w0)⟩

end Cert.Proof.Attn

end
-- ==== Proof.Attn.Offs.lean ====
/- Where the attention body reads: its offsets in closed form over the query block and the wide block's number. -/
module

public import proofs.«01_k».proof.Proof.Gen.KernelIdeal.Value

@[expose] public section

noncomputable section

namespace Cert.Proof.Attn

open Cert.KernelIdeal Cert.KernelIdeal.Gen Idealize.ShloMosaic Idealize.ShloMosaic.TcCoe Idealize.SL.Sem

theorem trips_1 (i : grid0.Coords) : Scf.trips (k0_t1_loop i).lb (k0_t1_loop i).ub (k0_t1_loop i).st = (i 2).val / 2 := by
  unfold k0_t1_loop
  generalize i 2 = j
  revert j
  decide +kernel

theorem trips_2 (i : grid0.Coords) : Scf.trips (k0_t2_loop i).lb (k0_t2_loop i).ub (k0_t2_loop i).st = 0 := by
  unfold k0_t2_loop
  generalize i 2 = j
  revert j
  decide +kernel

theorem off_1 (i : grid0.Coords) : k0_off1 i = ![0, 512 * (i 2).val, 0] := by
  unfold k0_off1
  generalize i 2 = j
  revert j
  decide +kernel

theorem off_2 (i : grid0.Coords) : k0_off2 i = ![0, 512 * (i 2).val, 0] := by
  unfold k0_off2
  generalize i 2 = j
  revert j
  decide +kernel

theorem off_3 (i : grid0.Coords) : k0_off3 i = ![0, 0, 512 * (i 2).val] := by
  unfold k0_off3
  generalize i 2 = j
  revert j
  decide +kernel

theorem off_4 (i : grid0.Coords) : k0_off4 i = ![0, 0, 0, 512 * (i 2).val] := by
  unfold k0_off4
  generalize i 2 = j
  revert j
  decide +kernel

theorem off_5 (i : grid0.Coords) : k0_off5 i = ![0, 0, 1, 512 * (i 2).val] := by
  unfold k0_off5
  generalize i 2 = j
  revert j
  decide +kernel

theorem off_6 (i : grid0.Coords) : k0_off6 i = ![0, 0, 512 * (i 2).val] := by
  unfold k0_off6
  generalize i 2 = j
  revert j
  decide +kernel

theorem off_7 (i : grid0.Coords) : k0_off7 i = ![0, 0, 0, 512 * (i 2).val] := by
  unfold k0_off7
  generalize i 2 = j
  revert j
  decide +kernel

theorem off_8 (i : grid0.Coords) : k0_off8 i = ![0, 0, 1, 512 * (i 2).val] := by
  unfold k0_off8
  generalize i 2 = j
  revert j
  decide +kernel

theorem off_9 (i : grid0.Coords) (k : Fin (k0_t1_loop i).trips) : k0_off9 i k = ![0, 1024 * k.val, 0] := by
  have hk : k.val < 4 := by
    have h := k.isLt
    have h2 := trips_1 i
    have h3 : (i 2).val < 8 := (i 2).isLt
    unfold Scf.Loop.trips at h
    omega
  unfold k0_off9
  generalize k.val = j at hk ⊢
  revert j
  decide +kernel

theorem off_10 (i : grid0.Coords) (k : Fin (k0_t1_loop i).trips) : k0_off10 i k = ![0, 0, 1024 * k.val] := by
  have hk : k.val < 4 := by
    have h := k.isLt
    have h2 := trips_1 i
    have h3 : (i 2).val < 8 := (i 2).isLt
    unfold Scf.Loop.trips at h
    omega
  unfold k0_off10
  generalize k.val = j at hk ⊢
  revert j
  decide +kernel

theorem off_11 (i : grid0.Coords) (k : Fin (k0_t1_loop i).trips) : k0_off11 i k = ![0, 0, 0, 1024 * k.val] := by
  have hk : k.val < 4 := by
    have h := k.isLt
    have h2 := trips_1 i
    have h3 : (i 2).val < 8 := (i 2).isLt
    unfold Scf.Loop.trips at h
    omega
  unfold k0_off11
  generalize k.val = j at hk ⊢
  revert j
  decide +kernel

theorem off_12 (i : grid0.Coords) (k : Fin (k0_t1_loop i).trips) : k0_off12 i k = ![0, 0, 1, 1024 * k.val] := by
  have hk : k.val < 4 := by
    have h := k.isLt
    have h2 := trips_1 i
    have h3 : (i 2).val < 8 := (i 2).isLt
    unfold Scf.Loop.trips at h
    omega
  unfold k0_off12
  generalize k.val = j at hk ⊢
  revert j
  decide +kernel

theorem off_17 (i : grid0.Coords) (h : (i 2).val % 2 = 1) : k0_off17 i = ![0, 512 * ((i 2).val - 1), 0] := by
  unfold k0_off17
  generalize i 2 = j at h ⊢
  revert j
  decide +kernel

theorem off_18 (i : grid0.Coords) (h : (i 2).val % 2 = 1) : k0_off18 i = ![0, 0, 512 * ((i 2).val - 1)] := by
  unfold k0_off18
  generalize i 2 = j at h ⊢
  revert j
  decide +kernel

theorem off_19 (i : grid0.Coords) (h : (i 2).val % 2 = 1) : k0_off19 i = ![0, 0, 0, 512 * ((i 2).val - 1)] := by
  unfold k0_off19
  generalize i 2 = j at h ⊢
  revert j
  decide +kernel

theorem off_20 (i : grid0.Coords) (h : (i 2).val % 2 = 1) : k0_off20 i = ![0, 0, 1, 512 * ((i 2).val - 1)] := by
  unfold k0_off20
  generalize i 2 = j at h ⊢
  revert j
  decide +kernel

end Cert.Proof.Attn

end
-- ==== Proof.Attn.Run.lean ====
/- The attention body's run: its reads, its loop over wide blocks, and what it leaves in its output block. -/
module

public import proofs.«01_k».proof.Proof.Attn.Rows
public import proofs.«01_k».proof.Proof.Attn.Offs
public import Idealize.ShloMosaic.Lib.Claim

@[expose] public section

noncomputable section

namespace Cert.Proof.Attn

open Cert.KernelIdeal Cert.KernelIdeal.Gen Idealize.ShloMosaic Idealize.ShloMosaic.TcCoe Idealize.SL.Sem
open scoped BigOperators

/-! ## Reads -/

/-- A read of a whole staging buffer at a rectangle. -/
theorem rd {s : Shape} {e : EltTy} (v : Memref sig .tc .vmem s e) (h : v.IsWhole) (X : Vec Ideal s e) (r : Rect s) :
    View.readAt (Elt Ideal) v.view r.toLoadRect (h.unread X) = View.ld X r := by
  rw [View.readAt_eq_ld, h.read_unread]

theorem kt_rd (n o : ℕ) (off : Fin 3 → ℕ) (e : off = ![0, 0, o])
    (inb : ∀ a, off a + (![1, 128, n] : Fin 3 → ℕ) a ≤ S1x128x4096.size a) (X : Vec Ideal S1x128x4096 .bf16) (k : Fin 128) (c : Fin n) :
    View.ld (Val := Elt Ideal) (e' := .bf16) X (Rect.unit (s := S1x128x4096) off ![1, 128, n] inb) (ix3 0 k c)
      = X (ix3 0 k (key (o + c.val))) := by
  subst e
  have h : o + n ≤ 4096 := inb 2
  refine congrArg X (funext fun a => ?_)
  fin_cases a
  · exact Subsingleton.elim (α := Fin 1) _ _
  · exact Fin.ext (by show 0 + 1 * k.val = k.val; omega)
  · exact Fin.ext (by show o + 1 * c.val = (o + c.val) % 4096; omega)

theorem v_rd (n o : ℕ) (off : Fin 3 → ℕ) (e : off = ![0, o, 0])
    (inb : ∀ a, off a + (![1, n, 128] : Fin 3 → ℕ) a ≤ S1x4096x128.size a) (X : Vec Ideal S1x4096x128 .bf16) (c : Fin n) (l : Fin 128) :
    View.ld (Val := Elt Ideal) (e' := .bf16) X (Rect.unit (s := S1x4096x128) off ![1, n, 128] inb) (ix3 0 c l)
      = X (ix3 0 (key (o + c.val)) l) := by
  subst e
  have h : o + n ≤ 4096 := inb 1
  refine congrArg X (funext fun a => ?_)
  fin_cases a
  · exact Subsingleton.elim (α := Fin 1) _ _
  · exact Fin.ext (by show o + 1 * c.val = (o + c.val) % 4096; omega)
  · exact Fin.ext (by show 0 + 1 * l.val = l.val; omega)

theorem u_rd (n o : ℕ) (g : Fin 2) (off : Fin 4 → ℕ) (e : off = ![0, 0, g.val, o])
    (inb : ∀ a, off a + (![1, 1, 1, n] : Fin 4 → ℕ) a ≤ S1x1x2x4096.size a) (X : Vec Ideal S1x1x2x4096 .f32) (c : Fin n) :
    View.ld (Val := Elt Ideal) (e' := .f32) X (Rect.unit (s := S1x1x2x4096) off ![1, 1, 1, n] inb) (ix4 0 0 0 c)
      = X (ix4 0 0 g (key (o + c.val))) := by
  subst e
  have h : o + n ≤ 4096 := inb 3
  refine congrArg X (funext fun a => ?_)
  fin_cases a
  · exact Subsingleton.elim (α := Fin 1) _ _
  · exact Subsingleton.elim (α := Fin 1) _ _
  · exact Fin.ext (by show g.val + 1 * 0 = g.val; omega)
  · exact Fin.ext (by show o + 1 * c.val = (o + c.val) % 4096; omega)

theorem q_rd (inb : ∀ a, (![0, 0, 0] : Fin 3 → ℕ) a + S1x512x128.size a ≤ S1x512x128.size a) (X : Vec Ideal S1x512x128 .bf16) :
    View.ld (Val := Elt Ideal) (e' := .bf16) X (Rect.unit ![0, 0, 0] S1x512x128.size inb) = X :=
  View.ld_unit_lit' inb X (by decide)

/-! ## The running arrays -/

theorem canon_whole (L : List (View.Piece (Elt Ideal) S512x128 .f32)) (w : FVec Ideal S512x128 .f32) :
    View.canon ((⟨Rect.unit ![0, 0] ![512, 128] inb_S512x128_S512x128_0_0, w⟩ : View.Piece (Elt Ideal) S512x128 .f32) :: L) = w :=
  View.canon_cons_unit_lit' (S := S512x128) inb_S512x128_S512x128_0_0 w L (by decide)

theorem read_whole (v : Memref sig .tc .vmem S512x128 .f32) (L : List (View.Piece (Elt Ideal) S512x128 .f32)) :
    View.readAt (Elt Ideal) v.view (Rect.unit ![0, 0] ![512, 128] inb_S512x128_S512x128_0_0).toLoadRect (v.view.writes (Elt Ideal) v.view.junk L)
      = View.canon L := by
  rw [View.readAt_writes_junk_eq_canon]
  exact View.ld_unit_lit' (S := S512x128) inb_S512x128_S512x128_0_0 (View.canon L) (by decide)

theorem cov_whole (v : Memref sig .tc .vmem S512x128 .f32) (L : List (View.Piece (Elt Ideal) S512x128 .f32)) :
    v.view.readCov L (Rect.unit ![0, 0] ![512, 128] inb_S512x128_S512x128_0_0).toLoadRect = View.canon L := by
  rw [View.readCov_eq_canon']
  exact View.ld_unit_lit' (S := S512x128) inb_S512x128_S512x128_0_0 (View.canon L) (by decide)

theorem split_lo (hi lo : FVec Ideal S256x128 .f32) (r : Fin 256) (l : Fin 128) :
    View.canon [(⟨Rect.unit ![256, 0] S256x128.size inb_S512x128_S256x128_256_0, hi⟩ : View.Piece (Elt Ideal) S512x128 .f32),
      ⟨Rect.unit ![0, 0] S256x128.size inb_S512x128_S256x128_0_0, lo⟩] (ix2 ⟨r.val, by omega⟩ l : S512x128.Idx) = lo (ix2 r l) := by
  rw [View.canon_cons_of_not_mem]
  · have e : (ix2 ⟨r.val, by omega⟩ l : S512x128.Idx) = (Rect.unit (s := S512x128) ![0, 0] S256x128.size inb_S512x128_S256x128_0_0).emb (ix2 r l) := by
      funext a
      fin_cases a
      · exact Fin.ext (by show r.val = 0 + 1 * r.val; omega)
      · exact Fin.ext (by show l.val = 0 + 1 * l.val; omega)
    rw [e]
    exact View.canon_cons_emb _ _ _ _
  · intro h
    have h2 := (Rect.mem_set_unit (inb := inb_S512x128_S256x128_256_0).1 h) 0
    have h3 : 256 ≤ r.val := h2.1
    omega

theorem split_hi (hi lo : FVec Ideal S256x128 .f32) (r : Fin 256) (l : Fin 128) :
    View.canon [(⟨Rect.unit ![256, 0] S256x128.size inb_S512x128_S256x128_256_0, hi⟩ : View.Piece (Elt Ideal) S512x128 .f32),
      ⟨Rect.unit ![0, 0] S256x128.size inb_S512x128_S256x128_0_0, lo⟩] (ix2 ⟨256 + r.val, by omega⟩ l : S512x128.Idx) = hi (ix2 r l) := by
  have e : (ix2 ⟨256 + r.val, by omega⟩ l : S512x128.Idx) = (Rect.unit (s := S512x128) ![256, 0] S256x128.size inb_S512x128_S256x128_256_0).emb (ix2 r l) := by
    funext a
    fin_cases a
    · exact Fin.ext (by show 256 + r.val = 256 + 1 * r.val; omega)
    · exact Fin.ext (by show l.val = 0 + 1 * l.val; omega)
  rw [e]
  exact View.canon_cons_emb _ _ _ _

/-- Rows in two halves. -/
theorem halves (P : Fin 512 → Prop) (lo : ∀ r : Fin 256, P ⟨r.val, by omega⟩) (hi : ∀ r : Fin 256, P ⟨256 + r.val, by omega⟩) (r : Fin 512) : P r := by
  by_cases h : r.val < 256
  · exact lo ⟨r.val, h⟩
  · have e : r = ⟨256 + (r.val - 256), by omega⟩ := Fin.ext (by show r.val = 256 + (r.val - 256); omega)
    rw [e]
    exact hi ⟨r.val - 256, by omega⟩

variable (c : Dev nD) (i : grid0.Coords) (arg3 : Memref sig .tc .vmem S1x512x128 .bf16) (harg3 : arg3.IsWhole)
    (arg4 : Memref sig .tc .vmem S1x128x4096 .bf16) (harg4 : arg4.IsWhole) (arg5 : Memref sig .tc .vmem S1x4096x128 .bf16) (harg5 : arg5.IsWhole)
    (arg6 : Memref sig .tc .vmem S1x1x2x4096 .f32) (harg6 : arg6.IsWhole) (arg7 : Memref sig .tc .vmem S1x512x128 .bf16) (harg7 : arg7.IsWhole)
    (arg8 : Memref sig .tc .vmem S512x128 .f32) (harg8 : arg8.IsWhole) (arg9 : Memref sig .tc .vmem S512x128 .f32) (harg9 : arg9.IsWhole)
    (arg10 : Memref sig .tc .vmem S512x128 .f32) (harg10 : arg10.IsWhole) (arg11 : Memref sig .tc .vmem S512x128 .f32) (harg11 : arg11.IsWhole)
    (x0 : Vec Ideal S1x512x128 .bf16) (x1 : Vec Ideal S1x128x4096 .bf16) (x2 : Vec Ideal S1x4096x128 .bf16) (x3 : Vec Ideal S1x1x2x4096 .f32)

/-- One trip's pieces, from its reads. -/
theorem trip_eq (𝒱 : Variants) (bd : Option 𝒱.V) (a2 : BitVec 32) (v6 v7 : FVec Ideal S512x128 .bf16) (b1 b2 b3 : BitVec 32)
    (X4 : BufTy.Contents (Elt Ideal) arg4.view.ty) (X5 : BufTy.Contents (Elt Ideal) arg5.view.ty) (X6 : BufTy.Contents (Elt Ideal) arg6.view.ty)
    (k : Fin (k0_t1_loop i).trips) (f8 : BufTy.Contents (Elt Ideal) arg8.view.ty) (f9 : BufTy.Contents (Elt Ideal) arg9.view.ty)
    (f10 : BufTy.Contents (Elt Ideal) arg10.view.ty) (f11 : BufTy.Contents (Elt Ideal) arg11.view.ty) :
    tripL_k0_t1 (F := Ideal) 𝒱 c bd i arg3 harg3 arg4 harg4 arg5 harg5 arg6 harg6 arg7 harg7 arg8 harg8 arg9 harg9 arg10 harg10 arg11 harg11
        a2 v6 v7 b1 b2 b3 X4 X5 X6 k f8 f9 f10 f11
      = (let R := Rect.unit (s := S512x128) ![0, 0] ![512, 128] inb_S512x128_S512x128_0_0
         let kt := View.readAt (Elt Ideal) arg4.view (Rect.unit (s := S1x128x4096) (k0_off10 i k) S1x128x1024.size (k0_off10_inb i k)).toLoadRect X4
         let v := View.readAt (Elt Ideal) arg5.view (Rect.unit (s := S1x4096x128) (k0_off9 i k) S1x1024x128.size (k0_off9_inb i k)).toLoadRect X5
         let u := View.readAt (Elt Ideal) arg6.view (Rect.unit (s := S1x1x2x4096) (k0_off11 i k) S1x1x1x1024.size (k0_off11_inb i k)).toLoadRect X6
         let w := View.readAt (Elt Ideal) arg6.view (Rect.unit (s := S1x1x2x4096) (k0_off12 i k) S1x1x1x1024.size (k0_off12_inb i k)).toLoadRect X6
         let A := View.readAt (Elt Ideal) arg8.view R.toLoadRect f8
         let B := View.readAt (Elt Ideal) arg9.view R.toLoadRect f9
         let C := View.readAt (Elt Ideal) arg10.view R.toLoadRect f10
         let D := View.readAt (Elt Ideal) arg11.view R.toLoadRect f11
         ([⟨R, k0_pay65 A (k0_pay9 v6 kt u)⟩], [⟨R, k0_pay67 (k0_pay8 v7 kt w) B⟩],
          [⟨R, k0_pay66 (k0_pay5 v) (k0_pay7 v6 kt u) A (k0_pay9 v6 kt u) C⟩],
          [⟨R, k0_pay68 (k0_pay6 v) (k0_pay8 v7 kt w) B D⟩])) := by
  unfold tripL_k0_t1 trip_k0_t1
  dsimp only
  rfl

/-- The loop over wide blocks of keys. -/
theorem loop (h0 : ∀ r j, ∃ x : ℝ, s0 x0 x1 x3 r j = x) (h1 : ∀ r j, ∃ x : ℝ, s1 x0 x1 x3 r j = x)
    (𝒱 : Variants) (bd : Option 𝒱.V) (a2 b1 b2 b3 : BitVec 32) (L0 L1 L2 L3 : List (View.Piece (Elt Ideal) S512x128 .f32))
    {K : Fin 512 → Finset ℕ} (h : St x0 x1 x2 x3 K (View.canon L0) (View.canon L1) (View.canon L2) (View.canon L3))
    (hK : ∀ r, (K r).Nonempty) (hd : ∀ r, ∀ j ∈ K r, 1024 * (k0_t1_loop i).trips ≤ j) (k : ℕ) (hk : k ≤ (k0_t1_loop i).trips) :
    let P := pb_k0_t1 (F := Ideal) 𝒱 c bd i arg3 harg3 arg4 harg4 arg5 harg5 arg6 harg6 arg7 harg7 arg8 harg8 arg9 harg9 arg10 harg10 arg11 harg11
      a2 (k0_pay29 x0) (k0_pay30 x0) b1 b2 b3 (harg4.unread x1) (harg5.unread x2) (harg6.unread x3)
      (arg8.view.writes (Elt Ideal) arg8.view.junk L0) (arg9.view.writes (Elt Ideal) arg9.view.junk L1)
      (arg10.view.writes (Elt Ideal) arg10.view.junk L2) (arg11.view.writes (Elt Ideal) arg11.view.junk L3) k
    St x0 x1 x2 x3 (fun r => K r ∪ Finset.Ico 0 (1024 * k))
      (View.canon (P.1 ++ L0)) (View.canon (P.2.1 ++ L1)) (View.canon (P.2.2.1 ++ L2)) (View.canon (P.2.2.2 ++ L3)) := by
  induction k with
  | zero =>
    intro P
    have e : (fun r => K r ∪ Finset.Ico 0 (1024 * 0)) = K := by funext r; simp
    rw [e]
    exact h
  | succ k ih =>
    have ih := ih (by omega)
    intro P
    have e := pb_k0_t1_succ (F := Ideal) 𝒱 c bd i arg3 harg3 arg4 harg4 arg5 harg5 arg6 harg6 arg7 harg7 arg8 harg8 arg9 harg9 arg10 harg10 arg11 harg11
      a2 (k0_pay29 x0) (k0_pay30 x0) b1 b2 b3 (harg4.unread x1) (harg5.unread x2) (harg6.unread x3)
      (arg8.view.writes (Elt Ideal) arg8.view.junk L0) (arg9.view.writes (Elt Ideal) arg9.view.junk L1)
      (arg10.view.writes (Elt Ideal) arg10.view.junk L2) (arg11.view.writes (Elt Ideal) arg11.view.junk L3) ⟨k, by omega⟩
    change P = _ at e
    rw [e, trip_eq]
    dsimp only at ih ⊢
    generalize pb_k0_t1 (F := Ideal) 𝒱 c bd i arg3 harg3 arg4 harg4 arg5 harg5 arg6 harg6 arg7 harg7 arg8 harg8 arg9 harg9 arg10 harg10 arg11 harg11
      a2 (k0_pay29 x0) (k0_pay30 x0) b1 b2 b3 (harg4.unread x1) (harg5.unread x2) (harg6.unread x3)
      (arg8.view.writes (Elt Ideal) arg8.view.junk L0) (arg9.view.writes (Elt Ideal) arg9.view.junk L1)
      (arg10.view.writes (Elt Ideal) arg10.view.junk L2) (arg11.view.writes (Elt Ideal) arg11.view.junk L3) k = Q at ih ⊢
    rw [← View.writes_append, ← View.writes_append, ← View.writes_append, ← View.writes_append,
      read_whole, read_whole, read_whole, read_whole]
    simp only [List.cons_append, List.nil_append, canon_whole]
    have hs : (fun r => K r ∪ Finset.Ico 0 (1024 * (k + 1))) = fun r => (K r ∪ Finset.Ico 0 (1024 * k)) ∪ Finset.Ico (1024 * k) (1024 * k + 1024) := by
      funext r
      rw [Finset.union_assoc, Finset.Ico_union_Ico_eq_Ico (by omega) (by omega)]
      rfl
    rw [hs]
    refine wide h0 h1 ih (fun r => (hK r).mono Finset.subset_union_left) (1024 * k) (fun r => ?_) _ _ _ _
      (fun k' c' => (congrFun (rd arg4 harg4 x1 _) _).trans (kt_rd 1024 (1024 * k) _ (off_10 i ⟨k, by omega⟩) _ x1 k' c'))
      (fun c' l => (congrFun (rd arg5 harg5 x2 _) _).trans (v_rd 1024 (1024 * k) _ (off_9 i ⟨k, by omega⟩) _ x2 c' l))
      (fun c' => (congrFun (rd arg6 harg6 x3 _) _).trans (u_rd 1024 (1024 * k) 0 _ (off_11 i ⟨k, by omega⟩) _ x3 c'))
      (fun c' => (congrFun (rd arg6 harg6 x3 _) _).trans (u_rd 1024 (1024 * k) 1 _ (off_12 i ⟨k, by omega⟩) _ x3 c'))
    rw [Finset.disjoint_left]
    intro j hj hj2
    rw [Finset.mem_Ico] at hj2
    rcases Finset.mem_union.1 hj with hj | hj
    · have := hd r j hj
      omega
    · rw [Finset.mem_Ico] at hj
      omega

/-- The diagonal block of keys, both halves of rows. -/
theorem diag_st (kt1 : Vec Ideal S1x128x256 .bf16) (v1 : Vec Ideal S1x256x128 .bf16) (u1 w1 : Vec Ideal S1x1x1x256 .f32)
    (kt2 : Vec Ideal S1x128x512 .bf16) (v2 : Vec Ideal S1x512x128 .bf16) (u2 w2 : Vec Ideal S1x1x1x512 .f32) (o : ℕ)
    (hkt1 : ∀ k c, kt1 (ix3 0 k c) = x1 (ix3 0 k (key (o + c.val)))) (hv1 : ∀ c l, v1 (ix3 0 c l) = x2 (ix3 0 (key (o + c.val)) l))
    (hu1 : ∀ c, u1 (ix4 0 0 0 c) = x3 (ix4 0 0 0 (key (o + c.val)))) (hw1 : ∀ c, w1 (ix4 0 0 0 c) = x3 (ix4 0 0 1 (key (o + c.val))))
    (hkt2 : ∀ k c, kt2 (ix3 0 k c) = x1 (ix3 0 k (key (o + c.val)))) (hv2 : ∀ c l, v2 (ix3 0 c l) = x2 (ix3 0 (key (o + c.val)) l))
    (hu2 : ∀ c, u2 (ix4 0 0 0 c) = x3 (ix4 0 0 0 (key (o + c.val)))) (hw2 : ∀ c, w2 (ix4 0 0 0 c) = x3 (ix4 0 0 1 (key (o + c.val))))
    (L0 L1 L2 L3 : List (View.Piece (Elt Ideal) S512x128 .f32))
    (e0 : L0 = [⟨Rect.unit ![256, 0] S256x128.size inb_S512x128_S256x128_256_0, k0_pay59 (k0_pay49 (k0_pay45 (k0_pay29 x0) kt2 u2))⟩,
      ⟨Rect.unit ![0, 0] S256x128.size inb_S512x128_S256x128_0_0, k0_pay55 (k0_pay47 (k0_pay43 k0_pay41 (k0_pay42 x0 kt1) u1))⟩])
    (e1 : L1 = [⟨Rect.unit ![256, 0] S256x128.size inb_S512x128_S256x128_256_0, k0_pay61 (k0_pay50 (k0_pay30 x0) kt2 w2)⟩,
      ⟨Rect.unit ![0, 0] S256x128.size inb_S512x128_S256x128_0_0, k0_pay57 (k0_pay48 (k0_pay44 (k0_pay30 x0) kt1 w1))⟩])
    (e2 : L2 = [⟨Rect.unit ![256, 0] S256x128.size inb_S512x128_S256x128_256_0, k0_pay60 (k0_pay39 v2) (k0_pay53 (k0_pay45 (k0_pay29 x0) kt2 u2))⟩,
      ⟨Rect.unit ![0, 0] S256x128.size inb_S512x128_S256x128_0_0, k0_pay56 (k0_pay34 v1) (k0_pay51 (k0_pay43 k0_pay41 (k0_pay42 x0 kt1) u1))⟩])
    (e3 : L3 = [⟨Rect.unit ![256, 0] S256x128.size inb_S512x128_S256x128_256_0, k0_pay62 (k0_pay40 v2) (k0_pay54 (k0_pay30 x0) kt2 w2)⟩,
      ⟨Rect.unit ![0, 0] S256x128.size inb_S512x128_S256x128_0_0, k0_pay58 (k0_pay35 v1) (k0_pay52 (k0_pay44 (k0_pay30 x0) kt1 w1))⟩]) :
    St x0 x1 x2 x3 (fun r => Finset.Ico o (o + r.val + 1)) (View.canon L0) (View.canon L1) (View.canon L2) (View.canon L3) := by
  subst e0 e1 e2 e3
  refine ⟨fun r l => ?_, fun r l => ?_, fun r l => ?_, fun r l => ?_⟩
  · revert r
    exact halves _ (fun r => (split_lo _ _ r l).trans (diag_a (x2 := x2) o kt1 v1 u1 hkt1 hv1 hu1 r l).1)
      (fun r => (split_hi _ _ r l).trans (diag_c (x2 := x2) o kt2 v2 u2 hkt2 hv2 hu2 r l).1)
  · revert r
    exact halves _ (fun r => (split_lo _ _ r l).trans (diag_b (x2 := x2) o kt1 v1 w1 hkt1 hv1 hw1 r l).1)
      (fun r => (split_hi _ _ r l).trans (diag_d (x2 := x2) o kt2 v2 w2 hkt2 hv2 hw2 r l).1)
  · revert r
    exact halves _ (fun r => (split_lo _ _ r l).trans (diag_a o kt1 v1 u1 hkt1 hv1 hu1 r l).2)
      (fun r => (split_hi _ _ r l).trans (diag_c o kt2 v2 u2 hkt2 hv2 hu2 r l).2)
  · revert r
    exact halves _ (fun r => (split_lo _ _ r l).trans (diag_b o kt1 v1 w1 hkt1 hv1 hw1 r l).2)
      (fun r => (split_hi _ _ r l).trans (diag_d o kt2 v2 w2 hkt2 hv2 hw2 r l).2)

end Cert.Proof.Attn

end
-- ==== Proof.Attn.Out.lean ====
/- What the attention body leaves in its output block. -/
module

public import proofs.«01_k».proof.Proof.Attn.Run

@[expose] public section

noncomputable section

namespace Cert.Proof.Attn

open Cert.KernelIdeal Cert.KernelIdeal.Gen Idealize.ShloMosaic Idealize.ShloMosaic.TcCoe Idealize.SL.Sem
open scoped BigOperators

variable (c : Dev nD) (i : grid0.Coords) (arg3 : Memref sig .tc .vmem S1x512x128 .bf16) (harg3 : arg3.IsWhole)
    (arg4 : Memref sig .tc .vmem S1x128x4096 .bf16) (harg4 : arg4.IsWhole) (arg5 : Memref sig .tc .vmem S1x4096x128 .bf16) (harg5 : arg5.IsWhole)
    (arg6 : Memref sig .tc .vmem S1x1x2x4096 .f32) (harg6 : arg6.IsWhole) (arg7 : Memref sig .tc .vmem S1x512x128 .bf16) (harg7 : arg7.IsWhole)
    (arg8 : Memref sig .tc .vmem S512x128 .f32) (harg8 : arg8.IsWhole) (arg9 : Memref sig .tc .vmem S512x128 .f32) (harg9 : arg9.IsWhole)
    (arg10 : Memref sig .tc .vmem S512x128 .f32) (harg10 : arg10.IsWhole) (arg11 : Memref sig .tc .vmem S512x128 .f32) (harg11 : arg11.IsWhole)
    (x0 : Vec Ideal S1x512x128 .bf16) (x1 : Vec Ideal S1x128x4096 .bf16) (x2 : Vec Ideal S1x4096x128 .bf16) (x3 : Vec Ideal S1x1x2x4096 .f32)

/-- One block of results: each head's weighted sum over the row's keys, divided by the weights' sum. -/
def blockOut (n : ℕ) (r : Fin 512) (l : Fin 128) : EReal :=
  if l.val < 64 then Ideal.div (acc (s0 x0 x1 x3 r) (V0 x2 l) (Finset.range (n + r.val + 1))) (acc (s0 x0 x1 x3 r) (V0 x2 127) (Finset.range (n + r.val + 1)))
  else Ideal.div (acc (s1 x0 x1 x3 r) (V1 x2 l) (Finset.range (n + r.val + 1))) (acc (s1 x0 x1 x3 r) (V1 x2 0) (Finset.range (n + r.val + 1)))

theorem diag_A : St x0 x1 x2 x3 (fun r => Finset.Ico (512 * (i 2).val) (512 * (i 2).val + r.val + 1))
    (View.canon (kernelRun0_A.sl.HS0_2 (F := Ideal) c i arg3 harg3 arg4 harg4 arg6 harg6 x0 x1 x3))
    (View.canon (kernelRun0_A.sl.HS1_2 (F := Ideal) c i arg3 harg3 arg4 harg4 arg6 harg6 x0 x1 x3))
    (View.canon (kernelRun0_A.sl.HS2_2 (F := Ideal) c i arg3 harg3 arg4 harg4 arg5 harg5 arg6 harg6 x0 x1 x2 x3))
    (View.canon (kernelRun0_A.sl.HS3_2 (F := Ideal) c i arg3 harg3 arg4 harg4 arg5 harg5 arg6 harg6 x0 x1 x2 x3)) := by
  have e : View.readAt (Elt Ideal) arg3.view (Rect.unit ![0, 0, 0] S1x512x128.size inb_S1x512x128_S1x512x128_0_0_0).toLoadRect (harg3.unread x0) = x0 :=
    (rd arg3 harg3 x0 _).trans (q_rd _ x0)
  refine diag_st x0 x1 x2 x3 _ _ _ _ _ _ _ _ (512 * (i 2).val)
    (fun k' c' => (congrFun (rd arg4 harg4 x1 _) _).trans (kt_rd 256 _ _ (off_3 i) (k0_off3_inb i) x1 k' c'))
    (fun c' l => (congrFun (rd arg5 harg5 x2 _) _).trans (v_rd 256 _ _ (off_1 i) (k0_off1_inb i) x2 c' l))
    (fun c' => (congrFun (rd arg6 harg6 x3 _) _).trans (u_rd 256 _ 0 _ (off_4 i) (k0_off4_inb i) x3 c'))
    (fun c' => (congrFun (rd arg6 harg6 x3 _) _).trans (u_rd 256 _ 1 _ (off_5 i) (k0_off5_inb i) x3 c'))
    (fun k' c' => (congrFun (rd arg4 harg4 x1 _) _).trans (kt_rd 512 _ _ (off_6 i) (k0_off6_inb i) x1 k' c'))
    (fun c' l => (congrFun (rd arg5 harg5 x2 _) _).trans (v_rd 512 _ _ (off_2 i) (k0_off2_inb i) x2 c' l))
    (fun c' => (congrFun (rd arg6 harg6 x3 _) _).trans (u_rd 512 _ 0 _ (off_7 i) (k0_off7_inb i) x3 c'))
    (fun c' => (congrFun (rd arg6 harg6 x3 _) _).trans (u_rd 512 _ 1 _ (off_8 i) (k0_off8_inb i) x3 c'))
    _ _ _ _ ?_ ?_ ?_ ?_
  · conv_rhs => rw [← e]
    rfl
  · conv_rhs => rw [← e]
    rfl
  · conv_rhs => rw [← e]
    rfl
  · conv_rhs => rw [← e]
    rfl

theorem diag_B : St x0 x1 x2 x3 (fun r => Finset.Ico (512 * (i 2).val) (512 * (i 2).val + r.val + 1))
    (View.canon (kernelRun0_B.sl.HS0_2 (F := Ideal) c i arg3 harg3 arg4 harg4 arg6 harg6 x0 x1 x3))
    (View.canon (kernelRun0_B.sl.HS1_2 (F := Ideal) c i arg3 harg3 arg4 harg4 arg6 harg6 x0 x1 x3))
    (View.canon (kernelRun0_B.sl.HS2_2 (F := Ideal) c i arg3 harg3 arg4 harg4 arg5 harg5 arg6 harg6 x0 x1 x2 x3))
    (View.canon (kernelRun0_B.sl.HS3_2 (F := Ideal) c i arg3 harg3 arg4 harg4 arg5 harg5 arg6 harg6 x0 x1 x2 x3)) := by
  have e : View.readAt (Elt Ideal) arg3.view (Rect.unit ![0, 0, 0] S1x512x128.size inb_S1x512x128_S1x512x128_0_0_0).toLoadRect (harg3.unread x0) = x0 :=
    (rd arg3 harg3 x0 _).trans (q_rd _ x0)
  refine diag_st x0 x1 x2 x3 _ _ _ _ _ _ _ _ (512 * (i 2).val)
    (fun k' c' => (congrFun (rd arg4 harg4 x1 _) _).trans (kt_rd 256 _ _ (off_3 i) (k0_off3_inb i) x1 k' c'))
    (fun c' l => (congrFun (rd arg5 harg5 x2 _) _).trans (v_rd 256 _ _ (off_1 i) (k0_off1_inb i) x2 c' l))
    (fun c' => (congrFun (rd arg6 harg6 x3 _) _).trans (u_rd 256 _ 0 _ (off_4 i) (k0_off4_inb i) x3 c'))
    (fun c' => (congrFun (rd arg6 harg6 x3 _) _).trans (u_rd 256 _ 1 _ (off_5 i) (k0_off5_inb i) x3 c'))
    (fun k' c' => (congrFun (rd arg4 harg4 x1 _) _).trans (kt_rd 512 _ _ (off_6 i) (k0_off6_inb i) x1 k' c'))
    (fun c' l => (congrFun (rd arg5 harg5 x2 _) _).trans (v_rd 512 _ _ (off_2 i) (k0_off2_inb i) x2 c' l))
    (fun c' => (congrFun (rd arg6 harg6 x3 _) _).trans (u_rd 512 _ 0 _ (off_7 i) (k0_off7_inb i) x3 c'))
    (fun c' => (congrFun (rd arg6 harg6 x3 _) _).trans (u_rd 512 _ 1 _ (off_8 i) (k0_off8_inb i) x3 c'))
    _ _ _ _ ?_ ?_ ?_ ?_
  · conv_rhs => rw [← e]
    rfl
  · conv_rhs => rw [← e]
    rfl
  · conv_rhs => rw [← e]
    rfl
  · conv_rhs => rw [← e]
    rfl

/-- The narrow loop makes no trip. -/
theorem none_2 (𝒱 : Variants) (bd : Option 𝒱.V) (a2 : BitVec 32) (v6 v7 : FVec Ideal S512x128 .bf16) (b1 b2 b3 b4 : BitVec 32)
    (X4 : BufTy.Contents (Elt Ideal) arg4.view.ty) (X5 : BufTy.Contents (Elt Ideal) arg5.view.ty) (X6 : BufTy.Contents (Elt Ideal) arg6.view.ty)
    (f8 : BufTy.Contents (Elt Ideal) arg8.view.ty) (f9 : BufTy.Contents (Elt Ideal) arg9.view.ty)
    (f10 : BufTy.Contents (Elt Ideal) arg10.view.ty) (f11 : BufTy.Contents (Elt Ideal) arg11.view.ty) :
    pb_k0_t2 (F := Ideal) 𝒱 c bd i arg3 harg3 arg4 harg4 arg5 harg5 arg6 harg6 arg7 harg7 arg8 harg8 arg9 harg9 arg10 harg10 arg11 harg11
        a2 v6 v7 b1 b2 b3 b4 X4 X5 X6 f8 f9 f10 f11 (Scf.trips (k0_t2_loop i).lb (k0_t2_loop i).ub (k0_t2_loop i).st) = ([], [], [], []) := by
  rw [trips_2]
  rfl

theorem read_whole' (v : Memref sig .tc .vmem S512x128 .f32) (L : List (View.Piece (Elt Ideal) S512x128 .f32)) :
    View.readAt (Elt Ideal) v.view (Rect.unit ![0, 0] S512x128.size inb_S512x128_S512x128_0_0).toLoadRect (v.view.writes (Elt Ideal) v.view.junk L)
      = View.canon L := read_whole v L

theorem cond_odd (i : grid0.Coords) : cond0_0 i ↔ (i 2).val % 2 = 1 := by
  unfold cond0_0 k0_cond1
  generalize i 2 = j
  revert j
  decide +kernel

theorem out_A (h0 : ∀ r j, ∃ x : ℝ, s0 x0 x1 x3 r j = x) (h1 : ∀ r j, ∃ x : ℝ, s1 x0 x1 x3 r j = x) (hc0 : ¬cond0_0 i) (r : Fin 512) (l : Fin 128) :
    out0_A_4 (F := Ideal) c i arg3 harg3 arg4 harg4 arg5 harg5 arg6 harg6 arg7 harg7 arg8 harg8 arg9 harg9 arg10 harg10 arg11 harg11 hc0 x0 x1 x2 x3 (ix3 0 r l)
      = blockOut x0 x1 x2 x3 (512 * (i 2).val) r l := by
  unfold out0_A_4
  rw [View.read_writes_junk_eq_canon]
  unfold kernelRun0_A
  dsimp only
  rw [View.canon_cons_unit_lit' (S := S1x512x128) inb_S1x512x128_S1x512x128_0_0_0 _ _ (by decide), out_1]
  unfold kernelRun0_A.sl.v191 kernelRun0_A.sl.v192
  rw [read_whole', read_whole', none_2]
  simp only [List.nil_append]

  have hq0 : kernelRun0_A.sl.r (F := Ideal) c arg3 harg3 x0 = k0_pay29 x0 := congrArg k0_pay29 ((rd arg3 harg3 x0 _).trans (q_rd _ x0))
  have hq1 : kernelRun0_A.sl.r_1 (F := Ideal) c arg3 harg3 x0 = k0_pay30 x0 := congrArg k0_pay30 ((rd arg3 harg3 x0 _).trans (q_rd _ x0))
  rw [hq0, hq1]
  have hp : (i 2).val % 2 = 0 := by
    have := mt (cond_odd i).2 hc0
    omega
  have ht : (k0_t1_loop i).trips = (i 2).val / 2 := trips_1 i
  have h := loop c i arg3 harg3 arg4 harg4 arg5 harg5 arg6 harg6 arg7 harg7 arg8 harg8 arg9 harg9 arg10 harg10 arg11 harg11 x0 x1 x2 x3
    h0 h1 Variants.none none (BitVec.ofNat 32 (i 2).val) 2#32 (kernelRun0_A.sl.v156 i) 0#32 _ _ _ _
    (diag_A c i arg3 harg3 arg4 harg4 arg5 harg5 arg6 harg6 x0 x1 x2 x3)
    (fun r => Finset.nonempty_Ico.2 (by omega)) (fun r j hj => by rw [Finset.mem_Ico] at hj; omega) _ le_rfl
  have hK : (fun r : Fin 512 => Finset.Ico (512 * (i 2).val) (512 * (i 2).val + r.val + 1) ∪ Finset.Ico 0 (1024 * (k0_t1_loop i).trips))
      = fun r => Finset.range (512 * (i 2).val + r.val + 1) := by
    funext r
    ext j
    simp only [Finset.mem_union, Finset.mem_Ico, Finset.mem_range]
    omega
  rw [hK] at h
  unfold blockOut
  exact if_congr Iff.rfl (congrArg₂ Ideal.div (h.c r l) (h.c r 127)) (congrArg₂ Ideal.div (h.d r l) (h.d r 0))

/-- What the body at an odd block holds before its last, narrow block of keys. -/
theorem state_B (h0 : ∀ r j, ∃ x : ℝ, s0 x0 x1 x3 r j = x) (h1 : ∀ r j, ∃ x : ℝ, s1 x0 x1 x3 r j = x) :
    St x0 x1 x2 x3 (fun r => Finset.Ico (512 * (i 2).val) (512 * (i 2).val + r.val + 1) ∪ Finset.Ico 0 (1024 * (k0_t1_loop i).trips))
      (kernelRun0_B.sl.v234 (F := Ideal) c i arg3 harg3 arg4 harg4 arg5 harg5 arg6 harg6 arg7 harg7 arg8 harg8 arg9 harg9 arg10 harg10 arg11 harg11 x0 x1 x2 x3)
      (kernelRun0_B.sl.v235 (F := Ideal) c i arg3 harg3 arg4 harg4 arg5 harg5 arg6 harg6 arg7 harg7 arg8 harg8 arg9 harg9 arg10 harg10 arg11 harg11 x0 x1 x2 x3)
      (kernelRun0_B.sl.v259 (F := Ideal) c i arg3 harg3 arg4 harg4 arg5 harg5 arg6 harg6 arg7 harg7 arg8 harg8 arg9 harg9 arg10 harg10 arg11 harg11 x0 x1 x2 x3)
      (kernelRun0_B.sl.v271 (F := Ideal) c i arg3 harg3 arg4 harg4 arg5 harg5 arg6 harg6 arg7 harg7 arg8 harg8 arg9 harg9 arg10 harg10 arg11 harg11 x0 x1 x2 x3) := by
  have hq0 : kernelRun0_B.sl.r (F := Ideal) c arg3 harg3 x0 = k0_pay29 x0 := congrArg k0_pay29 ((rd arg3 harg3 x0 _).trans (q_rd _ x0))
  have hq1 : kernelRun0_B.sl.r_1 (F := Ideal) c arg3 harg3 x0 = k0_pay30 x0 := congrArg k0_pay30 ((rd arg3 harg3 x0 _).trans (q_rd _ x0))
  have ht : (k0_t1_loop i).trips = (i 2).val / 2 := trips_1 i
  have h := loop c i arg3 harg3 arg4 harg4 arg5 harg5 arg6 harg6 arg7 harg7 arg8 harg8 arg9 harg9 arg10 harg10 arg11 harg11 x0 x1 x2 x3
    h0 h1 Variants.none none (BitVec.ofNat 32 (i 2).val) 2#32 (kernelRun0_B.sl.v156 i) 0#32 _ _ _ _
    (diag_B c i arg3 harg3 arg4 harg4 arg5 harg5 arg6 harg6 x0 x1 x2 x3)
    (fun r => Finset.nonempty_Ico.2 (by omega)) (fun r j hj => by rw [Finset.mem_Ico] at hj; omega) _ le_rfl
  unfold kernelRun0_B.sl.v234 kernelRun0_B.sl.v235 kernelRun0_B.sl.v259 kernelRun0_B.sl.v271
  rw [read_whole', read_whole', read_whole', read_whole', none_2, hq0, hq1]
  simp only [List.nil_append]
  exact h

theorem out_B (h0 : ∀ r j, ∃ x : ℝ, s0 x0 x1 x3 r j = x) (h1 : ∀ r j, ∃ x : ℝ, s1 x0 x1 x3 r j = x) (hc0 : cond0_0 i) (r : Fin 512) (l : Fin 128) :
    out0_B_4 (F := Ideal) c i arg3 harg3 arg4 harg4 arg5 harg5 arg6 harg6 arg7 harg7 arg8 harg8 arg9 harg9 arg10 harg10 arg11 harg11 hc0 x0 x1 x2 x3 (ix3 0 r l)
      = blockOut x0 x1 x2 x3 (512 * (i 2).val) r l := by
  have hq0 : kernelRun0_B.sl.r (F := Ideal) c arg3 harg3 x0 = k0_pay29 x0 := congrArg k0_pay29 ((rd arg3 harg3 x0 _).trans (q_rd _ x0))
  have hq1 : kernelRun0_B.sl.r_1 (F := Ideal) c arg3 harg3 x0 = k0_pay30 x0 := congrArg k0_pay30 ((rd arg3 harg3 x0 _).trans (q_rd _ x0))
  have hp : (i 2).val % 2 = 1 := (cond_odd i).1 hc0
  have ht : (k0_t1_loop i).trips = (i 2).val / 2 := trips_1 i
  have hK : (fun r : Fin 512 => Finset.Ico (512 * (i 2).val) (512 * (i 2).val + r.val + 1) ∪ Finset.Ico 0 (1024 * (k0_t1_loop i).trips)
        ∪ Finset.Ico (512 * ((i 2).val - 1)) (512 * ((i 2).val - 1) + 512))
      = fun r => Finset.range (512 * (i 2).val + r.val + 1) := by
    funext r
    ext j
    simp only [Finset.mem_union, Finset.mem_Ico, Finset.mem_range]
    omega
  have h := narrow h0 h1 (state_B c i arg3 harg3 arg4 harg4 arg5 harg5 arg6 harg6 arg7 harg7 arg8 harg8 arg9 harg9 arg10 harg10 arg11 harg11 x0 x1 x2 x3 h0 h1)
    (fun r => (Finset.nonempty_Ico.2 (by omega)).mono Finset.subset_union_left) (512 * ((i 2).val - 1))
    (fun r => by
      rw [Finset.disjoint_left]
      intro j hj hj2
      simp only [Finset.mem_union, Finset.mem_Ico] at hj hj2
      omega)
    _ _ _ _
    (fun k' c' => (congrFun (rd arg4 harg4 x1 _) _).trans (kt_rd 512 _ _ (off_18 i hp) (k0_off18_inb i hc0) x1 k' c'))
    (fun c' l => (congrFun (rd arg5 harg5 x2 _) _).trans (v_rd 512 _ _ (off_17 i hp) (k0_off17_inb i hc0) x2 c' l))
    (fun c' => (congrFun (rd arg6 harg6 x3 _) _).trans (u_rd 512 _ 0 _ (off_19 i hp) (k0_off19_inb i hc0) x3 c'))
    (fun c' => (congrFun (rd arg6 harg6 x3 _) _).trans (u_rd 512 _ 1 _ (off_20 i hp) (k0_off20_inb i hc0) x3 c'))
  rw [hK, ← hq0, ← hq1] at h
  have hc := h.c r
  have hd := h.d r
  unfold out0_B_4
  rw [View.read_writes_junk_eq_canon]
  unfold kernelRun0_B
  dsimp only
  rw [View.canon_cons_unit_lit' (S := S1x512x128) inb_S1x512x128_S1x512x128_0_0_0 _ _ (by decide), out_1]
  unfold kernelRun0_B.sl.v191 kernelRun0_B.sl.v192
  rw [cov_whole, cov_whole]
  unfold kernelRun0_B.sl.HS2_1 kernelRun0_B.sl.HS3_1
  rw [canon_whole, canon_whole]
  unfold blockOut
  exact if_congr Iff.rfl (congrArg₂ Ideal.div (hc l) (hc 127)) (congrArg₂ Ideal.div (hd l) (hd 0))

end Cert.Proof.Attn

end
-- ==== Proof.Attn.Kernel.lean ====
/- The attention kernel's result array as one function of its arguments. -/
module

public import proofs.«01_k».proof.Proof.Attn.Out

@[expose] public section

noncomputable section

namespace Cert.Proof.Attn

open Cert.KernelIdeal Cert.KernelIdeal.Gen Idealize.ShloMosaic Idealize.ShloMosaic.TcCoe Idealize.SL.Sem
open scoped BigOperators

/-- The column of head `h`'s coordinate `k`. -/
def hcol (h : Fin 16) (k : Fin 64) : Fin 1024 := ⟨64 * h.val + k.val, by omega⟩

/-- The score of query `n` and key `j` at head `h`: the product less the key's cumulative gate. -/
def score (q : FVec Ideal S8x4096x1024 .bf16) (kt : FVec Ideal S8x1024x4096 .bf16) (cum : FVec Ideal S8x16x4096 .f32)
    (b : Fin 8) (h : Fin 16) (n : Fin 4096) (j : ℕ) : EReal :=
  (∑ k : Fin 64, q (ix3 b n (hcol h k)) * kt (ix3 b (hcol h k) (key j))) - cum (ix3 b h (key j))

/-- The attention at one entry: the weighted sum of the values over the keys up to the query, over the weights' sum. -/
def attn (q : FVec Ideal S8x4096x1024 .bf16) (kt : FVec Ideal S8x1024x4096 .bf16) (v : FVec Ideal S8x4096x1024 .bf16)
    (cum : FVec Ideal S8x16x4096 .f32) (b : Fin 8) (h : Fin 16) (n : Fin 4096) (e : Fin 1024) : EReal :=
  Ideal.div (acc (score q kt cum b h n) (fun j => v (ix3 b (key j) e)) (Finset.range (n.val + 1)))
    (acc (score q kt cum b h n) (fun _ => 1) (Finset.range (n.val + 1)))

/-- The attention over whole arrays. -/
def G (q : FVec Ideal S8x4096x1024 .bf16) (kt : FVec Ideal S8x1024x4096 .bf16) (v : FVec Ideal S8x4096x1024 .bf16)
    (cum : FVec Ideal S8x16x4096 .f32) : FVec Ideal S8x4096x1024 .bf16 := fun i =>
  attn q kt v cum (i 0) ⟨(i 2 : Fin 1024).val / 64, by have : (i 2).val < 1024 := (i 2 : Fin 1024).isLt; omega⟩ (i 1) (i 2)

theorem sum_lo (f g : Fin 128 → EReal) :
    (∑ k : Fin 128, (if k.val < 64 then f k else 0) * g k) = ∑ k : Fin 64, f ⟨k.val, by omega⟩ * g ⟨k.val, by omega⟩ := by
  rw [Fin.sum_univ_add (a := 64) (b := 64)]
  rw [Finset.sum_eq_zero (s := (Finset.univ : Finset (Fin 64))) (f := fun k => (if (Fin.natAdd 64 k).val < 64 then f (Fin.natAdd 64 k) else 0) * g (Fin.natAdd 64 k)), add_zero]
  · exact Finset.sum_congr rfl fun k _ => by rw [if_pos (by exact k.isLt)]; rfl
  · intro k _
    rw [if_neg (by simp), zero_mul]

theorem sum_hi (f g : Fin 128 → EReal) :
    (∑ k : Fin 128, (if k.val < 64 then 0 else f k) * g k) = ∑ k : Fin 64, f ⟨64 + k.val, by omega⟩ * g ⟨64 + k.val, by omega⟩ := by
  rw [Fin.sum_univ_add (a := 64) (b := 64)]
  rw [Finset.sum_eq_zero (s := (Finset.univ : Finset (Fin 64))) (f := fun k => (if (Fin.castAdd 64 k).val < 64 then 0 else f (Fin.castAdd 64 k)) * g (Fin.castAdd 64 k)), zero_add]
  · exact Finset.sum_congr rfl fun k _ => by rw [if_neg (by simp)]; rfl
  · intro k _
    rw [if_pos (by simp), zero_mul]

variable (m : (ℓ : Loc nD τ sig) → Buf (Elt Ideal) ℓ)

theorem idx0 : ∀ t : Fin cfg0.N, win0_0.index t = ![(grid0.coords t 0).val, (grid0.coords t 2).val, (grid0.coords t 1).val] := by decide +kernel
theorem idx1 : ∀ t : Fin cfg0.N, win0_1.index t = ![(grid0.coords t 0).val, (grid0.coords t 1).val, 0] := by decide +kernel
theorem idx2' : ∀ t : Fin cfg0.N, win0_2.index t = ![(grid0.coords t 0).val, 0, (grid0.coords t 1).val] := by decide +kernel
theorem idx3 : ∀ t : Fin cfg0.N, win0_3.index t = ![(grid0.coords t 0).val, (grid0.coords t 1).val, 0, 0] := by decide +kernel
theorem idx4 : ∀ t : Fin cfg0.N, win0_4.index t = ![(grid0.coords t 0).val, (grid0.coords t 2).val, (grid0.coords t 1).val] := by decide +kernel

/-- The batch entry of a grid point, its rows, its columns, and its two heads. -/
def bt (t : Fin cfg0.N) : Fin 8 := grid0.coords t 0
def rw_ (t : Fin cfg0.N) (r : Fin 512) : Fin 4096 := ⟨512 * (grid0.coords t 2).val + r.val, by have : (grid0.coords t 2).val < 8 := (grid0.coords t 2).isLt; omega⟩
def cl (t : Fin cfg0.N) (l : Fin 128) : Fin 1024 := ⟨128 * (grid0.coords t 1).val + l.val, by have : (grid0.coords t 1).val < 8 := (grid0.coords t 1).isLt; omega⟩
def hd (t : Fin cfg0.N) (g : Fin 2) : Fin 16 := ⟨2 * (grid0.coords t 1).val + g.val, by have : (grid0.coords t 1).val < 8 := (grid0.coords t 1).isLt; omega⟩

theorem q_read (c : Dev nD) (t : Fin cfg0.N) (r : Fin 512) (k : Fin 128) :
    iblk m c 0 t (ix3 0 r k) = m ((c : Thread nD τ).loc main_arg0) (ix3 (bt t) (rw_ t r) (cl t k)) := by
  blk_ext [iblk, V, idx0 t, bt, rw_, cl]

theorem kt_read (c : Dev nD) (t : Fin cfg0.N) (k : Fin 128) (j : Fin 4096) :
    iblk m c 1 t (ix3 0 k j) = m ((c : Thread nD τ).loc main_arg1) (ix3 (bt t) (cl t k) j) := by
  blk_ext [iblk, V, idx1 t, bt, cl]

theorem v_read (c : Dev nD) (t : Fin cfg0.N) (j : Fin 4096) (l : Fin 128) :
    iblk m c 2 t (ix3 0 j l) = m ((c : Thread nD τ).loc main_arg2) (ix3 (bt t) j (cl t l)) := by
  blk_ext [iblk, V, idx2' t, bt, cl]

theorem read3 (t : Fin cfg0.N) (X : FVec Ideal S8x8x2x4096 .f32) (g : Fin 2) (j : Fin 4096) :
    ((cfg0.win 3).blk t).view.read (Elt Ideal) X (ix4 0 0 g j) = X (ix4 (bt t) (grid0.coords t 1) g j) := by
  blk_ext [idx3 t, bt]

theorem cum_read (c : Dev nD) (t : Fin cfg0.N) (g : Fin 2) (j : Fin 4096) :
    iblk m c 3 t (ix4 0 0 g j) = m ((c : Thread nD τ).loc main_arg3) (ix3 (bt t) (hd t g) j) := by
  unfold iblk
  entry_read
  refine (read3 t _ g j).trans ?_
  pointwise
  exact congrArg (fun h : Fin 16 => m ((c : Thread nD τ).loc main_arg3) (ix3 (bt t) h j))
    (Fin.ext (by show (grid0.coords t 1).val * 2 + g.val = 2 * (grid0.coords t 1).val + g.val; omega))

theorem cl_lo (t : Fin cfg0.N) (k : Fin 64) : cl t ⟨k.val, by omega⟩ = hcol (hd t 0) k :=
  Fin.ext (by show 128 * (grid0.coords t 1).val + k.val = 64 * (2 * (grid0.coords t 1).val + 0) + k.val; omega)

theorem cl_hi (t : Fin cfg0.N) (k : Fin 64) : cl t ⟨64 + k.val, by omega⟩ = hcol (hd t 1) k :=
  Fin.ext (by show 128 * (grid0.coords t 1).val + (64 + k.val) = 64 * (2 * (grid0.coords t 1).val + 1) + k.val; omega)

theorem s0_eq (c : Dev nD) (t : Fin cfg0.N) (r : Fin 512) (j : ℕ) :
    s0 (iblk m c 0 t) (iblk m c 1 t) (iblk m c 3 t) r j = score (m ((c : Thread nD τ).loc main_arg0)) (m ((c : Thread nD τ).loc main_arg1))
      (m ((c : Thread nD τ).loc main_arg3)) (bt t) (hd t 0) (rw_ t r) j := by
  unfold s0 score
  refine congrArg₂ (· - ·) ?_ (cum_read m c t 0 (key j))
  refine (Finset.sum_congr rfl fun k _ => congrArg₂ (· * ·) ((q_29 _ r k).trans (if_congr Iff.rfl (q_read m c t r k) rfl)) (kt_read m c t k (key j))).trans ?_
  refine (sum_lo _ _).trans (Finset.sum_congr rfl fun k _ => ?_)
  rw [cl_lo]

theorem s1_eq (c : Dev nD) (t : Fin cfg0.N) (r : Fin 512) (j : ℕ) :
    s1 (iblk m c 0 t) (iblk m c 1 t) (iblk m c 3 t) r j = score (m ((c : Thread nD τ).loc main_arg0)) (m ((c : Thread nD τ).loc main_arg1))
      (m ((c : Thread nD τ).loc main_arg3)) (bt t) (hd t 1) (rw_ t r) j := by
  unfold s1 score
  refine congrArg₂ (· - ·) ?_ (cum_read m c t 1 (key j))
  refine (Finset.sum_congr rfl fun k _ => congrArg₂ (· * ·) ((q_30 _ r k).trans (if_congr Iff.rfl rfl (q_read m c t r k))) (kt_read m c t k (key j))).trans ?_
  refine (sum_hi _ _).trans (Finset.sum_congr rfl fun k _ => ?_)
  rw [cl_hi]

theorem coe_fin {n : ℕ} (f : Fin n → ℝ) : ((∑ k, f k : ℝ) : EReal) = ∑ k, (f k : EReal) :=
  map_sum (⟨⟨Real.toEReal, rfl⟩, EReal.coe_add⟩ : ℝ →+ EReal) f _

/-- Finite queries, keys and gates give finite scores. -/
theorem score_real {q : FVec Ideal S8x4096x1024 .bf16} {kt : FVec Ideal S8x1024x4096 .bf16} {cum : FVec Ideal S8x16x4096 .f32}
    (hq : ∀ i, ∃ x : ℝ, q i = x) (hk : ∀ i, ∃ x : ℝ, kt i = x) (hc : ∀ i, ∃ x : ℝ, cum i = x)
    (b : Fin 8) (h : Fin 16) (n : Fin 4096) (j : ℕ) : ∃ x : ℝ, score q kt cum b h n j = x := by
  choose a ha using hq
  choose e he using hk
  choose u hu using hc
  refine ⟨(∑ k : Fin 64, a (ix3 b n (hcol h k)) * e (ix3 b (hcol h k) (key j))) - u (ix3 b h (key j)), ?_⟩
  unfold score
  rw [hu, EReal.coe_sub, coe_fin]
  exact congrArg (· - _) (Finset.sum_congr rfl fun k _ => by rw [ha, he, EReal.coe_mul])

theorem block_eq (c : Dev nD) (t : Fin cfg0.N) (r : Fin 512) (l : Fin 128) :
    blockOut (iblk m c 0 t) (iblk m c 1 t) (iblk m c 2 t) (iblk m c 3 t) (512 * (grid0.coords t 2).val) r l
      = G (m ((c : Thread nD τ).loc main_arg0)) (m ((c : Thread nD τ).loc main_arg1)) (m ((c : Thread nD τ).loc main_arg2))
        (m ((c : Thread nD τ).loc main_arg3)) (ix3 (bt t) (rw_ t r) (cl t l)) := by
  have e0 : s0 (iblk m c 0 t) (iblk m c 1 t) (iblk m c 3 t) r = score (m ((c : Thread nD τ).loc main_arg0)) (m ((c : Thread nD τ).loc main_arg1))
      (m ((c : Thread nD τ).loc main_arg3)) (bt t) (hd t 0) (rw_ t r) := funext (s0_eq m c t r)
  have e1 : s1 (iblk m c 0 t) (iblk m c 1 t) (iblk m c 3 t) r = score (m ((c : Thread nD τ).loc main_arg0)) (m ((c : Thread nD τ).loc main_arg1))
      (m ((c : Thread nD τ).loc main_arg3)) (bt t) (hd t 1) (rw_ t r) := funext (s1_eq m c t r)
  have ev : (fun j => iblk m c 2 t (ix3 0 (key j) l)) = fun j => m ((c : Thread nD τ).loc main_arg2) (ix3 (bt t) (key j) (cl t l)) :=
    funext fun j => v_read m c t (key j) l
  unfold blockOut G attn
  by_cases h : l.val < 64
  · rw [if_pos h, e0]
    have h1 : V0 (iblk m c 2 t) l = fun j => m ((c : Thread nD τ).loc main_arg2) (ix3 (bt t) (key j) (cl t l)) := by
      rw [← ev]; funext j; exact if_pos h
    have h2 : V0 (iblk m c 2 t) 127 = fun _ => 1 := by funext j; exact if_neg (by decide)
    rw [h1, h2]
    have h3 : hd t 0 = ⟨(cl t l).val / 64, by have := (cl t l).isLt; omega⟩ := Fin.ext (by
      show 2 * (grid0.coords t 1).val + 0 = (128 * (grid0.coords t 1).val + l.val) / 64; omega)
    rw [h3]
    rfl
  · rw [if_neg h, e1]
    have h1 : V1 (iblk m c 2 t) l = fun j => m ((c : Thread nD τ).loc main_arg2) (ix3 (bt t) (key j) (cl t l)) := by
      rw [← ev]; funext j; exact if_neg h
    have h2 : V1 (iblk m c 2 t) 0 = fun _ => 1 := by funext j; exact if_pos (by decide)
    rw [h1, h2]
    have h3 : hd t 1 = ⟨(cl t l).val / 64, by have := (cl t l).isLt; omega⟩ := Fin.ext (by
      have := l.isLt
      show 2 * (grid0.coords t 1).val + 1 = (128 * (grid0.coords t 1).val + l.val) / 64; omega)
    rw [h3]
    rfl

theorem final (c : Dev nD) (hq : ∀ i, ∃ x : ℝ, m ((c : Thread nD τ).loc main_arg0) i = (x : EReal))
    (hk : ∀ i, ∃ x : ℝ, m ((c : Thread nD τ).loc main_arg1) i = (x : EReal)) (hc : ∀ i, ∃ x : ℝ, m ((c : Thread nD τ).loc main_arg3) i = (x : EReal)) :
    (dats m 0 c).arrAt 4 cfg0.N = G (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  revert y
  intro (y : S1x512x128.Idx)
  obtain ⟨r, l, rfl⟩ : ∃ (r : Fin 512) (l : Fin 128), y = ix3 0 r l := ⟨y 1, y 2, by
    funext a
    fin_cases a
    · exact Subsingleton.elim (α := Fin 1) _ _
    · rfl
    · rfl⟩
  have h0 : ∀ r j, ∃ x : ℝ, s0 (iblk m c 0 t) (iblk m c 1 t) (iblk m c 3 t) r j = x := fun r j => by
    rw [s0_eq]; exact score_real hq hk hc _ _ _ _
  have h1 : ∀ r j, ∃ x : ℝ, s1 (iblk m c 0 t) (iblk m c 1 t) (iblk m c 3 t) r j = x := fun r j => by
    rw [s1_eq]; exact score_real hq hk hc _ _ _ _
  have e : (((cfg0.win 4).blk t).view.emb (ix3 0 r l : S1x512x128.Idx) : S8x4096x1024.Idx) = ix3 (bt t) (rw_ t r) (cl t l) := by
    blk_ext [idx4 t, bt, rw_, cl]
  refine Eq.trans ?_ ((block_eq m c t r l).trans (congrArg (G _ _ _ _) e.symm))
  by_cases hp : t.val % 2 = 1
  · rw [outsAt0_B m c t hp]
    exact out_B c _ _ _ _ _ _ _ _ _ _ _ _ _ _ _ _ _ _ _ _ _ _ _ h0 h1 _ r l
  · rw [outsAt0_A m c t hp]
    exact out_A c _ _ _ _ _ _ _ _ _ _ _ _ _ _ _ _ _ _ _ _ _ _ _ h0 h1 _ r l

end Cert.Proof.Attn

end
-- ==== Proof.Attn.Reference.lean ====
/- The reference attention's result, entry by entry, is the same function `G` of the arguments. -/
module

public import proofs.«01_k».proof.Proof.Attn.Kernel
public import proofs.«01_k».proof.Proof.Gen.ReferenceIdeal.Read

@[expose] public section

noncomputable section

namespace Cert.Proof.Attn

open Cert.ReferenceIdeal Cert.ReferenceIdeal.Read Idealize.ShloMosaic Idealize.ShloMosaic.TcCoe Idealize.SL.Sem
open scoped BigOperators

variable (q : FVec Ideal S8x4096x1024 .bf16) (kt : FVec Ideal S8x1024x4096 .bf16) (v : FVec Ideal S8x4096x1024 .bf16)
    (cum : FVec Ideal S8x16x4096 .f32)

/-- One query against one key, before the gates. -/
def dots (b : Fin 8) (h : Fin 16) (n : Fin 4096) (j : ℕ) : EReal :=
  ∑ k : Fin 64, q (ix3 b n (hcol h k)) * kt (ix3 b (hcol h k) (key j))

/-- The reference's masked logit. -/
def logit (b : Fin 8) (h : Fin 16) (n : Fin 4096) (j : ℕ) : EReal :=
  if j ≤ n.val then (dots q kt b h n j + cum (ix3 b h n) - cum (ix3 b h (key j))) * (Real.log 2 : ℝ) else ⊥

theorem key_val (k : Fin 4096) : key k.val = k := Fin.ext (Nat.mod_eq_of_lt k.isLt)

theorem log_two : Ideal.log (Ideal.ofBits .f32 0x40000000#32) = (Real.log 2 : ℝ) := by
  have h : Ideal.ofBits .f32 0x40000000#32 = ((2 : ℝ) : EReal) := by
    simp [Ideal.ofBits, Ideal.ieee]
    first
      | (norm_num; rw [← EReal.coe_mul]; norm_num; done)
      | (norm_num; exact_mod_cast (by norm_num : (8388608 : ℝ) * (1 / 4194304) = 2))
  rw [h, Ideal.log_coe, if_neg (by norm_num)]

theorem q_head (b : Fin 8) (h : Fin 16) (n : Fin 4096) (k : Fin 64) :
    val_main_v2 (F := Ideal) q (ix4 b h n k) = q (ix3 b n (hcol h k)) := by
  simp only [val_main_v2_apply, val_main_v1_apply, val_main_v0_apply]
  exact congrArg q (by blk_ext [hcol])

theorem k_head (b : Fin 8) (h : Fin 16) (n : Fin 4096) (k : Fin 64) :
    val_main_v5 (F := Ideal) kt (ix4 b h n k) = kt (ix3 b (hcol h k) n) := by
  simp only [val_main_v5_apply, val_main_v4_apply, val_main_v3_apply]
  exact congrArg kt (by blk_ext [hcol])

theorem v_head (b : Fin 8) (h : Fin 16) (n : Fin 4096) (k : Fin 64) :
    val_main_v8 (F := Ideal) v (ix4 b h n k) = v (ix3 b n (hcol h k)) := by
  simp only [val_main_v8_apply, val_main_v7_apply, val_main_v6_apply]
  exact congrArg v (by blk_ext [hcol])

theorem ref_dots (b : Fin 8) (h : Fin 16) (n k : Fin 4096) :
    val_main_v9 (F := Ideal) q kt (ix4 b h n k) = dots q kt b h n k.val := by
  rw [val_main_v9_apply]
  unfold dots
  rw [key_val]
  refine Finset.sum_congr rfl fun j _ => congrArg₂ (· * ·) ?_ ?_
  · exact (congrArg _ (by blk_ext)).trans (q_head q b h n j)
  · exact (congrArg _ (by blk_ext)).trans (k_head kt b h k j)

theorem ref_mask (b : Fin 8) (h : Fin 16) (n k : Fin 4096) :
    val_main_call0_v1 (F := Ideal) (ix4 b h n k) = if k.val ≤ n.val then 1#1 else 0#1 := by
  simp only [val_main_call0_v1_apply, val_main_v25_apply, val_main_v24_apply, val_main_v23_apply, val_main_v22_apply,
    val_main_v21_apply, val_main_v20_apply, val_main_v19_apply]
  exact sge_nat n.val k.val (by omega) (by omega)

theorem ref_logit (b : Fin 8) (h : Fin 16) (n k : Fin 4096) :
    val_main_v26 (F := Ideal) q kt cum (ix4 b h n k) = logit q kt cum b h n k.val := by
  rw [val_main_v26_apply, ref_mask]
  unfold logit
  rw [key_val]
  by_cases hk : k.val ≤ n.val
  · rw [if_pos hk, if_pos hk]
    simp only [val_main_v18_apply, val_main_v17_apply, val_main_v16_apply, val_main_v15_apply, val_main_v14_apply,
      val_main_v13_apply, val_main_v12_apply, val_main_v11_apply, val_main_v10_apply, val_main_cst_apply, ref_dots]
    refine congrArg₂ (· * ·) (congrArg₂ (· - ·) (congrArg₂ (· + ·) rfl (congrArg cum ?_)) (congrArg cum ?_)) log_two
    · blk_ext
    · blk_ext
  · rw [if_neg hk, if_neg hk]
    simp only [val_main_call0_v2_apply, val_main_call0_v0_apply, val_main_cst_0_apply]
    exact ofBits_ninf

theorem ref_max (b : Fin 8) (h : Fin 16) (n : Fin 4096) :
    val_main_v27 (F := Ideal) q kt cum (ix3 b h n) = (Finset.range 4096).sup (logit q kt cum b h n) := by
  unfold val_main_v27
  have e : ∀ k : Fin 4096, val_main_v26 (F := Ideal) q kt cum (idx_main_v34 (ix3 b h n) k) = logit q kt cum b h n (0 + k.val) := fun k => by
    rw [zero_add, ← ref_logit]; exact congrArg _ (by blk_ext)
  revert e
  generalize val_main_v26 (F := Ideal) q kt cum = y
  intro e
  rw [Host.reduce_eq_fold_single (FloatOps.maximumf (F := Ideal) (φ := .f32)) y _ Cert.ReferenceIdeal.Gen.reducesTo_S8x16x4096x4096_S8x16x4096_d3 (by decide)]
  refine (fold_max _).trans ?_
  rw [Finset.range_eq_Ico]
  refine sup_fin 4096 0 _ _ fun k => ?_
  rw [← e]
  exact congrArg y (funext fun a => Fin.ext (by match a with | ⟨0, _⟩ => rfl | ⟨1, _⟩ => rfl | ⟨2, _⟩ => rfl | ⟨3, _⟩ => rfl))

theorem ref_exp (b : Fin 8) (h : Fin 16) (n k : Fin 4096) :
    val_main_v33 (F := Ideal) q kt cum (ix4 b h n k)
      = Ideal.exp (logit q kt cum b h n k.val - (Finset.range 4096).sup (logit q kt cum b h n)) := by
  have e : idx_main_v30 (idx_main_v31 (ix4 b h n k)) = ix3 b h n := by blk_ext
  rw [val_main_v33_apply, val_main_v32_apply, ref_logit, val_main_v31_apply, val_main_v30_apply, e, val_main_v29_apply,
    ref_max, val_main_v28_apply, val_main_cst_2_apply]
  generalize (Finset.range 4096).sup (logit q kt cum b h n) = M
  generalize logit q kt cum b h n k.val = s
  have hM : FloatOps.maximumf (FloatOps.ofBits (F := Ideal) .f32 0xFF800000#32) M = M :=
    (congrArg (max · M) ofBits_ninf).trans (max_eq_right bot_le)
  rw [hM]
  rfl

theorem ref_sum (b : Fin 8) (h : Fin 16) (n : Fin 4096) :
    val_main_v34 (F := Ideal) q kt cum (ix3 b h n)
      = ∑ k ∈ Finset.range 4096, Ideal.exp (logit q kt cum b h n k - (Finset.range 4096).sup (logit q kt cum b h n)) := by
  rw [val_main_v34_apply]
  refine (congrArg (· + _) Ideal.ofBits_zero_f32).trans ((zero_add _).trans ?_)
  rw [Finset.sum_range]
  refine Finset.sum_congr rfl fun k _ => ?_
  rw [← ref_exp]
  exact congrArg _ (by blk_ext)

theorem ref_weight (b : Fin 8) (h : Fin 16) (n k : Fin 4096) :
    val_main_v37 (F := Ideal) q kt cum (ix4 b h n k)
      = Ideal.div (Ideal.exp (logit q kt cum b h n k.val - (Finset.range 4096).sup (logit q kt cum b h n)))
        (∑ j ∈ Finset.range 4096, Ideal.exp (logit q kt cum b h n j - (Finset.range 4096).sup (logit q kt cum b h n))) := by
  have e : idx_main_v35 (idx_main_v36 (ix4 b h n k)) = ix3 b h n := by blk_ext
  rw [val_main_v37_apply, val_main_v36_apply, val_main_v35_apply, ref_exp, e, ref_sum]
  generalize (∑ j ∈ Finset.range 4096, Ideal.exp (logit q kt cum b h n j - (Finset.range 4096).sup (logit q kt cum b h n))) = Z
  generalize Ideal.exp (logit q kt cum b h n k.val - (Finset.range 4096).sup (logit q kt cum b h n)) = s
  rfl

theorem ref_eq (hq : ∀ i, ∃ x : ℝ, q i = x) (hk : ∀ i, ∃ x : ℝ, kt i = x) (hc : ∀ i, ∃ x : ℝ, cum i = x) :
    val_main_v41 (F := Ideal) q kt v cum = G q kt v cum := by
  funext i
  obtain ⟨b, n, e, rfl⟩ : ∃ (b : Fin 8) (n : Fin 4096) (e : Fin 1024), i = ix3 b n e := ⟨i 0, i 1, i 2, by blk_ext⟩
  have hi : idx_main_v39 (idx_main_v40 (ix3 b n e)) = ix4 b ⟨e.val / 64, by omega⟩ n ⟨e.val % 64, by omega⟩ := by blk_ext
  have hh : hcol ⟨e.val / 64, by omega⟩ ⟨e.val % 64, by omega⟩ = e := Fin.ext (Nat.div_add_mod e.val 64)
  rw [val_main_v41_apply, val_main_v40_apply, val_main_v39_apply, hi, val_main_v38_apply]
  refine Eq.trans (b := ∑ k : Fin 4096, Ideal.div (Ideal.exp (logit q kt cum b ⟨e.val / 64, by omega⟩ n k.val - (Finset.range 4096).sup (logit q kt cum b ⟨e.val / 64, by omega⟩ n)))
        (∑ j ∈ Finset.range 4096, Ideal.exp (logit q kt cum b ⟨e.val / 64, by omega⟩ n j - (Finset.range 4096).sup (logit q kt cum b ⟨e.val / 64, by omega⟩ n)))
        * v (ix3 b (key k.val) e)) ?_ ?_
  · refine Finset.sum_congr rfl fun k _ => congrArg₂ (· * ·) ?_ ?_
    · rw [← ref_weight]; exact congrArg _ (by blk_ext)
    · rw [key_val]
      exact (congrArg _ (by blk_ext)).trans ((v_head v b ⟨e.val / 64, by omega⟩ k ⟨e.val % 64, by omega⟩).trans
        (congrArg (fun x => v (ix3 b k x)) hh))
  · have hs : ∀ j, ∃ x : ℝ, dots q kt b ⟨e.val / 64, by omega⟩ n j = x := fun j => by
      choose a ha using hq
      choose w hw using hk
      refine ⟨∑ k : Fin 64, a (ix3 b n (hcol ⟨e.val / 64, by omega⟩ k)) * w (ix3 b (hcol ⟨e.val / 64, by omega⟩ k) (key j)), ?_⟩
      unfold dots
      rw [coe_fin]
      exact Finset.sum_congr rfl fun k _ => by rw [ha, hw, EReal.coe_mul]
    have hu : ∀ j : ℕ, ∃ x : ℝ, cum (ix3 b ⟨e.val / 64, by omega⟩ (key j)) = x := fun j => hc _
    have key_eq := softmax_eq (dots q kt b ⟨e.val / 64, by omega⟩ n) (fun j => cum (ix3 b ⟨e.val / 64, by omega⟩ (key j)))
      (fun j => v (ix3 b (key j) e)) (cum (ix3 b ⟨e.val / 64, by omega⟩ n)) hs hu (hc _) 4096 (fun j => j ≤ n.val)
      (Finset.range (n.val + 1)) ⟨0, Finset.mem_range.2 (by omega)⟩ (fun j => by rw [Finset.mem_range]; omega)
      (logit q kt cum b ⟨e.val / 64, by omega⟩ n) (fun j => rfl)
    rw [Finset.sum_range] at key_eq
    exact key_eq

end Cert.Proof.Attn

end
-- ==== Proof.Attn.Claims.lean ====
/- The claims of the attention: the frames, and equal results from finite scores. -/
module

public import proofs.«01_k».proof.Defs
public import proofs.«01_k».proof.Proof.Attn.Reference
public import proofs.«01_k».proof.Proof.Gen.Kernel
public import proofs.«01_k».proof.Proof.Gen.Kernel.Frame
public import proofs.«01_k».proof.Proof.Gen.ReferenceIdeal.Run
public import proofs.«01_k».proof.Proof.Gen.Pre_finite_scores

@[expose] public section

noncomputable section

namespace Cert.Proof.Attn

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite_scores := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_finite_scores := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

/-- An entry whose absolute value is below infinity is a real number. -/
theorem real_of_abs {x : EReal}
    (h : FloatOps.cmpf (F := Ideal) (φ := .f32) .olt (FloatOps.absf x) (FloatOps.ofBits .f32 0x7F800000#32) = 1#1) :
    ∃ r : ℝ, x = r := by
  have ht : Ideal.ofBits .f32 0x7F800000#32 = ⊤ := by simp only [Ideal.ofBits]; rfl
  have h' : FloatOps.cmpf (F := Ideal) (φ := .f32) .olt (max x (-x)) (Ideal.ofBits .f32 0x7F800000#32) = 1#1 := h
  rw [ht] at h'
  induction x using EReal.rec with
  | bot => exact absurd h' (by simp [FloatOps.cmpf, Ideal.cmp])
  | top => exact absurd h' (by simp [FloatOps.cmpf, Ideal.cmp])
  | coe r => exact ⟨r, rfl⟩

/-- From equal arguments with finite queries, keys and gates both end at the attention `G` of them. -/
theorem algebraic : Cert.algebraic_KernelIdeal_ReferenceIdeal_pre_finite_scores := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨p0, p1, p2⟩ := hpre c
  have hq := fun i => real_of_abs (congrFun p0 i)
  have hk := fun i => real_of_abs (congrFun p1 i)
  have hc := fun i => real_of_abs (congrFun p2 i)
  rw [final m c hq hk hc, Cert.ReferenceIdeal.Read.val_main_v41_eq, (hagree c).1, (hagree c).2.1, (hagree c).2.2.1,
    (hagree c).2.2.2]
  exact ref_eq _ _ _ _ hq hk hc

end Cert.Proof.Attn

end
-- ==== Proof.Ffn.Block.lean ====
/- What one grid point of the half-step kernel stores: `x + 1/2 (silu(h Wg) * (h Wu)) Wo` row by row, the hidden axis
   summed in eleven chunks of 256. -/
module

public import proofs.«01_k».proof.Proof.Gen.Kernel2Ideal.Value
public import Idealize.ShloMosaic.Lib.MatmulPlain
public import Idealize.ShloMosaic.Lib.Pointwise
public import Idealize.ShloMosaic.Lib.IdealHost
public import Idealize.ShloMosaic.Lib.Pipeline.ValueKit

@[expose] public section

noncomputable section

namespace Cert.Proof.Ffn

open Cert.Kernel2Ideal Cert.Kernel2Ideal.Gen Idealize.ShloMosaic Idealize.ShloMosaic.TcCoe Idealize.SL.Sem
open scoped BigOperators

/-- One entry of the normalised row. -/
def hrow (x g : Fin 1024 → EReal) (k : Fin 1024) : EReal :=
  x k * Ideal.rsqrt (Ideal.div (∑ i, x i * x i) (Ideal.ofBits .f32 0x44800000#32) + Ideal.ofBits .f32 0x358637BD#32) * g k

/-- The gate times its sigmoid, times the other half. -/
def act (G U : EReal) : EReal := G * Ideal.div 1 (1 + Ideal.exp (-G)) * U

/-- The activation of hidden unit `f`. -/
def unit (x g : Fin 1024 → EReal) (wi : Fin 1024 → Fin 5632 → EReal) (f : Fin 2816) : EReal :=
  act (∑ k, hrow x g k * wi k ⟨f.val, by omega⟩) (∑ k, hrow x g k * wi k ⟨2816 + f.val, by omega⟩)

/-- The half-step of one row. -/
def swi (x g : Fin 1024 → EReal) (wi : Fin 1024 → Fin 5632 → EReal) (wo : Fin 2816 → Fin 1024 → EReal) (d : Fin 1024) : EReal :=
  x d + Ideal.ofBits .f32 0x3F000000#32 * ∑ f : Fin 2816, unit x g wi f * wo f d

/-- One chunk's product with the output weights, in the body's operations. -/
def part (h : FVec Ideal S1024x1024 .bf16) (wg wu : FVec Ideal S1x1x1024x256 .bf16) (wo : FVec Ideal S1x1x256x1024 .bf16) :
    FVec Ideal S1024x1024 .f32 :=
  let G : FVec Ideal S1024x256 .f32 := matmul dot_S1024x1024_S1024x256_S1024x256_1_0_0_1_n_n none h (shapeCast S1024x256 wg shapeCasts_S1x1x1024x256_S1024x256) (constant S1024x256 .f32 0x00000000#32)
  let U : FVec Ideal S1024x256 .f32 := matmul dot_S1024x1024_S1024x256_S1024x256_1_0_0_1_n_n none h (shapeCast S1024x256 wu shapeCasts_S1x1x1024x256_S1024x256) (constant S1024x256 .f32 0x00000000#32)
  let A : FVec Ideal S1024x256 .f32 := mulf (mulf G (divf (broadcast S1024x256 (Scalar.ofBits .f32 0x3F800000#32)) (addf (broadcast S1024x256 (Scalar.ofBits .f32 0x3F800000#32)) (exp (subf (broadcast S1024x256 (Scalar.ofBits .f32 0x00000000#32)) G))))) U
  matmul dot_S1024x256_S256x1024_S1024x1024_1_0_0_1_n_n none (truncf .bf16 A bitsLt_bf16_f32 : FVec Ideal S1024x256 .bf16) (shapeCast S256x1024 wo shapeCasts_S1x1x256x1024_S256x1024) (constant S1024x1024 .f32 0x00000000#32)

theorem wi_apply (w : FVec Ideal S1x1x1024x256 .bf16) (k : Fin 1024) (f : Fin 256) :
    shapeCast S1024x256 w shapeCasts_S1x1x1024x256_S1024x256 (ix2 k f) = w (ix4 0 0 k f) := by
  pointwise

theorem wo_apply (w : FVec Ideal S1x1x256x1024 .bf16) (k : Fin 256) (f : Fin 1024) :
    shapeCast S256x1024 w shapeCasts_S1x1x256x1024_S256x1024 (ix2 k f) = w (ix4 0 0 k f) := by
  pointwise

theorem dot_in (h : FVec Ideal S1024x1024 .bf16) (w : FVec Ideal S1x1x1024x256 .bf16) (r : Fin 1024) (f : Fin 256) :
    matmul dot_S1024x1024_S1024x256_S1024x256_1_0_0_1_n_n none h (shapeCast S1024x256 w shapeCasts_S1x1x1024x256_S1024x256) (constant S1024x256 .f32 0x00000000#32) (ix2 r f)
      = ∑ k : Fin 1024, h (ix2 r k) * w (ix4 0 0 k f) := by
  refine (Ideal.matmul_plain_apply none h _ _ r f).trans ?_
  refine (congrArg (· + _) Ideal.ofBits_zero_f32).trans ((zero_add _).trans ?_)
  exact Finset.sum_congr rfl fun k _ => congrArg (h (ix2 r k) * ·) (wi_apply w k f)

theorem part_apply (h : FVec Ideal S1024x1024 .bf16) (wg wu : FVec Ideal S1x1x1024x256 .bf16) (wo : FVec Ideal S1x1x256x1024 .bf16)
    (r d : Fin 1024) :
    part h wg wu wo (ix2 r d) = ∑ f : Fin 256,
      act (∑ k : Fin 1024, h (ix2 r k) * wg (ix4 0 0 k f)) (∑ k : Fin 1024, h (ix2 r k) * wu (ix4 0 0 k f)) * wo (ix4 0 0 f d) := by
  unfold part
  refine (Ideal.matmul_plain_apply none _ _ _ r d).trans ?_
  refine (congrArg (· + _) Ideal.ofBits_zero_f32).trans ((zero_add _).trans ?_)
  refine Finset.sum_congr rfl fun f _ => congrArg₂ (· * ·) ?_ (wo_apply wo f d)
  rw [← dot_in, ← dot_in]
  unfold act
  rw [← Ideal.ofBits_one_f32, ← zero_sub, ← Ideal.ofBits_zero_f32]
  rfl

theorem norm_apply (x0 : Vec Ideal S1024x1024 .f32) (x1 : Vec Ideal S1x1024 .f32) (r k : Fin 1024) :
    k0_pay2 (F := Ideal) x0 x1 (ix2 r k) = hrow (fun i => x0 (ix2 r i)) (fun i => x1 (ix2 0 i)) k := by
  unfold k0_pay2 hrow
  pointwise

theorem hz : (![0, 0] : Fin 2 → Nat) = fun _ => 0 := funext fun a => by fin_cases a <;> rfl

/-- The point's stored block in the body's operations: the row plus half the eleven chunks' sum. -/
def blk (x0 : FVec Ideal S1024x1024 .f32) (h : FVec Ideal S1024x1024 .bf16) (x2 : FVec Ideal S1x1x1024x5632 .bf16)
    (x3 : FVec Ideal S1x1x2816x1024 .bf16) : FVec Ideal S1024x1024 .f32 :=
  addf x0 (mulf (broadcast S1024x1024 (Scalar.ofBits .f32 0x3F000000#32)) (addf (addf (addf (addf (addf (addf (addf (addf (addf (addf (part h (View.ld (Val := Elt Ideal) (e' := .bf16) x2 r0_2) (View.ld (Val := Elt Ideal) (e' := .bf16) x2 r0_3) (View.ld (Val := Elt Ideal) (e' := .bf16) x3 r0_4))
      (part h (View.ld (Val := Elt Ideal) (e' := .bf16) x2 r0_5) (View.ld (Val := Elt Ideal) (e' := .bf16) x2 r0_6) (View.ld (Val := Elt Ideal) (e' := .bf16) x3 r0_7)))
      (part h (View.ld (Val := Elt Ideal) (e' := .bf16) x2 r0_8) (View.ld (Val := Elt Ideal) (e' := .bf16) x2 r0_9) (View.ld (Val := Elt Ideal) (e' := .bf16) x3 r0_10)))
      (part h (View.ld (Val := Elt Ideal) (e' := .bf16) x2 r0_11) (View.ld (Val := Elt Ideal) (e' := .bf16) x2 r0_12) (View.ld (Val := Elt Ideal) (e' := .bf16) x3 r0_13)))
      (part h (View.ld (Val := Elt Ideal) (e' := .bf16) x2 r0_14) (View.ld (Val := Elt Ideal) (e' := .bf16) x2 r0_15) (View.ld (Val := Elt Ideal) (e' := .bf16) x3 r0_16)))
      (part h (View.ld (Val := Elt Ideal) (e' := .bf16) x2 r0_17) (View.ld (Val := Elt Ideal) (e' := .bf16) x2 r0_18) (View.ld (Val := Elt Ideal) (e' := .bf16) x3 r0_19)))
      (part h (View.ld (Val := Elt Ideal) (e' := .bf16) x2 r0_20) (View.ld (Val := Elt Ideal) (e' := .bf16) x2 r0_21) (View.ld (Val := Elt Ideal) (e' := .bf16) x3 r0_22)))
      (part h (View.ld (Val := Elt Ideal) (e' := .bf16) x2 r0_23) (View.ld (Val := Elt Ideal) (e' := .bf16) x2 r0_24) (View.ld (Val := Elt Ideal) (e' := .bf16) x3 r0_25)))
      (part h (View.ld (Val := Elt Ideal) (e' := .bf16) x2 r0_26) (View.ld (Val := Elt Ideal) (e' := .bf16) x2 r0_27) (View.ld (Val := Elt Ideal) (e' := .bf16) x3 r0_28)))
      (part h (View.ld (Val := Elt Ideal) (e' := .bf16) x2 r0_29) (View.ld (Val := Elt Ideal) (e' := .bf16) x2 r0_30) (View.ld (Val := Elt Ideal) (e' := .bf16) x3 r0_31)))
      (part h (View.ld (Val := Elt Ideal) (e' := .bf16) x2 r0_32) (View.ld (Val := Elt Ideal) (e' := .bf16) x2 r0_33) (View.ld (Val := Elt Ideal) (e' := .bf16) x3 r0_34))))

theorem out_eq (x0 : FVec Ideal S1024x1024 .f32) (x1 : FVec Ideal S1x1024 .f32) (x2 : FVec Ideal S1x1x1024x5632 .bf16)
    (x3 : FVec Ideal S1x1x2816x1024 .bf16) :
    out0_4 (F := Ideal) x0 x1 x2 x3 = blk x0 (k0_pay2 x0 x1) x2 x3 := by
  unfold out0_4
  rw [View.canon_unit_zero hz]
  unfold k0_pay20
  rw [View.ld_unit_zero (Val := Elt Ideal) (e := .f32) (S := S1024x1024) hz, View.ld_unit_zero (Val := Elt Ideal) (e := .f32) (S := S1x1024) hz]
  rfl

theorem sum_eleven (p : Fin 11 → EReal) :
    ∑ c, p c = p 0 + p 1 + p 2 + p 3 + p 4 + p 5 + p 6 + p 7 + p 8 + p 9 + p 10 := by
  simp only [Fin.sum_univ_castSucc, Fin.sum_univ_zero, zero_add]; rfl

theorem sum_chunks (f : Fin 2816 → EReal) :
    ∑ c : Fin 11, ∑ k : Fin 256, f ⟨256 * c.val + k.val, by omega⟩ = ∑ i, f i := by
  rw [← Equiv.sum_comp (finProdFinEquiv (m := 11) (n := 256)) f, Fintype.sum_prod_type]
  refine Finset.sum_congr rfl fun c _ => Finset.sum_congr rfl fun k _ => congrArg f (Fin.ext ?_)
  show 256 * c.val + k.val = k.val + 256 * c.val
  omega

/-- The chunk beginning at hidden unit `256 c`. -/
def chunk (x0 : FVec Ideal S1024x1024 .f32) (x1 : FVec Ideal S1x1024 .f32) (x2 : FVec Ideal S1x1x1024x5632 .bf16)
    (x3 : FVec Ideal S1x1x2816x1024 .bf16) (r d : Fin 1024) (c : Fin 11) : EReal :=
  ∑ k : Fin 256, unit (fun i => x0 (ix2 r i)) (fun i => x1 (ix2 0 i)) (fun k f => x2 (ix4 0 0 k f)) ⟨256 * c.val + k.val, by omega⟩
    * x3 (ix4 0 0 ⟨256 * c.val + k.val, by omega⟩ d)

theorem part_chunk (x0 : FVec Ideal S1024x1024 .f32) (x1 : FVec Ideal S1x1024 .f32) (x2 : FVec Ideal S1x1x1024x5632 .bf16)
    (x3 : FVec Ideal S1x1x2816x1024 .bf16) (r d : Fin 1024) (c : Fin 11)
    (wg wu : FVec Ideal S1x1x1024x256 .bf16) (wo : FVec Ideal S1x1x256x1024 .bf16)
    (hg : ∀ (k : Fin 1024) (f : Fin 256), wg (ix4 0 0 k f) = x2 (ix4 0 0 k ⟨256 * c.val + f.val, by omega⟩))
    (hu : ∀ (k : Fin 1024) (f : Fin 256), wu (ix4 0 0 k f) = x2 (ix4 0 0 k ⟨2816 + (256 * c.val + f.val), by omega⟩))
    (ho : ∀ (f : Fin 256) (k : Fin 1024), wo (ix4 0 0 f k) = x3 (ix4 0 0 ⟨256 * c.val + f.val, by omega⟩ k)) :
    part (k0_pay2 x0 x1) wg wu wo (ix2 r d) = chunk x0 x1 x2 x3 r d c := by
  rw [part_apply]
  unfold chunk unit
  refine Finset.sum_congr rfl fun f _ => ?_
  simp only [norm_apply, hg, hu, ho]

theorem chunk0 (x0 : FVec Ideal S1024x1024 .f32) (x1 : FVec Ideal S1x1024 .f32) (x2 : FVec Ideal S1x1x1024x5632 .bf16)
    (x3 : FVec Ideal S1x1x2816x1024 .bf16) (r d : Fin 1024) :
    part (k0_pay2 x0 x1) (View.ld (Val := Elt Ideal) (e' := .bf16) x2 r0_2) (View.ld (Val := Elt Ideal) (e' := .bf16) x2 r0_3) (View.ld (Val := Elt Ideal) (e' := .bf16) x3 r0_4) (ix2 r d) = chunk x0 x1 x2 x3 r d 0 :=
  part_chunk x0 x1 x2 x3 r d 0 _ _ _ (fun k f => congrArg x2 (funext fun a => Fin.ext (by fin_cases a <;> simp [Rect.emb] <;> omega))) (fun k f => congrArg x2 (funext fun a => Fin.ext (by fin_cases a <;> simp [Rect.emb] <;> omega))) (fun f k => congrArg x3 (funext fun a => Fin.ext (by fin_cases a <;> simp [Rect.emb] <;> omega)))

theorem chunk1 (x0 : FVec Ideal S1024x1024 .f32) (x1 : FVec Ideal S1x1024 .f32) (x2 : FVec Ideal S1x1x1024x5632 .bf16)
    (x3 : FVec Ideal S1x1x2816x1024 .bf16) (r d : Fin 1024) :
    part (k0_pay2 x0 x1) (View.ld (Val := Elt Ideal) (e' := .bf16) x2 r0_5) (View.ld (Val := Elt Ideal) (e' := .bf16) x2 r0_6) (View.ld (Val := Elt Ideal) (e' := .bf16) x3 r0_7) (ix2 r d) = chunk x0 x1 x2 x3 r d 1 :=
  part_chunk x0 x1 x2 x3 r d 1 _ _ _ (fun k f => congrArg x2 (funext fun a => Fin.ext (by fin_cases a <;> simp [Rect.emb] <;> omega))) (fun k f => congrArg x2 (funext fun a => Fin.ext (by fin_cases a <;> simp [Rect.emb] <;> omega))) (fun f k => congrArg x3 (funext fun a => Fin.ext (by fin_cases a <;> simp [Rect.emb] <;> omega)))

theorem chunk2 (x0 : FVec Ideal S1024x1024 .f32) (x1 : FVec Ideal S1x1024 .f32) (x2 : FVec Ideal S1x1x1024x5632 .bf16)
    (x3 : FVec Ideal S1x1x2816x1024 .bf16) (r d : Fin 1024) :
    part (k0_pay2 x0 x1) (View.ld (Val := Elt Ideal) (e' := .bf16) x2 r0_8) (View.ld (Val := Elt Ideal) (e' := .bf16) x2 r0_9) (View.ld (Val := Elt Ideal) (e' := .bf16) x3 r0_10) (ix2 r d) = chunk x0 x1 x2 x3 r d 2 :=
  part_chunk x0 x1 x2 x3 r d 2 _ _ _ (fun k f => congrArg x2 (funext fun a => Fin.ext (by fin_cases a <;> simp [Rect.emb] <;> omega))) (fun k f => congrArg x2 (funext fun a => Fin.ext (by fin_cases a <;> simp [Rect.emb] <;> omega))) (fun f k => congrArg x3 (funext fun a => Fin.ext (by fin_cases a <;> simp [Rect.emb] <;> omega)))

theorem chunk3 (x0 : FVec Ideal S1024x1024 .f32) (x1 : FVec Ideal S1x1024 .f32) (x2 : FVec Ideal S1x1x1024x5632 .bf16)
    (x3 : FVec Ideal S1x1x2816x1024 .bf16) (r d : Fin 1024) :
    part (k0_pay2 x0 x1) (View.ld (Val := Elt Ideal) (e' := .bf16) x2 r0_11) (View.ld (Val := Elt Ideal) (e' := .bf16) x2 r0_12) (View.ld (Val := Elt Ideal) (e' := .bf16) x3 r0_13) (ix2 r d) = chunk x0 x1 x2 x3 r d 3 :=
  part_chunk x0 x1 x2 x3 r d 3 _ _ _ (fun k f => congrArg x2 (funext fun a => Fin.ext (by fin_cases a <;> simp [Rect.emb] <;> omega))) (fun k f => congrArg x2 (funext fun a => Fin.ext (by fin_cases a <;> simp [Rect.emb] <;> omega))) (fun f k => congrArg x3 (funext fun a => Fin.ext (by fin_cases a <;> simp [Rect.emb] <;> omega)))

theorem chunk4 (x0 : FVec Ideal S1024x1024 .f32) (x1 : FVec Ideal S1x1024 .f32) (x2 : FVec Ideal S1x1x1024x5632 .bf16)
    (x3 : FVec Ideal S1x1x2816x1024 .bf16) (r d : Fin 1024) :
    part (k0_pay2 x0 x1) (View.ld (Val := Elt Ideal) (e' := .bf16) x2 r0_14) (View.ld (Val := Elt Ideal) (e' := .bf16) x2 r0_15) (View.ld (Val := Elt Ideal) (e' := .bf16) x3 r0_16) (ix2 r d) = chunk x0 x1 x2 x3 r d 4 :=
  part_chunk x0 x1 x2 x3 r d 4 _ _ _ (fun k f => congrArg x2 (funext fun a => Fin.ext (by fin_cases a <;> simp [Rect.emb] <;> omega))) (fun k f => congrArg x2 (funext fun a => Fin.ext (by fin_cases a <;> simp [Rect.emb] <;> omega))) (fun f k => congrArg x3 (funext fun a => Fin.ext (by fin_cases a <;> simp [Rect.emb] <;> omega)))

theorem chunk5 (x0 : FVec Ideal S1024x1024 .f32) (x1 : FVec Ideal S1x1024 .f32) (x2 : FVec Ideal S1x1x1024x5632 .bf16)
    (x3 : FVec Ideal S1x1x2816x1024 .bf16) (r d : Fin 1024) :
    part (k0_pay2 x0 x1) (View.ld (Val := Elt Ideal) (e' := .bf16) x2 r0_17) (View.ld (Val := Elt Ideal) (e' := .bf16) x2 r0_18) (View.ld (Val := Elt Ideal) (e' := .bf16) x3 r0_19) (ix2 r d) = chunk x0 x1 x2 x3 r d 5 :=
  part_chunk x0 x1 x2 x3 r d 5 _ _ _ (fun k f => congrArg x2 (funext fun a => Fin.ext (by fin_cases a <;> simp [Rect.emb] <;> omega))) (fun k f => congrArg x2 (funext fun a => Fin.ext (by fin_cases a <;> simp [Rect.emb] <;> omega))) (fun f k => congrArg x3 (funext fun a => Fin.ext (by fin_cases a <;> simp [Rect.emb] <;> omega)))

theorem chunk6 (x0 : FVec Ideal S1024x1024 .f32) (x1 : FVec Ideal S1x1024 .f32) (x2 : FVec Ideal S1x1x1024x5632 .bf16)
    (x3 : FVec Ideal S1x1x2816x1024 .bf16) (r d : Fin 1024) :
    part (k0_pay2 x0 x1) (View.ld (Val := Elt Ideal) (e' := .bf16) x2 r0_20) (View.ld (Val := Elt Ideal) (e' := .bf16) x2 r0_21) (View.ld (Val := Elt Ideal) (e' := .bf16) x3 r0_22) (ix2 r d) = chunk x0 x1 x2 x3 r d 6 :=
  part_chunk x0 x1 x2 x3 r d 6 _ _ _ (fun k f => congrArg x2 (funext fun a => Fin.ext (by fin_cases a <;> simp [Rect.emb] <;> omega))) (fun k f => congrArg x2 (funext fun a => Fin.ext (by fin_cases a <;> simp [Rect.emb] <;> omega))) (fun f k => congrArg x3 (funext fun a => Fin.ext (by fin_cases a <;> simp [Rect.emb] <;> omega)))

theorem chunk7 (x0 : FVec Ideal S1024x1024 .f32) (x1 : FVec Ideal S1x1024 .f32) (x2 : FVec Ideal S1x1x1024x5632 .bf16)
    (x3 : FVec Ideal S1x1x2816x1024 .bf16) (r d : Fin 1024) :
    part (k0_pay2 x0 x1) (View.ld (Val := Elt Ideal) (e' := .bf16) x2 r0_23) (View.ld (Val := Elt Ideal) (e' := .bf16) x2 r0_24) (View.ld (Val := Elt Ideal) (e' := .bf16) x3 r0_25) (ix2 r d) = chunk x0 x1 x2 x3 r d 7 :=
  part_chunk x0 x1 x2 x3 r d 7 _ _ _ (fun k f => congrArg x2 (funext fun a => Fin.ext (by fin_cases a <;> simp [Rect.emb] <;> omega))) (fun k f => congrArg x2 (funext fun a => Fin.ext (by fin_cases a <;> simp [Rect.emb] <;> omega))) (fun f k => congrArg x3 (funext fun a => Fin.ext (by fin_cases a <;> simp [Rect.emb] <;> omega)))

theorem chunk8 (x0 : FVec Ideal S1024x1024 .f32) (x1 : FVec Ideal S1x1024 .f32) (x2 : FVec Ideal S1x1x1024x5632 .bf16)
    (x3 : FVec Ideal S1x1x2816x1024 .bf16) (r d : Fin 1024) :
    part (k0_pay2 x0 x1) (View.ld (Val := Elt Ideal) (e' := .bf16) x2 r0_26) (View.ld (Val := Elt Ideal) (e' := .bf16) x2 r0_27) (View.ld (Val := Elt Ideal) (e' := .bf16) x3 r0_28) (ix2 r d) = chunk x0 x1 x2 x3 r d 8 :=
  part_chunk x0 x1 x2 x3 r d 8 _ _ _ (fun k f => congrArg x2 (funext fun a => Fin.ext (by fin_cases a <;> simp [Rect.emb] <;> omega))) (fun k f => congrArg x2 (funext fun a => Fin.ext (by fin_cases a <;> simp [Rect.emb] <;> omega))) (fun f k => congrArg x3 (funext fun a => Fin.ext (by fin_cases a <;> simp [Rect.emb] <;> omega)))

theorem chunk9 (x0 : FVec Ideal S1024x1024 .f32) (x1 : FVec Ideal S1x1024 .f32) (x2 : FVec Ideal S1x1x1024x5632 .bf16)
    (x3 : FVec Ideal S1x1x2816x1024 .bf16) (r d : Fin 1024) :
    part (k0_pay2 x0 x1) (View.ld (Val := Elt Ideal) (e' := .bf16) x2 r0_29) (View.ld (Val := Elt Ideal) (e' := .bf16) x2 r0_30) (View.ld (Val := Elt Ideal) (e' := .bf16) x3 r0_31) (ix2 r d) = chunk x0 x1 x2 x3 r d 9 :=
  part_chunk x0 x1 x2 x3 r d 9 _ _ _ (fun k f => congrArg x2 (funext fun a => Fin.ext (by fin_cases a <;> simp [Rect.emb] <;> omega))) (fun k f => congrArg x2 (funext fun a => Fin.ext (by fin_cases a <;> simp [Rect.emb] <;> omega))) (fun f k => congrArg x3 (funext fun a => Fin.ext (by fin_cases a <;> simp [Rect.emb] <;> omega)))

theorem chunk10 (x0 : FVec Ideal S1024x1024 .f32) (x1 : FVec Ideal S1x1024 .f32) (x2 : FVec Ideal S1x1x1024x5632 .bf16)
    (x3 : FVec Ideal S1x1x2816x1024 .bf16) (r d : Fin 1024) :
    part (k0_pay2 x0 x1) (View.ld (Val := Elt Ideal) (e' := .bf16) x2 r0_32) (View.ld (Val := Elt Ideal) (e' := .bf16) x2 r0_33) (View.ld (Val := Elt Ideal) (e' := .bf16) x3 r0_34) (ix2 r d) = chunk x0 x1 x2 x3 r d 10 :=
  part_chunk x0 x1 x2 x3 r d 10 _ _ _ (fun k f => congrArg x2 (funext fun a => Fin.ext (by fin_cases a <;> simp [Rect.emb] <;> omega))) (fun k f => congrArg x2 (funext fun a => Fin.ext (by fin_cases a <;> simp [Rect.emb] <;> omega))) (fun f k => congrArg x3 (funext fun a => Fin.ext (by fin_cases a <;> simp [Rect.emb] <;> omega)))

/-- A point's block, entry by entry. -/
theorem out_apply (x0 : FVec Ideal S1024x1024 .f32) (x1 : FVec Ideal S1x1024 .f32) (x2 : FVec Ideal S1x1x1024x5632 .bf16)
    (x3 : FVec Ideal S1x1x2816x1024 .bf16) (r d : Fin 1024) :
    out0_4 (F := Ideal) x0 x1 x2 x3 (ix2 r d)
      = swi (fun i => x0 (ix2 r i)) (fun i => x1 (ix2 0 i)) (fun k f => x2 (ix4 0 0 k f)) (fun f d => x3 (ix4 0 0 f d)) d := by
  rw [out_eq]
  unfold swi
  rw [← sum_chunks]
  show _ = _ + _ * ∑ c, chunk x0 x1 x2 x3 r d c
  rw [sum_eleven, ← chunk0, ← chunk1, ← chunk2, ← chunk3, ← chunk4, ← chunk5, ← chunk6, ← chunk7, ← chunk8, ← chunk9, ← chunk10]
  rfl

end Cert.Proof.Ffn

end
-- ==== Proof.Ffn.Kernel.lean ====
/- The half-step kernel's result array as one function of its arguments. -/
module

public import proofs.«01_k».proof.Proof.Ffn.Block
public import Idealize.ShloMosaic.Lib.Claim

@[expose] public section

noncomputable section

namespace Cert.Proof.Ffn

open Cert.Kernel2Ideal Cert.Kernel2Ideal.Gen Idealize.ShloMosaic Idealize.ShloMosaic.TcCoe Idealize.SL.Sem
open scoped BigOperators

/-- The half-step over the whole argument arrays, at layer 0's first half. -/
def G (x : FVec Ideal S32768x1024 .f32) (g : FVec Ideal S4x2x1024 .f32) (wi : FVec Ideal S4x2x1024x5632 .f32)
    (wo : FVec Ideal S4x2x2816x1024 .f32) : FVec Ideal S32768x1024 .f32 := fun i =>
  swi (fun k => x (ix2 (i 0) k)) (fun k => g (ix3 0 0 k)) (fun k f => wi (ix4 0 0 k f)) (fun f d => wo (ix4 0 0 f d)) (i 1)

variable (m : (ℓ : Loc nD τ sig) → Buf (Elt Ideal) ℓ)

theorem idx0 : ∀ t : Fin cfg0.N, win0_0.index t = ![(grid0.coords t 0).val, 0] := by decide +kernel
theorem idx4 : ∀ t : Fin cfg0.N, win0_4.index t = ![(grid0.coords t 0).val, 0] := by decide +kernel
theorem idx1 : ∀ t : Fin cfg0.N, win0_1.index t = ![0, 0] := by decide +kernel
theorem idx2' : ∀ t : Fin cfg0.N, win0_2.index t = ![0, 0, 0, 0] := by decide +kernel
theorem idx3 : ∀ t : Fin cfg0.N, win0_3.index t = ![0, 0, 0, 0] := by decide +kernel

theorem x_read (c : Dev nD) (t : Fin cfg0.N) (r d k : Fin 1024) :
    iblk m c 0 t (ix2 r k) = m ((c : Thread nD τ).loc main_arg0) (ix2 (((cfg0.win 4).blk t).view.emb (ix2 r d : S1024x1024.Idx) 0) k) := by
  blk_ext [iblk, V, idx0 t, idx4 t]

theorem read1 (t : Fin cfg0.N) (X : FVec Ideal S1x1024 .f32) (k : Fin 1024) :
    ((cfg0.win 1).blk t).view.read (Elt Ideal) X (ix2 0 k) = X (ix2 0 k) := by
  blk_ext [idx1 t]

theorem g_read (c : Dev nD) (t : Fin cfg0.N) (k : Fin 1024) :
    iblk m c 1 t (ix2 0 k) = m ((c : Thread nD τ).loc main_arg1) (ix3 0 0 k) := by
  unfold iblk
  entry_read
  refine (read1 t _ k).trans ?_
  pointwise

theorem wi_read (c : Dev nD) (t : Fin cfg0.N) (k : Fin 1024) (f : Fin 5632) :
    iblk m c 2 t (ix4 0 0 k f) = m ((c : Thread nD τ).loc main_arg2) (ix4 0 0 k f) := by
  unfold iblk
  entry_read
  blk_ext [idx2' t]

theorem wo_read (c : Dev nD) (t : Fin cfg0.N) (f : Fin 2816) (k : Fin 1024) :
    iblk m c 3 t (ix4 0 0 f k) = m ((c : Thread nD τ).loc main_arg3) (ix4 0 0 f k) := by
  unfold iblk
  entry_read
  blk_ext [idx3 t]

theorem final (c : Dev nD) :
    (dats m 0 c).arrAt 4 cfg0.N = G (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  revert y
  intro (y : S1024x1024.Idx)
  obtain ⟨r, d, rfl⟩ : ∃ r d : Fin 1024, y = ix2 r d := ⟨y 0, y 1, by blk_ext⟩
  refine (out_apply (iblk m c 0 t) (iblk m c 1 t) (iblk m c 2 t) (iblk m c 3 t) r d).trans ?_
  have e1 : (((cfg0.win 4).blk t).view.emb (ix2 r d : S1024x1024.Idx) 1 : Fin 1024) = d := Fin.ext (by blk_simp [idx4 t])
  simp only [fun k => x_read m c t r d k, g_read, wi_read, wo_read]
  unfold G
  exact congrArg (swi _ _ _ _) e1.symm

end Cert.Proof.Ffn

end
-- ==== Proof.Ffn.Reference.lean ====
/- The reference half-step's result, entry by entry, is the same function `G` of the arguments. -/
module

public import proofs.«01_k».proof.Proof.Ffn.Kernel
public import proofs.«01_k».proof.Proof.Gen.Reference2Ideal.Read

@[expose] public section

noncomputable section

namespace Cert.Proof.Ffn

open Cert.Reference2Ideal Cert.Reference2Ideal.Read Idealize.ShloMosaic Idealize.ShloMosaic.TcCoe Idealize.SL.Sem
open scoped BigOperators

variable (x : FVec Ideal S32768x1024 .f32) (g : FVec Ideal S4x2x1024 .f32) (wi : FVec Ideal S4x2x1024x5632 .f32)
    (wo : FVec Ideal S4x2x2816x1024 .f32)

theorem ref_norm (r : Fin 32768) (k : Fin 1024) :
    val_main_v14 (F := Ideal) x g (ix2 r k) = hrow (fun i => x (ix2 r i)) (fun i => g (ix3 0 0 i)) k := by
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply]
  unfold hrow
  refine congrArg₂ (· * ·) (congrArg₂ (· * ·) rfl (congrArg Ideal.rsqrt (congrArg₂ (· + ·) (congrArg₂ Ideal.div ?_ rfl) rfl))) (congrArg g ?_)
  · refine (congrArg (· + _) Ideal.ofBits_zero_f32).trans ((zero_add _).trans ?_)
    exact Finset.sum_congr rfl fun i _ => congrArg₂ (· * ·) (congrArg x (by blk_ext)) (congrArg x (by blk_ext))
  · blk_ext

theorem ref_in (r : Fin 32768) (f : Fin 5632) :
    val_main_v17 (F := Ideal) x g wi (ix2 r f)
      = ∑ k, hrow (fun i => x (ix2 r i)) (fun i => g (ix3 0 0 i)) k * wi (ix4 0 0 k f) := by
  rw [val_main_v17_apply]
  refine Finset.sum_congr rfl fun k _ => congrArg₂ (· * ·) ?_ ?_
  · rw [← ref_norm]; exact congrArg _ (by blk_ext)
  · rw [val_main_v16_apply, val_main_v15_apply]; exact congrArg wi (by blk_ext)

theorem ref_unit (r : Fin 32768) (f : Fin 2816) :
    val_main_v21 (F := Ideal) x g wi (ix2 r f)
      = unit (fun i => x (ix2 r i)) (fun i => g (ix3 0 0 i)) (fun k f => wi (ix4 0 0 k f)) f := by
  simp only [val_main_v21_apply, val_main_v20_apply, val_main_v19_apply, val_main_v18_apply, val_main_call0_v0_apply,
    val_main_call0_v1_apply, val_main_call0_v2_apply, val_main_call0_v3_apply, val_main_call0_v4_apply,
    val_main_call0_v5_apply, val_main_call0_cst_apply, val_main_call0_cst_0_apply]
  have e1 : idx_main_v18 (ix2 r f) = ix2 r ⟨f.val, by omega⟩ := by blk_ext
  have e2 : idx_main_v19 (ix2 r f) = ix2 r ⟨2816 + f.val, by omega⟩ := by blk_ext
  rw [e1, e2, ref_in, ref_in]
  unfold unit act
  rw [← Ideal.ofBits_one_f32]
  rfl

theorem ref_eq : val_main_v27 (F := Ideal) x g wi wo = G x g wi wo := by
  funext i
  obtain ⟨r, d, rfl⟩ : ∃ (r : Fin 32768) (d : Fin 1024), i = ix2 r d := ⟨i 0, i 1, by blk_ext⟩
  simp only [val_main_v27_apply, val_main_v26_apply, val_main_v25_apply, val_main_v24_apply, val_main_v23_apply,
    val_main_v22_apply, val_main_cst_2_apply]
  unfold G swi
  refine congrArg₂ (· + ·) rfl (congrArg₂ (· * ·) rfl (Finset.sum_congr rfl fun f _ => congrArg₂ (· * ·) ?_ (congrArg wo ?_)))
  · exact (congrArg _ (by blk_ext)).trans (ref_unit x g wi r f)
  · blk_ext

end Cert.Proof.Ffn

end
-- ==== Proof.Ffn.Claims.lean ====
/- The claims of the half-step: the frames, and equal results. -/
module

public import proofs.«01_k».proof.Defs
public import proofs.«01_k».proof.Proof.Ffn.Reference
public import proofs.«01_k».proof.Proof.Gen.Kernel2
public import proofs.«01_k».proof.Proof.Gen.Kernel2.Frame
public import proofs.«01_k».proof.Proof.Gen.Reference2Ideal.Run

@[expose] public section

noncomputable section

namespace Cert.Proof.Ffn

open Idealize.ShloMosaic Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- From equal arguments both end at the half-step `G` of them. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  rw [final m c, Cert.Reference2Ideal.Read.val_main_v27_eq, ref_eq, (hagree c).1, (hagree c).2.1, (hagree c).2.2.1,
    (hagree c).2.2.2]

end Cert.Proof.Ffn

end
-- ==== Proof.Proj.Kernel.lean ====
/- The out projection and half-step: one grid point stores the half-step's block of the residual plus the projection;
   the result array as one function of the arguments. -/
module

public import proofs.«01_k».proof.Proof.Ffn.Kernel
public import proofs.«01_k».proof.Proof.Gen.Kernel3Ideal.Value

@[expose] public section

noncomputable section

namespace Cert.Proof.Proj

open Cert.Kernel3Ideal Cert.Kernel3Ideal.Gen Idealize.ShloMosaic Idealize.ShloMosaic.TcCoe Idealize.SL.Sem
open Cert.Proof.Ffn (swi hrow unit act blk hz)
open scoped BigOperators

theorem sum_apply (x0 : FVec Ideal S1024x1024 .f32) (x1 : FVec Ideal S1024x1024 .bf16) (x2 : FVec Ideal S1x1024x1024 .bf16)
    (r k : Fin 1024) :
    k0_pay2 (F := Ideal) x0 x1 x2 (ix2 r k) = x0 (ix2 r k) + ∑ j : Fin 1024, x1 (ix2 r j) * x2 (ix3 0 j k) := by
  unfold k0_pay2
  refine congrArg (x0 (ix2 r k) + ·) ?_
  refine (Ideal.matmul_plain_apply none x1 _ _ r k).trans ?_
  refine (congrArg (· + _) Ideal.ofBits_zero_f32).trans ((zero_add _).trans ?_)
  refine Finset.sum_congr rfl fun j _ => congrArg (x1 (ix2 r j) * ·) ?_
  pointwise

theorem out_eq (x0 : FVec Ideal S1024x1024 .f32) (x1 : FVec Ideal S1024x1024 .bf16) (x2 : FVec Ideal S1x1024x1024 .bf16)
    (x3 : FVec Ideal S1x1024 .f32) (x4 : FVec Ideal S1x1x1024x5632 .bf16) (x5 : FVec Ideal S1x1x2816x1024 .bf16) :
    out0_6 (F := Ideal) x0 x1 x2 x3 x4 x5 = blk (k0_pay2 x0 x1 x2) (k0_pay3 x0 x1 x2 x3) x4 x5 := by
  have hz3 : (![0, 0, 0] : Fin 3 → Nat) = fun _ => 0 := funext fun a => by fin_cases a <;> rfl
  unfold out0_6
  rw [View.canon_unit_zero hz]
  unfold k0_pay23
  rw [View.ld_unit_zero (Val := Elt Ideal) (e := .f32) (S := S1024x1024) hz,
    View.ld_unit_zero (Val := Elt Ideal) (e := .bf16) (S := S1024x1024) hz,
    View.ld_unit_zero (Val := Elt Ideal) (e := .bf16) (S := S1x1024x1024) hz3,
    View.ld_unit_zero (Val := Elt Ideal) (e := .f32) (S := S1x1024) hz]
  rfl

theorem norm_eq (x0 : FVec Ideal S1024x1024 .f32) (x1 : FVec Ideal S1024x1024 .bf16) (x2 : FVec Ideal S1x1024x1024 .bf16)
    (x3 : FVec Ideal S1x1024 .f32) :
    k0_pay3 (F := Ideal) x0 x1 x2 x3 = Cert.Kernel2Ideal.Gen.k0_pay2 (F := Ideal) (k0_pay2 (F := Ideal) x0 x1 x2) x3 := by
  unfold k0_pay3 Cert.Kernel2Ideal.Gen.k0_pay2
  generalize k0_pay2 (F := Ideal) x0 x1 x2 = y
  rfl

theorem out_apply (x0 : FVec Ideal S1024x1024 .f32) (x1 : FVec Ideal S1024x1024 .bf16) (x2 : FVec Ideal S1x1024x1024 .bf16)
    (x3 : FVec Ideal S1x1024 .f32) (x4 : FVec Ideal S1x1x1024x5632 .bf16) (x5 : FVec Ideal S1x1x2816x1024 .bf16) (r d : Fin 1024) :
    out0_6 (F := Ideal) x0 x1 x2 x3 x4 x5 (ix2 r d)
      = swi (fun k => x0 (ix2 r k) + ∑ j : Fin 1024, x1 (ix2 r j) * x2 (ix3 0 j k)) (fun i => x3 (ix2 0 i))
        (fun k f => x4 (ix4 0 0 k f)) (fun f d => x5 (ix4 0 0 f d)) d := by
  rw [out_eq, norm_eq, ← Cert.Proof.Ffn.out_eq, Cert.Proof.Ffn.out_apply]
  simp only [sum_apply]

/-- The projection and half-step over the whole argument arrays, at layer 1's second half. -/
def G (x : FVec Ideal S32768x1024 .f32) (o : FVec Ideal S32768x1024 .bf16) (w : FVec Ideal S1x1024x1024 .f32)
    (g : FVec Ideal S4x2x1024 .f32) (wi : FVec Ideal S4x2x1024x5632 .f32) (wo : FVec Ideal S4x2x2816x1024 .f32) :
    FVec Ideal S32768x1024 .f32 := fun i =>
  swi (fun k => x (ix2 (i 0) k) + ∑ j : Fin 1024, o (ix2 (i 0) j) * w (ix3 0 j k)) (fun k => g (ix3 1 1 k))
    (fun k f => wi (ix4 1 1 k f)) (fun f d => wo (ix4 1 1 f d)) (i 1)

variable (m : (ℓ : Loc nD τ sig) → Buf (Elt Ideal) ℓ)

theorem idx0 : ∀ t : Fin cfg0.N, win0_0.index t = ![(grid0.coords t 0).val, 0] := by decide +kernel
theorem idx1 : ∀ t : Fin cfg0.N, win0_1.index t = ![(grid0.coords t 0).val, 0] := by decide +kernel
theorem idx2 : ∀ t : Fin cfg0.N, win0_2.index t = ![0, 0, 0] := by decide +kernel
theorem idx3 : ∀ t : Fin cfg0.N, win0_3.index t = ![0, 0] := by decide +kernel
theorem idx4 : ∀ t : Fin cfg0.N, win0_4.index t = ![1, 1, 0, 0] := by decide +kernel
theorem idx5 : ∀ t : Fin cfg0.N, win0_5.index t = ![1, 1, 0, 0] := by decide +kernel
theorem idx6 : ∀ t : Fin cfg0.N, win0_6.index t = ![(grid0.coords t 0).val, 0] := by decide +kernel

theorem x_read (c : Dev nD) (t : Fin cfg0.N) (r d k : Fin 1024) :
    iblk m c 0 t (ix2 r k) = m ((c : Thread nD τ).loc main_arg0) (ix2 (((cfg0.win 6).blk t).view.emb (ix2 r d : S1024x1024.Idx) 0) k) := by
  blk_ext [iblk, V, idx0 t, idx6 t]

theorem o_read (c : Dev nD) (t : Fin cfg0.N) (r d k : Fin 1024) :
    iblk m c 1 t (ix2 r k) = m ((c : Thread nD τ).loc main_arg1) (ix2 (((cfg0.win 6).blk t).view.emb (ix2 r d : S1024x1024.Idx) 0) k) := by
  blk_ext [iblk, V, idx1 t, idx6 t]

theorem w_read (c : Dev nD) (t : Fin cfg0.N) (j k : Fin 1024) :
    iblk m c 2 t (ix3 0 j k) = m ((c : Thread nD τ).loc main_arg2) (ix3 0 j k) := by
  unfold iblk
  entry_read
  blk_ext [idx2 t]

theorem read3 (t : Fin cfg0.N) (X : FVec Ideal S1x1024 .f32) (k : Fin 1024) :
    ((cfg0.win 3).blk t).view.read (Elt Ideal) X (ix2 0 k) = X (ix2 0 k) := by
  blk_ext [idx3 t]

theorem g_read (c : Dev nD) (t : Fin cfg0.N) (k : Fin 1024) :
    iblk m c 3 t (ix2 0 k) = m ((c : Thread nD τ).loc main_arg3) (ix3 1 1 k) := by
  unfold iblk
  entry_read
  refine (read3 t _ k).trans ?_
  pointwise

theorem wi_read (c : Dev nD) (t : Fin cfg0.N) (k : Fin 1024) (f : Fin 5632) :
    iblk m c 4 t (ix4 0 0 k f) = m ((c : Thread nD τ).loc main_arg4) (ix4 1 1 k f) := by
  unfold iblk
  entry_read
  blk_ext [idx4 t]

theorem wo_read (c : Dev nD) (t : Fin cfg0.N) (f : Fin 2816) (k : Fin 1024) :
    iblk m c 5 t (ix4 0 0 f k) = m ((c : Thread nD τ).loc main_arg5) (ix4 1 1 f k) := by
  unfold iblk
  entry_read
  blk_ext [idx5 t]

theorem final (c : Dev nD) :
    (dats m 0 c).arrAt 6 cfg0.N = G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  blk_simp
  rw [after0_6]
  revert y
  intro (y : S1024x1024.Idx)
  obtain ⟨r, d, rfl⟩ : ∃ r d : Fin 1024, y = ix2 r d := ⟨y 0, y 1, by blk_ext⟩
  refine (out_apply (iblk m c 0 t) (iblk m c 1 t) (iblk m c 2 t) (iblk m c 3 t) (iblk m c 4 t) (iblk m c 5 t) r d).trans ?_
  have e1 : (((cfg0.win 6).blk t).view.emb (ix2 r d : S1024x1024.Idx) 1 : Fin 1024) = d := Fin.ext (by blk_simp [idx6 t])
  simp only [fun k => x_read m c t r d k, fun k => o_read m c t r d k, w_read, g_read, wi_read, wo_read]
  unfold G
  exact congrArg (swi _ _ _ _) e1.symm

end Cert.Proof.Proj

end
-- ==== Proof.Proj.Reference.lean ====
/- The reference projection and half-step's result, entry by entry, is the same function `G` of the arguments. -/
module

public import proofs.«01_k».proof.Proof.Proj.Kernel
public import proofs.«01_k».proof.Proof.Gen.Reference3Ideal.Read

@[expose] public section

noncomputable section

namespace Cert.Proof.Proj

open Cert.Reference3Ideal Cert.Reference3Ideal.Read Idealize.ShloMosaic Idealize.ShloMosaic.TcCoe Idealize.SL.Sem
open Cert.Proof.Ffn (swi hrow unit act)
open scoped BigOperators

variable (x : FVec Ideal S32768x1024 .f32) (o : FVec Ideal S32768x1024 .bf16) (w : FVec Ideal S1x1024x1024 .f32)
    (g : FVec Ideal S4x2x1024 .f32) (wi : FVec Ideal S4x2x1024x5632 .f32) (wo : FVec Ideal S4x2x2816x1024 .f32)

/-- The residual plus the projection, one row. -/
def res (r : Fin 32768) (k : Fin 1024) : EReal := x (ix2 r k) + ∑ j : Fin 1024, o (ix2 r j) * w (ix3 0 j k)

theorem ref_res (r : Fin 32768) (k : Fin 1024) : val_main_v3 (F := Ideal) x o w (ix2 r k) = res x o w r k := by
  rw [val_main_v3_apply, val_main_v2_apply]
  refine congrArg (x (ix2 r k) + ·) (Finset.sum_congr rfl fun j _ => congrArg₂ (· * ·) ?_ ?_)
  · rw [val_main_v0_apply]; exact congrArg o (by blk_ext)
  · rw [val_main_v1_apply]; exact congrArg w (by blk_ext)

theorem ref_norm (r : Fin 32768) (k : Fin 1024) :
    val_main_v18 (F := Ideal) x o w g (ix2 r k) = hrow (res x o w r) (fun i => g (ix3 1 1 i)) k := by
  simp only [val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_cst_apply, val_main_cst_0_apply,
    val_main_cst_1_apply]
  unfold hrow
  refine congrArg₂ (· * ·) (congrArg₂ (· * ·) (ref_res x o w r k) (congrArg Ideal.rsqrt (congrArg₂ (· + ·) (congrArg₂ Ideal.div ?_ rfl) rfl))) (congrArg g ?_)
  · refine (congrArg (· + _) Ideal.ofBits_zero_f32).trans ((zero_add _).trans ?_)
    refine Finset.sum_congr rfl fun i _ => ?_
    rw [← ref_res]
    exact congrArg₂ (· * ·) (congrArg _ (by blk_ext)) (congrArg _ (by blk_ext))
  · blk_ext

theorem ref_in (r : Fin 32768) (f : Fin 5632) :
    val_main_v21 (F := Ideal) x o w g wi (ix2 r f)
      = ∑ k, hrow (res x o w r) (fun i => g (ix3 1 1 i)) k * wi (ix4 1 1 k f) := by
  rw [val_main_v21_apply]
  refine Finset.sum_congr rfl fun k _ => congrArg₂ (· * ·) ?_ ?_
  · rw [← ref_norm]; exact congrArg _ (by blk_ext)
  · rw [val_main_v20_apply, val_main_v19_apply]; exact congrArg wi (by blk_ext)

theorem ref_unit (r : Fin 32768) (f : Fin 2816) :
    val_main_v25 (F := Ideal) x o w g wi (ix2 r f)
      = unit (res x o w r) (fun i => g (ix3 1 1 i)) (fun k f => wi (ix4 1 1 k f)) f := by
  simp only [val_main_v25_apply, val_main_v24_apply, val_main_v23_apply, val_main_v22_apply, val_main_call0_v0_apply,
    val_main_call0_v1_apply, val_main_call0_v2_apply, val_main_call0_v3_apply, val_main_call0_v4_apply,
    val_main_call0_v5_apply, val_main_call0_cst_apply, val_main_call0_cst_0_apply]
  have e1 : idx_main_v22 (ix2 r f) = ix2 r ⟨f.val, by omega⟩ := by blk_ext
  have e2 : idx_main_v23 (ix2 r f) = ix2 r ⟨2816 + f.val, by omega⟩ := by blk_ext
  rw [e1, e2, ref_in, ref_in]
  unfold unit act
  rw [← Ideal.ofBits_one_f32]
  rfl

theorem ref_eq : val_main_v31 (F := Ideal) x o w g wi wo = G x o w g wi wo := by
  funext i
  obtain ⟨r, d, rfl⟩ : ∃ (r : Fin 32768) (d : Fin 1024), i = ix2 r d := ⟨i 0, i 1, by blk_ext⟩
  simp only [val_main_v31_apply, val_main_v30_apply, val_main_v29_apply, val_main_v28_apply, val_main_v27_apply,
    val_main_v26_apply, val_main_cst_2_apply, ref_res]
  show _ = swi (res x o w r) (fun k => g (ix3 1 1 k)) (fun k f => wi (ix4 1 1 k f)) (fun f d => wo (ix4 1 1 f d)) d
  unfold swi
  refine congrArg₂ (· + ·) rfl (congrArg₂ (· * ·) rfl (Finset.sum_congr rfl fun f _ => congrArg₂ (· * ·) ?_ (congrArg wo ?_)))
  · exact (congrArg _ (by blk_ext)).trans (ref_unit x o w g wi r f)
  · blk_ext

end Cert.Proof.Proj

end
-- ==== Proof.Proj.Claims.lean ====
/- The claims of the projection and half-step: the frames, and equal results. -/
module

public import proofs.«01_k».proof.Defs
public import proofs.«01_k».proof.Proof.Proj.Reference
public import proofs.«01_k».proof.Proof.Gen.Kernel3
public import proofs.«01_k».proof.Proof.Gen.Kernel3.Frame
public import proofs.«01_k».proof.Proof.Gen.Reference3Ideal.Run

@[expose] public section

noncomputable section

namespace Cert.Proof.Proj

open Idealize.ShloMosaic Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

/-- From equal arguments both end at the projection and half-step `G` of them. -/
theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  rw [final m c, Cert.Reference3Ideal.Read.val_main_v31_eq, ref_eq, (hagree c).1, (hagree c).2.1, (hagree c).2.2.1,
    (hagree c).2.2.2.1, (hagree c).2.2.2.2.1, (hagree c).2.2.2.2.2]

end Cert.Proof.Proj

end
-- ==== Proof.Fox.Spec.lean ====
/- What the attention projection computes, entry by entry: the normalised row times the weights, the heads normalised,
   and the running sums of the forget gates. -/
module

public import proofs.«01_k».proof.Proof.Ffn.Block

@[expose] public section

noncomputable section

namespace Cert.Proof.Fox

open Idealize.ShloMosaic Idealize.ShloMosaic.TcCoe Idealize.SL.Sem
open Cert.Proof.Ffn (hrow)
open scoped BigOperators

/-- Log-sigmoid. -/
def ls (f : EReal) : EReal := min f 0 - Ideal.log1p (Ideal.exp (0 - max f (-f)))

/-- One entry of a head: `y` is the row, `n` the column, the mean over the head's 64 columns. -/
def head (y : Fin 1024 → EReal) (g : Fin 64 → EReal) (n : Fin 1024) : EReal :=
  y n * Ideal.rsqrt (Ideal.div (∑ e : Fin 64, y ⟨n.val / 64 * 64 + e.val, by omega⟩ * y ⟨n.val / 64 * 64 + e.val, by omega⟩) (Ideal.ofBits .f32 0x42800000#32)
    + Ideal.ofBits .f32 0x358637BD#32) * g ⟨n.val % 64, Nat.mod_lt _ (by decide)⟩

/-- The sum of the entries up to and including `s`. -/
def upto {N : Nat} (f : Fin N → EReal) (s : Fin N) : EReal := ∑ i : Fin N, if i ≤ s then f i else 0

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem div_64 (x : EReal) : Ideal.div x (Ideal.ofBits .f32 0x42800000#32) = x * Ideal.ofBits .f32 0x3C800000#32 := by
  rw [ofBits_64, ofBits_64th, Ideal.div_coe (by norm_num)]

theorem exp_nonneg (x : EReal) : 0 ≤ Ideal.exp x := by
  induction x with
  | bot => exact le_refl _
  | top => exact le_top
  | coe r => exact EReal.coe_nonneg.2 (Real.exp_pos r).le

/-- The logarithm of one plus an exponential is above `⊥`. -/
theorem log1p_ne_bot (x : EReal) : Ideal.log1p (Ideal.exp x) ≠ ⊥ := by
  unfold Ideal.log1p
  have h := exp_nonneg x
  generalize Ideal.exp x = e at h
  induction e with
  | bot => exact absurd h (by simp)
  | top => rw [EReal.add_top_of_ne_bot (by decide)]; exact (by decide : (⊤ : EReal) ≠ ⊥)
  | coe r =>
    have hr : 0 ≤ r := EReal.coe_nonneg.1 h
    rw [show (1 : EReal) + (r : EReal) = ((1 + r : ℝ) : EReal) from by push_cast; rfl]
    show (if 1 + r ≤ 0 then (⊥ : EReal) else (Real.log (1 + r) : EReal)) ≠ ⊥
    rw [if_neg (by linarith)]
    exact EReal.coe_ne_bot _

/-- Log-sigmoid as the negated softplus of the negated argument. -/
theorem neg_softplus (f : EReal) :
    -(max (-f) 0 + Ideal.log1p (Ideal.exp (-(max (-f - 0) (-(-f - 0)))))) = ls f := by
  have e : max (-f - 0) (-(-f - 0)) = max f (-f) := by rw [sub_zero, neg_neg, max_comm]
  rw [e]
  unfold ls
  rw [zero_sub, EReal.neg_add (Or.inl ?_) (Or.inr (log1p_ne_bot _))]
  · congr 1
    rcases le_total f 0 with h | h
    · rw [max_eq_left (EReal.neg_nonneg.2 h), min_eq_left h, neg_neg]
    · rw [max_eq_right (EReal.neg_le_zero.2 h), min_eq_right h, neg_zero]
  · exact fun h => absurd (le_max_right (-f) 0) (by rw [h]; simp)

/-- The window sum of a low-padded column is the sum up to its row. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

end Cert.Proof.Fox

end
-- ==== Proof.Fox.Heads.lean ====
/- The normalised heads: what the body computes two heads at a time, in 128 columns whose two halves are summed under
   masks, entry by entry. -/
module

public import proofs.«01_k».proof.Proof.Fox.Spec
public import proofs.«01_k».proof.Proof.Attn.Block
public import proofs.«01_k».proof.Proof.Gen.Kernel4Ideal.Value

@[expose] public section

noncomputable section

namespace Cert.Proof.Fox

open Cert.Kernel4Ideal Cert.Kernel4Ideal.Gen Idealize.ShloMosaic Idealize.ShloMosaic.TcCoe Idealize.SL.Sem
open Cert.Proof.Ffn (hrow)
open Cert.Proof.Attn (slt_nat sge_nat)
open scoped BigOperators

/-- A row's sum under a choice of its entries, spread over the columns. -/
def rowSum (F : FVec Ideal S1024x128 .f32) : FVec Ideal S1024x128 .f32 :=
  broadcastTo S1024x128 (shapeCast S1024x1 (shapeCast S1024x1 (multiReduction .add [1] S1024 F 0x00000000#32 reduces_S1024x128_S1024 (.inl rfl) rfl) shapeCasts_S1024_S1024x1) shapeCasts_S1024x1_S1024x1) broadcasts_S1024x1_S1024x128

/-- Two heads' columns normalised, in the body's operations. -/
def hd (y : FVec Ideal S1024x128 .f32) (g : FVec Ideal S1x128 .f32) : FVec Ideal S1024x128 .f32 :=
  mulf (mulf y (rsqrt (addf (mulf (select k0_pay4 (rowSum (select k0_pay4 (mulf y y) (broadcast S1024x128 (Scalar.ofBits .f32 0x00000000#32))))
    (rowSum (select k0_pay4 (broadcast S1024x128 (Scalar.ofBits .f32 0x00000000#32)) (mulf y y)))) (broadcast S1024x128 (Scalar.ofBits .f32 0x3C800000#32)))
    (broadcast S1024x128 (Scalar.ofBits .f32 0x358637BD#32))))) (broadcastTo S1024x128 (shapeCast S1x128 g shapeCasts_S1x128_S1x128) broadcasts_S1x128_S1024x128)

/-- The queries' heads at columns `o …`, as stored. -/
def qOut (o : Nat) (h : S1024x1024.Slices ![0, o] S1024x128) (y : FVec Ideal S1024x1024 .f32) (g : FVec Ideal S1x128 .f32) : FVec Ideal S1x1024x128 .bf16 :=
  shapeCast S1x1024x128 (truncf .bf16 (mulf (hd (extractStridedSlice S1024x128 ![0, o] y h) g) (broadcast S1024x128 (Scalar.ofBits .f32 0x3E38AA3B#32)) : FVec Ideal S1024x128 .f32) bitsLt_bf16_f32 : FVec Ideal S1024x128 .bf16) shapeCasts_S1024x128_S1x1024x128

/-- The keys' heads at columns `o …`, as stored, the rows running across. -/
def kOut (o : Nat) (h : S1024x1024.Slices ![0, o] S1024x128) (y : FVec Ideal S1024x1024 .f32) (g : FVec Ideal S1x128 .f32) : FVec Ideal S1x128x1024 .bf16 :=
  shapeCast S1x128x1024 (truncf .bf16 (transpose S128x1024 [1, 0] (hd (extractStridedSlice S1024x128 ![0, o] y h) g) transposes_S1024x128_p1_0_S128x1024 : FVec Ideal S128x1024 .f32) bitsLt_bf16_f32 : FVec Ideal S128x1024 .bf16) shapeCasts_S128x1024_S1x128x1024

theorem rowSum_apply (F : FVec Ideal S1024x128 .f32) (r : Fin 1024) (l : Fin 128) : rowSum F (ix2 r l) = ∑ c : Fin 128, F (ix2 r c) := by
  unfold rowSum
  pointwise

theorem lane_4 (r : Fin 1024) (l : Fin 128) : k0_pay4 (ix2 r l) = if l.val < 64 then 1#1 else 0#1 := by
  unfold k0_pay4
  pointwise
  exact slt_nat _ 64 (by omega) (by omega)

theorem pick {P : Prop} [Decidable P] (a b : EReal) : Scalar.select (if P then 1#1 else 0#1) a b = if P then a else b := by
  split_ifs <;> rfl

theorem low_half (f : Fin 128 → EReal) : ∑ c : Fin 128, (if c.val < 64 then f c else 0) = ∑ e : Fin 64, f ⟨e.val, by omega⟩ := by
  refine (Fin.sum_univ_add (a := 64) (b := 64) fun c => if c.val < 64 then f c else 0).trans ?_
  rw [Finset.sum_eq_zero (s := Finset.univ) (f := fun i : Fin 64 => if (Fin.natAdd 64 i).val < 64 then f (Fin.natAdd 64 i) else 0)
    (fun i _ => if_neg (by simp)), add_zero]
  exact Finset.sum_congr rfl fun i _ => if_pos i.isLt

theorem high_half (f : Fin 128 → EReal) : ∑ c : Fin 128, (if c.val < 64 then 0 else f c) = ∑ e : Fin 64, f ⟨64 + e.val, by omega⟩ := by
  refine (Fin.sum_univ_add (a := 64) (b := 64) fun c => if c.val < 64 then 0 else f c).trans ?_
  rw [Finset.sum_eq_zero (s := Finset.univ) (f := fun i : Fin 64 => if (Fin.castAdd 64 i).val < 64 then (0 : EReal) else f (Fin.castAdd 64 i))
    (fun i _ => if_pos i.isLt), zero_add]
  exact Finset.sum_congr rfl fun i _ => if_neg (by simp)

theorem hd_apply (y : FVec Ideal S1024x128 .f32) (g : FVec Ideal S1x128 .f32) (r : Fin 1024) (j : Fin 128) :
    hd y g (ix2 r j) = y (ix2 r j) * Ideal.rsqrt (Ideal.div (∑ e : Fin 64, y (ix2 r ⟨j.val / 64 * 64 + e.val, by omega⟩) * y (ix2 r ⟨j.val / 64 * 64 + e.val, by omega⟩)) (Ideal.ofBits .f32 0x42800000#32)
      + Ideal.ofBits .f32 0x358637BD#32) * g (ix2 0 j) := by
  unfold hd
  refine congrArg₂ (· * ·) (congrArg₂ (· * ·) rfl (congrArg Ideal.rsqrt (congrArg₂ (· + ·) ?_ rfl))) (by pointwise)
  refine Eq.trans ?_ (div_64 _).symm
  refine congrArg₂ (· * ·) ?_ rfl
  refine (congrArg₂ (fun b (c : EReal × EReal) => Scalar.select b c.1 c.2) (lane_4 r j) (congrArg₂ Prod.mk (rowSum_apply _ r j) (rowSum_apply _ r j))).trans ?_
  refine (pick _ _).trans ?_
  dsimp only
  split_ifs with hj
  · refine Eq.trans (Finset.sum_congr rfl fun c _ => ?_) ((low_half fun c => y (ix2 r c) * y (ix2 r c)).trans (Finset.sum_congr rfl fun e _ => ?_))
    · refine (congrArg (fun b => Scalar.select b _ _) (lane_4 r c)).trans ((pick _ _).trans ?_)
      exact if_congr Iff.rfl rfl Ideal.ofBits_zero_f32
    · have h : (⟨e.val, by omega⟩ : Fin 128) = ⟨j.val / 64 * 64 + e.val, by omega⟩ := Fin.ext (by show e.val = j.val / 64 * 64 + e.val; omega)
      rw [h]
  · refine Eq.trans (Finset.sum_congr rfl fun c _ => ?_) ((high_half fun c => y (ix2 r c) * y (ix2 r c)).trans (Finset.sum_congr rfl fun e _ => ?_))
    · refine (congrArg (fun b => Scalar.select b _ _) (lane_4 r c)).trans ((pick _ _).trans ?_)
      exact if_congr Iff.rfl Ideal.ofBits_zero_f32 rfl
    · have h : (⟨64 + e.val, by omega⟩ : Fin 128) = ⟨j.val / 64 * 64 + e.val, by omega⟩ := Fin.ext (by show 64 + e.val = j.val / 64 * 64 + e.val; omega)
      rw [h]

theorem slice_apply (o : Nat) (h : S1024x1024.Slices ![0, o] S1024x128) (y : FVec Ideal S1024x1024 .f32) (r : Fin 1024) (j : Fin 128) (n : Fin 1024)
    (hn : n.val = o + j.val) : extractStridedSlice S1024x128 ![0, o] y h (ix2 r j) = y (ix2 r n) := by
  refine congrArg y (funext fun a => Fin.ext ?_)
  match a with
  | ⟨0, _⟩ => show 0 + r.val = r.val; omega
  | ⟨1, _⟩ => show o + j.val = n.val; omega

theorem head_apply (o : Nat) (ho : o % 128 = 0) (h : S1024x1024.Slices ![0, o] S1024x128) (y : FVec Ideal S1024x1024 .f32) (g : FVec Ideal S1x128 .f32)
    (g' : Fin 64 → EReal) (hg : ∀ j : Fin 128, g (ix2 0 j) = g' ⟨j.val % 64, Nat.mod_lt _ (by decide)⟩) (r : Fin 1024) (j : Fin 128) (n : Fin 1024)
    (hn : n.val = o + j.val) :
    hd (extractStridedSlice S1024x128 ![0, o] y h) g (ix2 r j) = head (fun n => y (ix2 r n)) g' n := by
  rw [hd_apply]
  unfold head
  refine congrArg₂ (· * ·) (congrArg₂ (· * ·) (slice_apply o h y r j n hn) (congrArg Ideal.rsqrt (congrArg₂ (· + ·) (congrArg₂ Ideal.div ?_ rfl) rfl))) ?_
  · refine Finset.sum_congr rfl fun e _ => ?_
    have q := slice_apply o h y r ⟨j.val / 64 * 64 + e.val, by omega⟩ ⟨n.val / 64 * 64 + e.val, by omega⟩
      (by show n.val / 64 * 64 + e.val = o + (j.val / 64 * 64 + e.val); omega)
    exact congrArg₂ (· * ·) q q
  · exact (hg j).trans (congrArg g' (Fin.ext (by show j.val % 64 = n.val % 64; omega)))

theorem qOut_apply (o : Nat) (ho : o % 128 = 0) (h : S1024x1024.Slices ![0, o] S1024x128) (y : FVec Ideal S1024x1024 .f32) (g : FVec Ideal S1x128 .f32)
    (g' : Fin 64 → EReal) (hg : ∀ j : Fin 128, g (ix2 0 j) = g' ⟨j.val % 64, Nat.mod_lt _ (by decide)⟩) (r : Fin 1024) (j : Fin 128) (n : Fin 1024)
    (hn : n.val = o + j.val) :
    qOut o h y g (ix3 0 r j) = head (fun n => y (ix2 r n)) g' n * Ideal.ofBits .f32 0x3E38AA3B#32 := by
  rw [← head_apply o ho h y g g' hg r j n hn]
  unfold qOut
  generalize hd (extractStridedSlice S1024x128 ![0, o] y h) g = z
  pointwise

theorem kOut_apply (o : Nat) (ho : o % 128 = 0) (h : S1024x1024.Slices ![0, o] S1024x128) (y : FVec Ideal S1024x1024 .f32) (g : FVec Ideal S1x128 .f32)
    (g' : Fin 64 → EReal) (hg : ∀ j : Fin 128, g (ix2 0 j) = g' ⟨j.val % 64, Nat.mod_lt _ (by decide)⟩) (r : Fin 1024) (j : Fin 128) (n : Fin 1024)
    (hn : n.val = o + j.val) :
    kOut o h y g (ix3 0 j r) = head (fun n => y (ix2 r n)) g' n := by
  rw [← head_apply o ho h y g g' hg r j n hn]
  unfold kOut
  generalize hd (extractStridedSlice S1024x128 ![0, o] y h) g = z
  pointwise

theorem norm_apply (x0 : Vec Ideal S1x1024x1024 .f32) (x1 : Vec Ideal S1x1024 .f32) (r k : Fin 1024) :
    k0_pay3 (F := Ideal) x0 x1 (ix2 r k) = hrow (fun i => x0 (ix3 0 r i)) (fun i => x1 (ix2 0 i)) k := by
  unfold k0_pay3 hrow
  pointwise

/-- The normalised rows times a slice of the weights. -/
theorem proj_apply (x0 : Vec Ideal S1x1024x1024 .f32) (x1 : Vec Ideal S1x1024 .f32) (w : Vec Ideal S1x1024x1024 .bf16) (r n : Fin 1024) :
    k0_pay5 (F := Ideal) x0 x1 w (ix2 r n) = ∑ k, hrow (fun i => x0 (ix3 0 r i)) (fun i => x1 (ix2 0 i)) k * w (ix3 0 k n) := by
  unfold k0_pay5
  refine (Ideal.matmul_plain_apply none _ _ _ r n).trans ?_
  refine (congrArg (· + _) Ideal.ofBits_zero_f32).trans ((zero_add _).trans ?_)
  exact Finset.sum_congr rfl fun k _ => congrArg₂ (· * ·) (norm_apply x0 x1 r k) (by pointwise)

theorem vOut_apply (x0 : Vec Ideal S1x1024x1024 .f32) (x1 : Vec Ideal S1x1024 .f32) (w : Vec Ideal S1x1024x1024 .bf16) (r n : Fin 1024) :
    k0_pay56 (F := Ideal) (k0_pay3 x0 x1) w (ix3 0 r n) = ∑ k, hrow (fun i => x0 (ix3 0 r i)) (fun i => x1 (ix2 0 i)) k * w (ix3 0 k n) := by
  rw [← proj_apply]
  unfold k0_pay56 k0_pay5
  pointwise

end Cert.Proof.Fox

end
-- ==== Proof.Fox.Scan.lean ====
/- The running sums inside a tile: ten doubling steps, each adding the column moved down by a power of two. -/
module

public import proofs.«01_k».proof.Proof.Fox.Heads

@[expose] public section

noncomputable section

namespace Cert.Proof.Fox

open Cert.Kernel4Ideal Cert.Kernel4Ideal.Gen Idealize.ShloMosaic Idealize.ShloMosaic.TcCoe Idealize.SL.Sem
open Cert.Proof.Ffn (hrow)
open Cert.Proof.Attn (slt_nat sge_nat)
open scoped BigOperators

/-- One doubling step in the body's operations. -/
def dbl (n : BitVec 32) (x : FVec Ideal S1024x128 .f32) : FVec Ideal S1024x128 .f32 :=
  addf x (select (cmpi .sge (iota .tc S1024x128 32 [0] iota_S1024x128_d0_w32) (broadcast S1024x128 n))
    (dynamicRotate 0 n none x rotates_S1024x128_d0) (broadcast S1024x128 (Scalar.ofBits .f32 0x00000000#32)))

/-- The ten steps. -/
def scan (x : FVec Ideal S1024x128 .f32) : FVec Ideal S1024x128 .f32 :=
  dbl 512#32 (dbl 256#32 (dbl 128#32 (dbl 64#32 (dbl 32#32 (dbl 16#32 (dbl 8#32 (dbl 4#32 (dbl 2#32 (dbl 1#32 x)))))))))

/-- The sum of the last `p` entries up to row `r`. -/
def win (f : Fin 1024 → EReal) (p : Nat) (r : Fin 1024) : EReal := ∑ i : Fin 1024, if i.val ≤ r.val ∧ r.val < i.val + p then f i else 0

theorem dbl_apply (p : Nat) (hp : p < 1024) (x : FVec Ideal S1024x128 .f32) (r : Fin 1024) (l : Fin 128) :
    dbl (BitVec.ofNat 32 p) x (ix2 r l) = x (ix2 r l) + if h : p ≤ r.val then x (ix2 ⟨r.val - p, by omega⟩ l) else 0 := by
  unfold dbl
  refine congrArg (x (ix2 r l) + ·) ?_
  have hc : cmpi .sge (iota .tc S1024x128 32 [0] iota_S1024x128_d0_w32) (broadcast S1024x128 (BitVec.ofNat 32 p)) (ix2 r l) = if p ≤ r.val then 1#1 else 0#1 := by
    pointwise
    exact sge_nat r.val p (by omega) (by omega)
  refine (congrArg (fun b => Scalar.select b _ _) hc).trans ((pick _ _).trans ?_)
  by_cases h : p ≤ r.val
  · rw [if_pos h, dif_pos h]
    refine congrArg x (funext fun a => Fin.ext ?_)
    have hn : (BitVec.ofNat 32 p).toNat = p := by rw [BitVec.toNat_ofNat, Nat.mod_eq_of_lt (by omega)]
    match a with
    | ⟨0, _⟩ =>
      show (r.val + 1024 - ((BitVec.ofNat 32 p).toNat + 0) % 1024) % 1024 = r.val - p
      rw [hn]
      omega
    | ⟨1, _⟩ => rfl
  · rw [if_neg h, dif_neg h]
    exact Ideal.ofBits_zero_f32

theorem win_one (f : Fin 1024 → EReal) (r : Fin 1024) : win f 1 r = f r := by
  unfold win
  rw [Finset.sum_eq_single r (fun i _ hi => if_neg fun h => hi (Fin.ext (by omega))) (fun h => absurd (Finset.mem_univ r) h)]
  exact if_pos ⟨le_refl _, by omega⟩

theorem win_double (f : Fin 1024 → EReal) (p : Nat) (r : Fin 1024) :
    win f p r + (if h : p ≤ r.val then win f p ⟨r.val - p, by omega⟩ else 0) = win f (2 * p) r := by
  by_cases h : p ≤ r.val
  · rw [dif_pos h]
    unfold win
    rw [← Finset.sum_add_distrib]
    refine Finset.sum_congr rfl fun i _ => ?_
    show _ + (if i.val ≤ r.val - p ∧ r.val - p < i.val + p then f i else 0) = _
    by_cases h1 : i.val ≤ r.val ∧ r.val < i.val + p
    · rw [if_pos h1, if_neg (by omega), if_pos (by omega), add_zero]
    · rw [if_neg h1, zero_add]
      exact if_congr (by omega) rfl rfl
  · rw [dif_neg h, add_zero]
    unfold win
    exact Finset.sum_congr rfl fun i _ => if_congr (by omega) rfl rfl

theorem dbl_win (p : Nat) (hp : p < 1024) (n : BitVec 32) (hn : n = BitVec.ofNat 32 p) (q : Nat) (hq : q = 2 * p) (x : FVec Ideal S1024x128 .f32) (f : Fin 1024 → EReal) (l : Fin 128)
    (hx : ∀ r, x (ix2 r l) = win f p r) (r : Fin 1024) : dbl n x (ix2 r l) = win f q r := by
  subst hn
  subst hq
  rw [dbl_apply p hp, ← win_double, hx]
  refine congrArg (_ + ·) ?_
  by_cases h : p ≤ r.val
  · rw [dif_pos h, dif_pos h, hx]
  · rw [dif_neg h, dif_neg h]

theorem scan_apply (x : FVec Ideal S1024x128 .f32) (r : Fin 1024) (l : Fin 128) : scan x (ix2 r l) = upto (fun s => x (ix2 s l)) r := by
  have h1 : ∀ r, x (ix2 r l) = win (fun s => x (ix2 s l)) 1 r := fun r => (win_one (fun s => x (ix2 s l)) r).symm
  have h2 := dbl_win 1 (by omega) 1#32 rfl 2 rfl x _ l h1
  have h3 := dbl_win 2 (by omega) 2#32 rfl 4 rfl _ _ l h2
  have h4 := dbl_win 4 (by omega) 4#32 rfl 8 rfl _ _ l h3
  have h5 := dbl_win 8 (by omega) 8#32 rfl 16 rfl _ _ l h4
  have h6 := dbl_win 16 (by omega) 16#32 rfl 32 rfl _ _ l h5
  have h7 := dbl_win 32 (by omega) 32#32 rfl 64 rfl _ _ l h6
  have h8 := dbl_win 64 (by omega) 64#32 rfl 128 rfl _ _ l h7
  have h9 := dbl_win 128 (by omega) 128#32 rfl 256 rfl _ _ l h8
  have h10 := dbl_win 256 (by omega) 256#32 rfl 512 rfl _ _ l h9
  have h11 := dbl_win 512 (by omega) 512#32 rfl 1024 rfl _ _ l h10
  refine (h11 r).trans ?_
  unfold win upto
  exact Finset.sum_congr rfl fun i _ => if_congr ⟨fun h => Fin.le_def.2 h.1, fun h => ⟨Fin.le_def.1 h, by omega⟩⟩ rfl rfl

/-- The forget gates' logarithms. -/
theorem gate_apply (x0 : Vec Ideal S1x1024x1024 .f32) (x1 : Vec Ideal S1x1024 .f32) (w : Vec Ideal S1x1024x128 .bf16) (b : Vec Ideal S1x128 .f32) (r : Fin 1024) (l : Fin 128) :
    k0_pay57 (F := Ideal) (k0_pay3 x0 x1) w b (ix2 r l)
      = ls ((∑ k, hrow (fun i => x0 (ix3 0 r i)) (fun i => x1 (ix2 0 i)) k * w (ix3 0 k l)) + b (ix2 0 l)) := by
  have hy : addf (matmul dot_S1024x1024_S1024x128_S1024x128_1_0_0_1_n_n none (k0_pay3 (F := Ideal) x0 x1) (shapeCast S1024x128 w shapeCasts_S1x1024x128_S1024x128 : FVec Ideal S1024x128 .bf16) (constant S1024x128 .f32 0x00000000#32) : FVec Ideal S1024x128 .f32)
      (broadcastTo S1024x128 (shapeCast S1x128 b shapeCasts_S1x128_S1x128 : FVec Ideal S1x128 .f32) broadcasts_S1x128_S1024x128) (ix2 r l)
      = (∑ k, hrow (fun i => x0 (ix3 0 r i)) (fun i => x1 (ix2 0 i)) k * w (ix3 0 k l)) + b (ix2 0 l) := by
    refine congrArg₂ (· + ·) ?_ (by pointwise)
    refine (Ideal.matmul_plain_apply none _ _ _ r l).trans ?_
    refine (congrArg (· + _) Ideal.ofBits_zero_f32).trans ((zero_add _).trans ?_)
    exact Finset.sum_congr rfl fun k _ => congrArg₂ (· * ·) (norm_apply x0 x1 r k) (by pointwise)
  rw [← hy]
  unfold k0_pay57 ls
  rw [← Ideal.ofBits_zero_f32]
  rfl

/-- The tile's running sums with what was carried in. -/
theorem carried_apply (x : FVec Ideal S1024x128 .f32) (c : FVec Ideal S1x128 .f32) (r : Fin 1024) (l : Fin 128) :
    k0_pay61 (F := Ideal) (iota .tc S1024x128 32 [0] iota_S1024x128_d0_w32) (k0_pay59 x (iota .tc S1024x128 32 [0] iota_S1024x128_d0_w32) k0_pay58)
        (k0_pay60 x (iota .tc S1024x128 32 [0] iota_S1024x128_d0_w32) k0_pay58) c (ix2 r l)
      = upto (fun s => x (ix2 s l)) r + c (ix2 0 l) := by
  rw [← scan_apply]
  refine congrArg₂ (· + ·) rfl ?_
  pointwise

end Cert.Proof.Fox

end
-- ==== Proof.Fox.Out.lean ====
/- What one run of the projection body leaves in its output blocks and in its carried row. -/
module

public import proofs.«01_k».proof.Proof.Fox.Heads
public import proofs.«01_k».proof.Proof.Fox.Scan

@[expose] public section

noncomputable section

namespace Cert.Proof.Fox

open Cert.Kernel4Ideal Cert.Kernel4Ideal.Gen Idealize.ShloMosaic Idealize.ShloMosaic.TcCoe Idealize.SL.Sem
open Cert.Proof.Ffn (hrow hz)
open scoped BigOperators

/-! ## Blocks stored two heads at a time -/

/-- The queries' stores: eight pairs of heads, side by side. -/
def qPieces (y : FVec Ideal S1024x1024 .f32) (g : FVec Ideal S1x128 .f32) : List (View.Piece (Elt Ideal) S1x1024x1024 .bf16) :=
  [⟨Rect.unit ![0, 0, 896] ![1, 1024, 128] inb_S1x1024x1024_S1x1024x128_0_0_896, qOut 896 slices_S1024x1024_o0_896_S1024x128 y g⟩,
    ⟨Rect.unit ![0, 0, 768] ![1, 1024, 128] inb_S1x1024x1024_S1x1024x128_0_0_768, qOut 768 slices_S1024x1024_o0_768_S1024x128 y g⟩,
    ⟨Rect.unit ![0, 0, 640] ![1, 1024, 128] inb_S1x1024x1024_S1x1024x128_0_0_640, qOut 640 slices_S1024x1024_o0_640_S1024x128 y g⟩,
    ⟨Rect.unit ![0, 0, 512] ![1, 1024, 128] inb_S1x1024x1024_S1x1024x128_0_0_512, qOut 512 slices_S1024x1024_o0_512_S1024x128 y g⟩,
    ⟨Rect.unit ![0, 0, 384] ![1, 1024, 128] inb_S1x1024x1024_S1x1024x128_0_0_384, qOut 384 slices_S1024x1024_o0_384_S1024x128 y g⟩,
    ⟨Rect.unit ![0, 0, 256] ![1, 1024, 128] inb_S1x1024x1024_S1x1024x128_0_0_256, qOut 256 slices_S1024x1024_o0_256_S1024x128 y g⟩,
    ⟨Rect.unit ![0, 0, 128] ![1, 1024, 128] inb_S1x1024x1024_S1x1024x128_0_0_128, qOut 128 slices_S1024x1024_o0_128_S1024x128 y g⟩,
    ⟨Rect.unit ![0, 0, 0] ![1, 1024, 128] inb_S1x1024x1024_S1x1024x128_0_0_0, qOut 0 slices_S1024x1024_o0_0_S1024x128 y g⟩]

/-- The keys' stores: eight pairs of heads, one below the other. -/
def kPieces (y : FVec Ideal S1024x1024 .f32) (g : FVec Ideal S1x128 .f32) : List (View.Piece (Elt Ideal) S1x1024x1024 .bf16) :=
  [⟨Rect.unit ![0, 896, 0] ![1, 128, 1024] inb_S1x1024x1024_S1x128x1024_0_896_0, kOut 896 slices_S1024x1024_o0_896_S1024x128 y g⟩,
    ⟨Rect.unit ![0, 768, 0] ![1, 128, 1024] inb_S1x1024x1024_S1x128x1024_0_768_0, kOut 768 slices_S1024x1024_o0_768_S1024x128 y g⟩,
    ⟨Rect.unit ![0, 640, 0] ![1, 128, 1024] inb_S1x1024x1024_S1x128x1024_0_640_0, kOut 640 slices_S1024x1024_o0_640_S1024x128 y g⟩,
    ⟨Rect.unit ![0, 512, 0] ![1, 128, 1024] inb_S1x1024x1024_S1x128x1024_0_512_0, kOut 512 slices_S1024x1024_o0_512_S1024x128 y g⟩,
    ⟨Rect.unit ![0, 384, 0] ![1, 128, 1024] inb_S1x1024x1024_S1x128x1024_0_384_0, kOut 384 slices_S1024x1024_o0_384_S1024x128 y g⟩,
    ⟨Rect.unit ![0, 256, 0] ![1, 128, 1024] inb_S1x1024x1024_S1x128x1024_0_256_0, kOut 256 slices_S1024x1024_o0_256_S1024x128 y g⟩,
    ⟨Rect.unit ![0, 128, 0] ![1, 128, 1024] inb_S1x1024x1024_S1x128x1024_0_128_0, kOut 128 slices_S1024x1024_o0_128_S1024x128 y g⟩,
    ⟨Rect.unit ![0, 0, 0] ![1, 128, 1024] inb_S1x1024x1024_S1x128x1024_0_0_0, kOut 0 slices_S1024x1024_o0_0_S1024x128 y g⟩]

section
variable (y : FVec Ideal S1024x1024 .f32) (g : FVec Ideal S1x128 .f32) (g' : Fin 64 → EReal)
    (hg : ∀ j : Fin 128, g (ix2 0 j) = g' ⟨j.val % 64, Nat.mod_lt _ (by decide)⟩)
include hg

theorem q_piece (o : Nat) (ho : o % 128 = 0) (hs : S1024x1024.Slices ![0, o] S1024x128)
    (inb : ∀ a, (![0, 0, o] : Fin 3 → ℕ) a + (![1, 1024, 128] : Fin 3 → ℕ) a ≤ S1x1024x1024.size a) (x : S1x1024x128.Idx) :
    qOut o hs y g x = head (fun n => y (ix2 ((Rect.unit (s := S1x1024x1024) ![0, 0, o] ![1, 1024, 128] inb).emb x 1) n)) g'
      ((Rect.unit (s := S1x1024x1024) ![0, 0, o] ![1, 1024, 128] inb).emb x 2) * Ideal.ofBits .f32 0x3E38AA3B#32 := by
  have e : x = ix3 0 (x 1) (x 2) := by
    funext a
    fin_cases a
    · exact Subsingleton.elim (α := Fin 1) _ _
    · rfl
    · rfl
  have e1 : (Rect.unit (s := S1x1024x1024) ![0, 0, o] ![1, 1024, 128] inb).emb x 1 = x 1 := Fin.ext (by show 0 + 1 * (x 1).val = (x 1).val; omega)
  rw [e1]
  refine (congrArg _ e).trans (qOut_apply o ho hs y g g' hg (x 1) (x 2) _ ?_)
  show o + 1 * (x 2).val = o + (x 2).val
  omega

theorem k_piece (o : Nat) (ho : o % 128 = 0) (hs : S1024x1024.Slices ![0, o] S1024x128)
    (inb : ∀ a, (![0, o, 0] : Fin 3 → ℕ) a + (![1, 128, 1024] : Fin 3 → ℕ) a ≤ S1x1024x1024.size a) (x : S1x128x1024.Idx) :
    kOut o hs y g x = head (fun n => y (ix2 ((Rect.unit (s := S1x1024x1024) ![0, o, 0] ![1, 128, 1024] inb).emb x 2) n)) g'
      ((Rect.unit (s := S1x1024x1024) ![0, o, 0] ![1, 128, 1024] inb).emb x 1) := by
  have e : x = ix3 0 (x 1) (x 2) := by
    funext a
    fin_cases a
    · exact Subsingleton.elim (α := Fin 1) _ _
    · rfl
    · rfl
  have e1 : (Rect.unit (s := S1x1024x1024) ![0, o, 0] ![1, 128, 1024] inb).emb x 2 = x 2 := Fin.ext (by show 0 + 1 * (x 2).val = (x 2).val; omega)
  rw [e1]
  refine (congrArg _ e).trans (kOut_apply o ho hs y g g' hg (x 2) (x 1) _ ?_)
  show o + 1 * (x 1).val = o + (x 1).val
  omega

theorem q_stored (r n : Fin 1024) :
    View.canon (Val := Elt Ideal) (qPieces y g) (ix3 0 r n) = head (fun n => y (ix2 r n)) g' n * Ideal.ofBits .f32 0x3E38AA3B#32 := by
  refine View.canon_apply_of_pieces (Val := Elt Ideal) (e := .bf16)
    (fun i : S1x1024x1024.Idx => head (fun n => y (ix2 (i 1) n)) g' (i 2) * Ideal.ofBits .f32 0x3E38AA3B#32) (qPieces y g) ?_ (ix3 0 r n) ?_
  · intro p hp
    simp only [qPieces, List.mem_cons, List.not_mem_nil, or_false] at hp
    rcases hp with rfl | rfl | rfl | rfl | rfl | rfl | rfl | rfl
    all_goals exact fun x => q_piece y g g' hg _ (by decide) _ (by decide) x
  · have hn := n.isLt
    have cov : ∀ o : Nat, ∀ inb : (∀ a, (![0, 0, o] : Fin 3 → ℕ) a + (![1, 1024, 128] : Fin 3 → ℕ) a ≤ S1x1024x1024.size a), o ≤ n.val → n.val < o + 128 →
        (ix3 0 r n : S1x1024x1024.Idx) ∈ (Rect.unit (s := S1x1024x1024) ![0, 0, o] ![1, 1024, 128] inb).set := by
      intro o inb h1 h2
      rw [Rect.mem_set_unit]
      intro a
      fin_cases a
      · exact ⟨Nat.zero_le _, Nat.zero_lt_one⟩
      · exact ⟨Nat.zero_le _, by show r.val < 0 + 1024; omega⟩
      · exact ⟨h1, h2⟩
    unfold qPieces
    simp only [List.mem_cons, List.not_mem_nil, or_false, exists_eq_or_imp, exists_eq_left]
    by_cases q7 : 896 ≤ n.val
    · exact .inl (cov 896 _ q7 (by omega))
    refine .inr ?_
    by_cases q6 : 768 ≤ n.val
    · exact .inl (cov 768 _ q6 (by omega))
    refine .inr ?_
    by_cases q5 : 640 ≤ n.val
    · exact .inl (cov 640 _ q5 (by omega))
    refine .inr ?_
    by_cases q4 : 512 ≤ n.val
    · exact .inl (cov 512 _ q4 (by omega))
    refine .inr ?_
    by_cases q3 : 384 ≤ n.val
    · exact .inl (cov 384 _ q3 (by omega))
    refine .inr ?_
    by_cases q2 : 256 ≤ n.val
    · exact .inl (cov 256 _ q2 (by omega))
    refine .inr ?_
    by_cases q1 : 128 ≤ n.val
    · exact .inl (cov 128 _ q1 (by omega))
    exact .inr (cov 0 _ (Nat.zero_le _) (by omega))

theorem k_stored (r n : Fin 1024) :
    View.canon (Val := Elt Ideal) (kPieces y g) (ix3 0 n r) = head (fun n => y (ix2 r n)) g' n := by
  refine View.canon_apply_of_pieces (Val := Elt Ideal) (e := .bf16)
    (fun i : S1x1024x1024.Idx => head (fun n => y (ix2 (i 2) n)) g' (i 1)) (kPieces y g) ?_ (ix3 0 n r) ?_
  · intro p hp
    simp only [kPieces, List.mem_cons, List.not_mem_nil, or_false] at hp
    rcases hp with rfl | rfl | rfl | rfl | rfl | rfl | rfl | rfl
    all_goals exact fun x => k_piece y g g' hg _ (by decide) _ (by decide) x
  · have hn := n.isLt
    have cov : ∀ o : Nat, ∀ inb : (∀ a, (![0, o, 0] : Fin 3 → ℕ) a + (![1, 128, 1024] : Fin 3 → ℕ) a ≤ S1x1024x1024.size a), o ≤ n.val → n.val < o + 128 →
        (ix3 0 n r : S1x1024x1024.Idx) ∈ (Rect.unit (s := S1x1024x1024) ![0, o, 0] ![1, 128, 1024] inb).set := by
      intro o inb h1 h2
      rw [Rect.mem_set_unit]
      intro a
      fin_cases a
      · exact ⟨Nat.zero_le _, Nat.zero_lt_one⟩
      · exact ⟨h1, h2⟩
      · exact ⟨Nat.zero_le _, by show r.val < 0 + 1024; omega⟩
    unfold kPieces
    simp only [List.mem_cons, List.not_mem_nil, or_false, exists_eq_or_imp, exists_eq_left]
    by_cases q7 : 896 ≤ n.val
    · exact .inl (cov 896 _ q7 (by omega))
    refine .inr ?_
    by_cases q6 : 768 ≤ n.val
    · exact .inl (cov 768 _ q6 (by omega))
    refine .inr ?_
    by_cases q5 : 640 ≤ n.val
    · exact .inl (cov 640 _ q5 (by omega))
    refine .inr ?_
    by_cases q4 : 512 ≤ n.val
    · exact .inl (cov 512 _ q4 (by omega))
    refine .inr ?_
    by_cases q3 : 384 ≤ n.val
    · exact .inl (cov 384 _ q3 (by omega))
    refine .inr ?_
    by_cases q2 : 256 ≤ n.val
    · exact .inl (cov 256 _ q2 (by omega))
    refine .inr ?_
    by_cases q1 : 128 ≤ n.val
    · exact .inl (cov 128 _ q1 (by omega))
    exact .inr (cov 0 _ (Nat.zero_le _) (by omega))

end

/-! ## The reads -/

/-- A row of the normalised input against the packed weights. -/
def yRow (x0 : Vec Ideal S1x1024x1024 .f32) (x1 : Vec Ideal S1x1024 .f32) (x2 : Vec Ideal S1x1024x3072 .bf16) (r : Fin 1024) (n : Fin 3072) : EReal :=
  ∑ k, hrow (fun i => x0 (ix3 0 r i)) (fun i => x1 (ix2 0 i)) k * x2 (ix3 0 k n)

/-- A row's gates. -/
def zRow (x0 : Vec Ideal S1x1024x1024 .f32) (x1 : Vec Ideal S1x1024 .f32) (x3 : Vec Ideal S1x1024x128 .bf16) (x4 : Vec Ideal S1x128 .f32)
    (l : Fin 128) (r : Fin 1024) : EReal :=
  ls ((∑ k, hrow (fun i => x0 (ix3 0 r i)) (fun i => x1 (ix2 0 i)) k * x3 (ix3 0 k l)) + x4 (ix2 0 l))

theorem hz3 : (![0, 0, 0] : Fin 3 → Nat) = fun _ => 0 := funext fun a => by fin_cases a <;> rfl

theorem rd {s : Shape} {e : EltTy} (v : Memref sig .tc .vmem s e) (h : v.IsWhole) (X : Vec Ideal s e) (r : Rect s) :
    View.readAt (Elt Ideal) v.view r.toLoadRect (h.unread X) = View.ld X r := by
  rw [View.readAt_eq_ld, h.read_unread]

/-- The input block, as read. -/
def rX (a0 : Memref sig .tc .vmem S1x1024x1024 .f32) (h0 : a0.IsWhole) (x0 : Vec Ideal S1x1024x1024 .f32) : Vec Ideal S1x1024x1024 .f32 :=
  View.readAt (Elt Ideal) a0.view (Rect.unit (s := S1x1024x1024) ![0, 0, 0] S1x1024x1024.size inb_S1x1024x1024_S1x1024x1024_0_0_0).toLoadRect (h0.unread x0)

/-- The norm's weights, as read. -/
def rG (a1 : Memref sig .tc .vmem S1x1024 .f32) (h1 : a1.IsWhole) (x1 : Vec Ideal S1x1024 .f32) : Vec Ideal S1x1024 .f32 :=
  View.readAt (Elt Ideal) a1.view (Rect.unit (s := S1x1024) ![0, 0] S1x1024.size inb_S1x1024_S1x1024_0_0).toLoadRect (h1.unread x1)

/-- The gates' weights, as read. -/
def rF (a3 : Memref sig .tc .vmem S1x1024x128 .bf16) (h3 : a3.IsWhole) (x3 : Vec Ideal S1x1024x128 .bf16) : Vec Ideal S1x1024x128 .bf16 :=
  View.readAt (Elt Ideal) a3.view (Rect.unit (s := S1x1024x128) ![0, 0, 0] S1x1024x128.size inb_S1x1024x128_S1x1024x128_0_0_0).toLoadRect (h3.unread x3)

/-- A row of 128, as read. -/
def rB (a4 : Memref sig .tc .vmem S1x128 .f32) (h4 : a4.IsWhole) (x4 : Vec Ideal S1x128 .f32) : Vec Ideal S1x128 .f32 :=
  View.readAt (Elt Ideal) a4.view (Rect.unit (s := S1x128) ![0, 0] S1x128.size inb_S1x128_S1x128_0_0).toLoadRect (h4.unread x4)

/-- A third of the packed weights, as read. -/
def rW (o : Nat) (a2 : Memref sig .tc .vmem S1x1024x3072 .bf16) (h2 : a2.IsWhole) (x2 : Vec Ideal S1x1024x3072 .bf16)
    (inb : ∀ a, (![0, 0, o] : Fin 3 → ℕ) a + (![1, 1024, 1024] : Fin 3 → ℕ) a ≤ S1x1024x3072.size a) : Vec Ideal S1x1024x1024 .bf16 :=
  View.readAt (Elt Ideal) a2.view (Rect.unit (s := S1x1024x3072) ![0, 0, o] ![1, 1024, 1024] inb).toLoadRect (h2.unread x2)

theorem rd_x (a0 : Memref sig .tc .vmem S1x1024x1024 .f32) (h0 : a0.IsWhole) (x0 : Vec Ideal S1x1024x1024 .f32) : rX a0 h0 x0 = x0 :=
  (rd a0 h0 x0 _).trans (View.ld_unit_zero (Val := Elt Ideal) (e := .f32) (S := S1x1024x1024) hz3 _ _)

theorem rd_g (a1 : Memref sig .tc .vmem S1x1024 .f32) (h1 : a1.IsWhole) (x1 : Vec Ideal S1x1024 .f32) : rG a1 h1 x1 = x1 :=
  (rd a1 h1 x1 _).trans (View.ld_unit_zero (Val := Elt Ideal) (e := .f32) (S := S1x1024) hz _ _)

theorem rd_wf (a3 : Memref sig .tc .vmem S1x1024x128 .bf16) (h3 : a3.IsWhole) (x3 : Vec Ideal S1x1024x128 .bf16) : rF a3 h3 x3 = x3 :=
  (rd a3 h3 x3 _).trans (View.ld_unit_zero (Val := Elt Ideal) (e := .bf16) (S := S1x1024x128) hz3 _ _)

theorem rd_row (a4 : Memref sig .tc .vmem S1x128 .f32) (h4 : a4.IsWhole) (x4 : Vec Ideal S1x128 .f32) : rB a4 h4 x4 = x4 :=
  (rd a4 h4 x4 _).trans (View.ld_unit_zero (Val := Elt Ideal) (e := .f32) (S := S1x128) hz _ _)

theorem rd_w (o : Nat) (a2 : Memref sig .tc .vmem S1x1024x3072 .bf16) (h2 : a2.IsWhole) (x2 : Vec Ideal S1x1024x3072 .bf16)
    (inb : ∀ a, (![0, 0, o] : Fin 3 → ℕ) a + (![1, 1024, 1024] : Fin 3 → ℕ) a ≤ S1x1024x3072.size a) (k n : Fin 1024) (n' : Fin 3072)
    (hn : n'.val = o + n.val) : rW o a2 h2 x2 inb (ix3 0 k n) = x2 (ix3 0 k n') := by
  unfold rW
  rw [rd]
  refine congrArg x2 (funext fun a => ?_)
  fin_cases a
  · exact Subsingleton.elim (α := Fin 1) _ _
  · exact Fin.ext (by show 0 + 1 * k.val = k.val; omega)
  · exact Fin.ext (by show o + 1 * n.val = n'.val; omega)

/-! ## The outputs -/

theorem stored_sum (v539 : IVec S1024x128 32) (v575 v580 : FVec Ideal S1024x128 .f32) (v600 : Vec Ideal S1x128 .f32) (h : Fin 16) (r : Fin 1024) :
    k0_pay1 (k0_pay63 v539 v575 v580 v600) (ix3 0 h r) = k0_pay61 v539 v575 v580 v600 (ix2 r ⟨h.val, by omega⟩) * Ideal.ofBits .f32 0x3FB8AA3B#32 := by
  unfold k0_pay1 k0_pay63
  generalize k0_pay61 v539 v575 v580 v600 = z
  pointwise

theorem last_row (v539 : IVec S1024x128 32) (v575 v580 : FVec Ideal S1024x128 .f32) (v600 : Vec Ideal S1x128 .f32) (l : Fin 128) :
    k0_pay62 v539 v575 v580 v600 (ix2 0 l) = k0_pay61 v539 v575 v580 v600 (ix2 1023 l) := by
  unfold k0_pay62
  generalize k0_pay61 v539 v575 v580 v600 = z
  pointwise

section
variable (c : Dev nD) (i : grid0.Coords) (a0 : Memref sig .tc .vmem S1x1024x1024 .f32) (h0 : a0.IsWhole) (a1 : Memref sig .tc .vmem S1x1024 .f32) (h1 : a1.IsWhole)
    (a2 : Memref sig .tc .vmem S1x1024x3072 .bf16) (h2 : a2.IsWhole) (a3 : Memref sig .tc .vmem S1x1024x128 .bf16) (h3 : a3.IsWhole)
    (a4 : Memref sig .tc .vmem S1x128 .f32) (h4 : a4.IsWhole) (a5 : Memref sig .tc .vmem S1x128 .f32) (h5 : a5.IsWhole) (a6 : Memref sig .tc .vmem S1x128 .f32) (h6 : a6.IsWhole)
    (a7 : Memref sig .tc .vmem S1x1024x1024 .bf16) (h7 : a7.IsWhole) (a8 : Memref sig .tc .vmem S1x1024x1024 .bf16) (h8 : a8.IsWhole)
    (a9 : Memref sig .tc .vmem S1x1024x1024 .bf16) (h9 : a9.IsWhole) (a10 : Memref sig .tc .vmem S1x16x1024 .f32) (h10 : a10.IsWhole)
    (a11 : Memref sig .tc .vmem S1x128 .f32) (h11 : a11.IsWhole)
    (x0 : Vec Ideal S1x1024x1024 .f32) (x1 : Vec Ideal S1x1024 .f32) (x2 : Vec Ideal S1x1024x3072 .bf16) (x3 : Vec Ideal S1x1024x128 .bf16)
    (x4 x5 x6 xs : Vec Ideal S1x128 .f32)

theorem q_A (hc : cond0_0 i) (g' : Fin 64 → EReal) (hg : ∀ j : Fin 128, x5 (ix2 0 j) = g' ⟨j.val % 64, Nat.mod_lt _ (by decide)⟩) (r n : Fin 1024) :
    out0_A_7 (F := Ideal) c i a0 h0 a1 h1 a2 h2 a3 h3 a4 h4 a5 h5 a6 h6 a7 h7 a8 h8 a9 h9 a10 h10 a11 h11 hc x0 x1 x2 x3 x4 x5 x6 (ix3 0 r n)
      = head (fun n => yRow x0 x1 x2 r ⟨n.val, by omega⟩) g' n * Ideal.ofBits .f32 0x3E38AA3B#32 := by
  unfold out0_A_7
  rw [View.read_writes_junk_eq_canon]
  unfold kernelRun0_A
  dsimp only
  have hg5 : ∀ j : Fin 128, rB a5 h5 x5 (ix2 0 j)
      = g' ⟨j.val % 64, Nat.mod_lt _ (by decide)⟩ := fun j => (congrFun (rd_row a5 h5 x5) _).trans (hg j)
  refine (q_stored (k0_pay5 (rX a0 h0 x0)
    (rG a1 h1 x1)
    (rW 0 a2 h2 x2 inb_S1x1024x3072_S1x1024x1024_0_0_0)) _ g' hg5 r n).trans ?_
  refine congrArg (fun f => head f g' n * _) (funext fun n => ?_)
  rw [proj_apply]
  refine Finset.sum_congr rfl fun k _ => ?_
  rw [rd_w 0 a2 h2 x2 _ k n ⟨n.val, by omega⟩ (Nat.zero_add _).symm, rd_x a0 h0 x0, rd_g a1 h1 x1]

theorem k_A (hc : cond0_0 i) (g' : Fin 64 → EReal) (hg : ∀ j : Fin 128, x6 (ix2 0 j) = g' ⟨j.val % 64, Nat.mod_lt _ (by decide)⟩) (r n : Fin 1024) :
    out0_A_8 (F := Ideal) c i a0 h0 a1 h1 a2 h2 a3 h3 a4 h4 a5 h5 a6 h6 a7 h7 a8 h8 a9 h9 a10 h10 a11 h11 hc x0 x1 x2 x3 x4 x5 x6 (ix3 0 n r)
      = head (fun n => yRow x0 x1 x2 r ⟨1024 + n.val, by omega⟩) g' n := by
  unfold out0_A_8
  rw [View.read_writes_junk_eq_canon]
  unfold kernelRun0_A
  dsimp only
  have hg6 : ∀ j : Fin 128, rB a6 h6 x6 (ix2 0 j)
      = g' ⟨j.val % 64, Nat.mod_lt _ (by decide)⟩ := fun j => (congrFun (rd_row a6 h6 x6) _).trans (hg j)
  refine (k_stored (k0_pay5 (rX a0 h0 x0)
    (rG a1 h1 x1)
    (rW 1024 a2 h2 x2 inb_S1x1024x3072_S1x1024x1024_0_0_1024)) _ g' hg6 r n).trans ?_
  refine congrArg (fun f => head f g' n) (funext fun n => ?_)
  rw [proj_apply]
  refine Finset.sum_congr rfl fun k _ => ?_
  rw [rd_w 1024 a2 h2 x2 _ k n ⟨1024 + n.val, by omega⟩ rfl, rd_x a0 h0 x0, rd_g a1 h1 x1]

theorem v_A (hc : cond0_0 i) (r n : Fin 1024) :
    out0_A_9 (F := Ideal) c i a0 h0 a1 h1 a2 h2 a3 h3 a4 h4 a5 h5 a6 h6 a7 h7 a8 h8 a9 h9 a10 h10 a11 h11 hc x0 x1 x2 x3 x4 x5 x6 (ix3 0 r n) = yRow x0 x1 x2 r ⟨2048 + n.val, by omega⟩ := by
  unfold out0_A_9
  rw [View.read_writes_junk_eq_canon]
  unfold kernelRun0_A
  dsimp only
  rw [View.canon_unit_zero hz3]
  refine (vOut_apply (rX a0 h0 x0)
    (rG a1 h1 x1) (rW 2048 a2 h2 x2 inb_S1x1024x3072_S1x1024x1024_0_0_2048) r n).trans ?_
  refine Finset.sum_congr rfl fun k _ => ?_
  rw [rd_w 2048 a2 h2 x2 _ k n ⟨2048 + n.val, by omega⟩ rfl, rd_x a0 h0 x0, rd_g a1 h1 x1]

theorem reset_apply (l : Fin 128) : kernelRun0_A.sl.v600 (F := Ideal) c a11 (ix2 0 l) = 0 := by
  have e : (kernelRun0_A.sl.v600 (F := Ideal) c a11 : Vec Ideal S1x128 .f32) = k0_pay2 (F := Ideal) := by
    unfold kernelRun0_A.sl.v600
    exact View.readCov_unit_zero _ hz _ _
  rw [e]
  unfold k0_pay2
  pointwise

theorem sums_A (r : Fin 1024) (l : Fin 128) :
    k0_pay61 kernelRun0_A.sl.v539 (kernelRun0_A.sl.r_35 (F := Ideal) c a0 h0 a1 h1 a3 h3 a4 h4 x0 x1 x3 x4)
        (kernelRun0_A.sl.r_36 c a0 h0 a1 h1 a3 h3 a4 h4 x0 x1 x3 x4) (kernelRun0_A.sl.v600 (F := Ideal) c a11) (ix2 r l)
      = upto (zRow x0 x1 x3 x4 l) r + 0 := by
  refine (carried_apply (k0_pay57 (k0_pay3
    (rX a0 h0 x0)
    (rG a1 h1 x1))
    (rF a3 h3 x3)
    (rB a4 h4 x4)) _ r l).trans ?_
  refine congrArg₂ (· + ·) (congrArg (fun f => upto f r) (funext fun s => ?_)) (reset_apply c a11 l)
  rw [gate_apply, rd_x a0 h0 x0, rd_g a1 h1 x1, rd_wf a3 h3 x3, rd_row a4 h4 x4]
  rfl

theorem c_A (hc : cond0_0 i) (h : Fin 16) (r : Fin 1024) :
    out0_A_10 (F := Ideal) c i a0 h0 a1 h1 a2 h2 a3 h3 a4 h4 a5 h5 a6 h6 a7 h7 a8 h8 a9 h9 a10 h10 a11 h11 hc x0 x1 x2 x3 x4 x5 x6 (ix3 0 h r)
      = (upto (zRow x0 x1 x3 x4 ⟨h.val, by omega⟩) r + 0) * Ideal.ofBits .f32 0x3FB8AA3B#32 := by
  rw [← sums_A c a0 h0 a1 h1 a3 h3 a4 h4 a11 x0 x1 x3 x4 r ⟨h.val, by omega⟩]
  unfold out0_A_10
  rw [View.read_writes_junk_eq_canon]
  unfold kernelRun0_A
  dsimp only
  rw [View.canon_unit_zero hz3]
  exact stored_sum _ _ _ _ h r

theorem s_A (hc : cond0_0 i) (l : Fin 128) :
    sout0_A_0 (F := Ideal) c i a0 h0 a1 h1 a2 h2 a3 h3 a4 h4 a5 h5 a6 h6 a7 h7 a8 h8 a9 h9 a10 h10 a11 h11 hc x0 x1 x2 x3 x4 x5 x6 (ix2 0 l) = upto (zRow x0 x1 x3 x4 l) 1023 + 0 := by
  rw [← sums_A c a0 h0 a1 h1 a3 h3 a4 h4 a11 x0 x1 x3 x4 1023 l]
  unfold sout0_A_0
  rw [View.read_writes_junk_eq_canon]
  unfold kernelRun0_A
  dsimp only
  rw [View.canon_cons_unit_zero hz]
  exact last_row _ _ _ _ l

theorem q_B (hc : ¬cond0_0 i) (g' : Fin 64 → EReal) (hg : ∀ j : Fin 128, x5 (ix2 0 j) = g' ⟨j.val % 64, Nat.mod_lt _ (by decide)⟩) (r n : Fin 1024) :
    out0_B_7 (F := Ideal) c i a0 h0 a1 h1 a2 h2 a3 h3 a4 h4 a5 h5 a6 h6 a7 h7 a8 h8 a9 h9 a10 h10 a11 h11 hc x0 x1 x2 x3 x4 x5 x6 xs (ix3 0 r n)
      = head (fun n => yRow x0 x1 x2 r ⟨n.val, by omega⟩) g' n * Ideal.ofBits .f32 0x3E38AA3B#32 := by
  unfold out0_B_7
  rw [View.read_writes_junk_eq_canon]
  unfold kernelRun0_B
  dsimp only
  have hg5 : ∀ j : Fin 128, rB a5 h5 x5 (ix2 0 j)
      = g' ⟨j.val % 64, Nat.mod_lt _ (by decide)⟩ := fun j => (congrFun (rd_row a5 h5 x5) _).trans (hg j)
  refine (q_stored (k0_pay5 (rX a0 h0 x0)
    (rG a1 h1 x1)
    (rW 0 a2 h2 x2 inb_S1x1024x3072_S1x1024x1024_0_0_0)) _ g' hg5 r n).trans ?_
  refine congrArg (fun f => head f g' n * _) (funext fun n => ?_)
  rw [proj_apply]
  refine Finset.sum_congr rfl fun k _ => ?_
  rw [rd_w 0 a2 h2 x2 _ k n ⟨n.val, by omega⟩ (Nat.zero_add _).symm, rd_x a0 h0 x0, rd_g a1 h1 x1]

theorem k_B (hc : ¬cond0_0 i) (g' : Fin 64 → EReal) (hg : ∀ j : Fin 128, x6 (ix2 0 j) = g' ⟨j.val % 64, Nat.mod_lt _ (by decide)⟩) (r n : Fin 1024) :
    out0_B_8 (F := Ideal) c i a0 h0 a1 h1 a2 h2 a3 h3 a4 h4 a5 h5 a6 h6 a7 h7 a8 h8 a9 h9 a10 h10 a11 h11 hc x0 x1 x2 x3 x4 x5 x6 xs (ix3 0 n r)
      = head (fun n => yRow x0 x1 x2 r ⟨1024 + n.val, by omega⟩) g' n := by
  unfold out0_B_8
  rw [View.read_writes_junk_eq_canon]
  unfold kernelRun0_B
  dsimp only
  have hg6 : ∀ j : Fin 128, rB a6 h6 x6 (ix2 0 j)
      = g' ⟨j.val % 64, Nat.mod_lt _ (by decide)⟩ := fun j => (congrFun (rd_row a6 h6 x6) _).trans (hg j)
  refine (k_stored (k0_pay5 (rX a0 h0 x0)
    (rG a1 h1 x1)
    (rW 1024 a2 h2 x2 inb_S1x1024x3072_S1x1024x1024_0_0_1024)) _ g' hg6 r n).trans ?_
  refine congrArg (fun f => head f g' n) (funext fun n => ?_)
  rw [proj_apply]
  refine Finset.sum_congr rfl fun k _ => ?_
  rw [rd_w 1024 a2 h2 x2 _ k n ⟨1024 + n.val, by omega⟩ rfl, rd_x a0 h0 x0, rd_g a1 h1 x1]

theorem v_B (hc : ¬cond0_0 i) (r n : Fin 1024) :
    out0_B_9 (F := Ideal) c i a0 h0 a1 h1 a2 h2 a3 h3 a4 h4 a5 h5 a6 h6 a7 h7 a8 h8 a9 h9 a10 h10 a11 h11 hc x0 x1 x2 x3 x4 x5 x6 xs (ix3 0 r n) = yRow x0 x1 x2 r ⟨2048 + n.val, by omega⟩ := by
  unfold out0_B_9
  rw [View.read_writes_junk_eq_canon]
  unfold kernelRun0_B
  dsimp only
  rw [View.canon_unit_zero hz3]
  refine (vOut_apply (rX a0 h0 x0)
    (rG a1 h1 x1) (rW 2048 a2 h2 x2 inb_S1x1024x3072_S1x1024x1024_0_0_2048) r n).trans ?_
  refine Finset.sum_congr rfl fun k _ => ?_
  rw [rd_w 2048 a2 h2 x2 _ k n ⟨2048 + n.val, by omega⟩ rfl, rd_x a0 h0 x0, rd_g a1 h1 x1]

theorem sums_B (r : Fin 1024) (l : Fin 128) :
    k0_pay61 kernelRun0_B.sl.v539 (kernelRun0_B.sl.r_35 (F := Ideal) c a0 h0 a1 h1 a3 h3 a4 h4 x0 x1 x3 x4)
        (kernelRun0_B.sl.r_36 c a0 h0 a1 h1 a3 h3 a4 h4 x0 x1 x3 x4) (rB a11 h11 xs) (ix2 r l)
      = upto (zRow x0 x1 x3 x4 l) r + xs (ix2 0 l) := by
  refine (carried_apply (k0_pay57 (k0_pay3
    (rX a0 h0 x0)
    (rG a1 h1 x1))
    (rF a3 h3 x3)
    (rB a4 h4 x4)) _ r l).trans ?_
  refine congrArg₂ (· + ·) (congrArg (fun f => upto f r) (funext fun s => ?_)) (congrFun (rd_row a11 h11 xs) _)
  rw [gate_apply, rd_x a0 h0 x0, rd_g a1 h1 x1, rd_wf a3 h3 x3, rd_row a4 h4 x4]
  rfl

theorem c_B (hc : ¬cond0_0 i) (h : Fin 16) (r : Fin 1024) :
    out0_B_10 (F := Ideal) c i a0 h0 a1 h1 a2 h2 a3 h3 a4 h4 a5 h5 a6 h6 a7 h7 a8 h8 a9 h9 a10 h10 a11 h11 hc x0 x1 x2 x3 x4 x5 x6 xs (ix3 0 h r)
      = (upto (zRow x0 x1 x3 x4 ⟨h.val, by omega⟩) r + xs (ix2 0 ⟨h.val, by omega⟩)) * Ideal.ofBits .f32 0x3FB8AA3B#32 := by
  rw [← sums_B c a0 h0 a1 h1 a3 h3 a4 h4 a11 h11 x0 x1 x3 x4 xs r ⟨h.val, by omega⟩]
  unfold out0_B_10
  rw [View.read_writes_junk_eq_canon]
  unfold kernelRun0_B
  dsimp only
  rw [View.canon_unit_zero hz3]
  exact stored_sum _ _ _ _ h r

theorem s_B (hc : ¬cond0_0 i) (l : Fin 128) :
    sout0_B_0 (F := Ideal) c i a0 h0 a1 h1 a2 h2 a3 h3 a4 h4 a5 h5 a6 h6 a7 h7 a8 h8 a9 h9 a10 h10 a11 h11 hc x0 x1 x2 x3 x4 x5 x6 xs (ix2 0 l) = upto (zRow x0 x1 x3 x4 l) 1023 + xs (ix2 0 l) := by
  rw [← sums_B c a0 h0 a1 h1 a3 h3 a4 h4 a11 h11 x0 x1 x3 x4 xs 1023 l]
  unfold sout0_B_0
  rw [View.read_writes_junk_eq_canon]
  unfold kernelRun0_B
  dsimp only
  rw [View.canon_unit_zero hz]
  exact last_row _ _ _ _ l

end

end Cert.Proof.Fox

end
-- ==== Proof.Fox.Reference.lean ====
/- The reference's four results, entry by entry. -/
module

public import proofs.«01_k».proof.Proof.Fox.Spec
public import proofs.«01_k».proof.Proof.Gen.Kernel4Ideal.Value
public import proofs.«01_k».proof.Proof.Gen.Reference4Ideal.Read

@[expose] public section

noncomputable section

namespace Cert.Proof.Fox

open Cert.Reference4Ideal Cert.Reference4Ideal.Read Idealize.ShloMosaic Idealize.ShloMosaic.TcCoe Idealize.SL.Sem
open Cert.Proof.Ffn (hrow)
open scoped BigOperators

/-- A window sum from zero is the sum over the window's positions, those in the padding counting zero. -/
theorem window_sum {s t u : Shape} (window strides lo hi : Fin s.rank → Nat) (x : FVec Ideal s .f32) (init : FVec Ideal u .f32) (h : s.ReduceWindows window strides lo hi t)
    (hu : 0 < u.numel) (j : t.Idx) (h0 : init (Shape.Idx.first hu) = 0) :
    Host.reduceWindowAdd window strides lo hi x init h hu j
      = ∑ w : (⟨s.rank, window⟩ : Shape).Idx, if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  show Ideal.hostReduceWindowAdd window strides lo hi h x (init (Shape.Idx.first hu)) j = _
  rw [h0]
  unfold Ideal.hostReduceWindowAdd Host.reduceWindow
  dsimp only
  rw [foldl_add, ← Fin.sum_univ_def, zero_add]
  refine Eq.trans (Finset.sum_congr rfl fun k _ => ?_) (Equiv.sum_comp (⟨s.rank, window⟩ : Shape).rowMajor.symm (fun w : (⟨s.rank, window⟩ : Shape).Idx =>
    if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else 0))
  exact dite_congr rfl (fun _ => rfl) (fun _ => rfl)

/-- Low-padded window sums of a column are the sums up to each row. -/
theorem window_upto (x : FVec Ideal S8x4096x16 .f32) (init : FVec Ideal S_ .f32) (hinit : ∀ i, init i = 0)
    (h : S8x4096x16.ReduceWindows ![1, 4096, 1] ![1, 1, 1] ![0, 4095, 0] ![0, 0, 0] S8x4096x16) (hu : 0 < S_.numel) (b : Fin 8) (s : Fin 4096) (n : Fin 16) :
    Host.reduceWindowAdd ![1, 4096, 1] ![1, 1, 1] ![0, 4095, 0] ![0, 0, 0] x init h hu (ix3 b s n) = upto (fun s => x (ix3 b s n)) s := by
  rw [window_sum _ _ _ _ x init h hu (ix3 b s n) (hinit _)]
  let W : Shape := ⟨3, ![1, 4096, 1]⟩
  let G : W.Idx → EReal := fun w => if hk : 4095 ≤ s.val + (w 1).val then x (ix3 b ⟨s.val + (w 1).val - 4095, by
    have h1 : (w 1).val < 4096 := (w 1).isLt
    omega⟩ n) else 0
  refine Eq.trans (b := ∑ w : W.Idx, G w) (Finset.sum_congr rfl fun w _ => ?_) ?_
  · show _ = G w
    have h0 : (w 0).val = 0 := Nat.lt_one_iff.1 (w 0).isLt
    have h1 : (w 1).val < 4096 := (w 1).isLt
    have h2 : (w 2).val = 0 := Nat.lt_one_iff.1 (w 2).isLt
    have hb := b.isLt
    have hs := s.isLt
    have hn := n.isLt
    split
    · next hin =>
      have q := (hin 1).1
      change 4095 ≤ s.val * 1 + (w 1).val at q
      show _ = dite _ _ _
      rw [dif_pos (by omega)]
      refine congrArg x (funext fun a => Fin.ext ?_)
      match a with
      | ⟨0, _⟩ => show b.val * 1 + (w 0).val - 0 = b.val; omega
      | ⟨1, _⟩ => show s.val * 1 + (w 1).val - 4095 = s.val + (w 1).val - 4095; omega
      | ⟨2, _⟩ => show n.val * 1 + (w 2).val - 0 = n.val; omega
    · next hin =>
      show _ = dite _ _ _
      rw [dif_neg fun hle => hin fun a => by
        match a with
        | ⟨0, _⟩ => show 0 ≤ b.val * 1 + (w 0).val ∧ b.val * 1 + (w 0).val - 0 < 8; omega
        | ⟨1, _⟩ => show 4095 ≤ s.val * 1 + (w 1).val ∧ s.val * 1 + (w 1).val - 4095 < 4096; omega
        | ⟨2, _⟩ => show 0 ≤ n.val * 1 + (w 2).val ∧ n.val * 1 + (w 2).val - 0 < 16; omega]
  · unfold upto
    let e : Fin 4096 → W.Idx := fun i => fun a => match a with
      | ⟨0, _⟩ => (0 : Fin 1)
      | ⟨1, _⟩ => (⟨(i.val + 4095 - s.val) % 4096, Nat.mod_lt _ (by decide)⟩ : Fin 4096)
      | ⟨2, _⟩ => (0 : Fin 1)
    have he : ∀ i, (e i 1).val = (i.val + 4095 - s.val) % 4096 := fun _ => rfl
    refine (Fintype.sum_bijective e ⟨fun i j hij => ?_, fun w => ?_⟩ _ _ fun i => ?_).symm
    · have q : (e i 1).val = (e j 1).val := congrArg (fun w : W.Idx => (w 1).val) hij
      rw [he, he] at q
      exact Fin.ext (by omega)
    · have h1 : (w 1).val < 4096 := (w 1).isLt
      refine ⟨⟨((w 1).val + s.val + 1) % 4096, Nat.mod_lt _ (by decide)⟩, funext fun a => Fin.ext ?_⟩
      match a with
      | ⟨0, _⟩ => exact (Nat.lt_one_iff.1 (w 0).isLt).symm
      | ⟨1, _⟩ => show (((w 1).val + s.val + 1) % 4096 + 4095 - s.val) % 4096 = (w 1).val; omega
      | ⟨2, _⟩ => exact (Nat.lt_one_iff.1 (w 2).isLt).symm
    · show _ = dite _ _ _
      by_cases hi : i ≤ s
      · have hi' : i.val ≤ s.val := hi
        rw [if_pos hi, dif_pos (by rw [he]; omega)]
        refine congrArg x (congrArg (fun k => ix3 b k n) (Fin.ext ?_))
        show i.val = s.val + (e i 1).val - 4095
        rw [he]; omega
      · have hi' : ¬i.val ≤ s.val := hi
        rw [if_neg hi, dif_neg (by rw [he]; omega)]

variable (x : FVec Ideal S8x4096x1024 .f32) (g : FVec Ideal S4x1024 .f32) (w : FVec Ideal S1x1024x3088 .f32) (b : FVec Ideal S1x16 .f32)
    (qn kn : FVec Ideal S1x64 .f32)

/-- The normalised row times one column of the weights. -/
def Y (p : Fin 8) (s : Fin 4096) (n : Fin 3088) : EReal :=
  ∑ k, hrow (fun i => x (ix3 p s i)) (fun i => g (ix2 1 i)) k * w (ix3 0 k n)

/-- The queries, as the attention takes them. -/
def Q : FVec Ideal S8x4096x1024 .bf16 := fun i =>
  head (fun n => Y x g w (i 0) (i 1) ⟨n.val, by omega⟩) (fun e => qn (ix2 0 e)) (i 2) * Ideal.ofBits .f32 0x3E38AA3B#32

/-- The keys, transposed. -/
def KT : FVec Ideal S8x1024x4096 .bf16 := fun i =>
  head (fun n => Y x g w (i 0) (i 2) ⟨1024 + n.val, by omega⟩) (fun e => kn (ix2 0 e)) (i 1)

/-- The values. -/
def VV : FVec Ideal S8x4096x1024 .bf16 := fun i =>
  Y x g w (i 0) (i 1) ⟨2048 + (i 2).val, by have h : (i 2).val < 1024 := (i 2).isLt; omega⟩

/-- The forget gates' running sums. -/
def CC : FVec Ideal S8x16x4096 .f32 := fun i =>
  upto (fun s : Fin 4096 => ls (Y x g w (i 0) s ⟨3072 + (i 1).val, by have h : (i 1).val < 16 := (i 1).isLt; omega⟩ + b (ix2 0 (i 1)))) (i 2)
    * Ideal.ofBits .f32 0x3FB8AA3B#32

theorem ref_norm (p : Fin 8) (s : Fin 4096) (k : Fin 1024) :
    val_main_v14 (F := Ideal) x g (ix3 p s k) = hrow (fun i => x (ix3 p s i)) (fun i => g (ix2 1 i)) k := by
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply]
  unfold hrow
  refine congrArg₂ (· * ·) (congrArg₂ (· * ·) rfl (congrArg Ideal.rsqrt (congrArg₂ (· + ·) (congrArg₂ Ideal.div ?_ rfl) rfl))) (congrArg g ?_)
  · refine (congrArg (· + _) Ideal.ofBits_zero_f32).trans ((zero_add _).trans ?_)
    exact Finset.sum_congr rfl fun i _ => congrArg₂ (· * ·) (congrArg x (by blk_ext)) (congrArg x (by blk_ext))
  · blk_ext

theorem ref_proj (p : Fin 8) (s : Fin 4096) (n : Fin 3088) : val_main_v16 (F := Ideal) x g w (ix3 p s n) = Y x g w p s n := by
  rw [val_main_v16_apply]
  refine Finset.sum_congr rfl fun k _ => congrArg₂ (· * ·) ?_ ?_
  · rw [← ref_norm]; exact congrArg _ (by blk_ext)
  · rw [val_main_v15_apply]; exact congrArg w (by blk_ext)

theorem ref_q (p : Fin 8) (s : Fin 4096) (h : Fin 16) (e : Fin 64) :
    val_main_v21 (F := Ideal) x g w (ix4 p s h e) = Y x g w p s ⟨h.val * 64 + e.val, by omega⟩ := by
  rw [val_main_v21_apply, val_main_v17_apply, ← ref_proj]
  exact congrArg _ (by blk_ext)

theorem ref_k (p : Fin 8) (s : Fin 4096) (h : Fin 16) (e : Fin 64) :
    val_main_v38 (F := Ideal) x g w (ix4 p s h e) = Y x g w p s ⟨1024 + (h.val * 64 + e.val), by omega⟩ := by
  rw [val_main_v38_apply, val_main_v18_apply, ← ref_proj]
  exact congrArg _ (by blk_ext)

theorem ref_qh (p : Fin 8) (s : Fin 4096) (n : Fin 1024) :
    val_main_v37 (F := Ideal) x g w qn (ix4 p s ⟨n.val / 64, by omega⟩ ⟨n.val % 64, Nat.mod_lt _ (by decide)⟩)
      = head (fun n => Y x g w p s ⟨n.val, by omega⟩) (fun e => qn (ix2 0 e)) n * Ideal.ofBits .f32 0x3E38AA3B#32 := by
  rw [val_main_v37_apply, val_main_v36_apply, val_main_v35_apply, val_main_v34_apply, val_main_v33_apply, val_main_v32_apply, val_main_v31_apply,
    val_main_v30_apply, val_main_v29_apply, val_main_v28_apply, val_main_v27_apply, val_main_v26_apply, val_main_v25_apply, val_main_v24_apply, val_main_v22_apply,
    ref_q]
  unfold head
  refine congrArg₂ (· * ·) (congrArg₂ (· * ·) (congrArg₂ (· * ·) ?_ (congrArg Ideal.rsqrt (congrArg₂ (· + ·) (congrArg₂ Ideal.div ?_ rfl) rfl))) (congrArg qn ?_)) rfl
  · exact congrArg _ (Fin.ext (by show n.val / 64 * 64 + n.val % 64 = n.val; omega))
  · refine (congrArg (· + _) Ideal.ofBits_zero_f32).trans ((zero_add _).trans ?_)
    refine Finset.sum_congr rfl fun e _ => ?_
    rw [val_main_v23_apply]
    have q := (congrArg (val_main_v21 (F := Ideal) x g w) (show idx_main_v24 (idx_main_v25 (idx_main_v31 (ix4 p s ⟨n.val / 64, by omega⟩ ⟨n.val % 64, Nat.mod_lt _ (by decide)⟩))) e = ix4 p s ⟨n.val / 64, by omega⟩ e by blk_ext)).trans
      (ref_q x g w p s ⟨n.val / 64, by omega⟩ e)
    exact congrArg₂ (· * ·) q q
  · blk_ext

theorem ref_kh (p : Fin 8) (s : Fin 4096) (n : Fin 1024) :
    val_main_v52 (F := Ideal) x g w kn (ix4 p s ⟨n.val / 64, by omega⟩ ⟨n.val % 64, Nat.mod_lt _ (by decide)⟩)
      = head (fun n => Y x g w p s ⟨1024 + n.val, by omega⟩) (fun e => kn (ix2 0 e)) n := by
  rw [val_main_v52_apply, val_main_v51_apply, val_main_v50_apply, val_main_v49_apply, val_main_v48_apply,
    val_main_v47_apply, val_main_v46_apply, val_main_v45_apply, val_main_v44_apply, val_main_v43_apply, val_main_v42_apply, val_main_v41_apply, val_main_v39_apply,
    ref_k]
  unfold head
  refine congrArg₂ (· * ·) (congrArg₂ (· * ·) ?_ (congrArg Ideal.rsqrt (congrArg₂ (· + ·) (congrArg₂ Ideal.div ?_ rfl) rfl))) (congrArg kn ?_)
  · exact congrArg _ (Fin.ext (by show 1024 + (n.val / 64 * 64 + n.val % 64) = 1024 + n.val; omega))
  · refine (congrArg (· + _) Ideal.ofBits_zero_f32).trans ((zero_add _).trans ?_)
    refine Finset.sum_congr rfl fun e _ => ?_
    rw [val_main_v40_apply]
    have q := (congrArg (val_main_v38 (F := Ideal) x g w) (show idx_main_v41 (idx_main_v42 (idx_main_v48 (ix4 p s ⟨n.val / 64, by omega⟩ ⟨n.val % 64, Nat.mod_lt _ (by decide)⟩))) e = ix4 p s ⟨n.val / 64, by omega⟩ e by blk_ext)).trans
      (ref_k x g w p s ⟨n.val / 64, by omega⟩ e)
    exact congrArg₂ (· * ·) q q
  · blk_ext

theorem q_eq : val_main_v65 (F := Ideal) x g w qn = Q x g w qn := by
  funext i
  obtain ⟨p, s, n, rfl⟩ : ∃ (p : Fin 8) (s : Fin 4096) (n : Fin 1024), i = ix3 p s n := ⟨i 0, i 1, i 2, by blk_ext⟩
  rw [val_main_v65_apply, val_main_v62_apply]
  exact (congrArg (val_main_v37 (F := Ideal) x g w qn) (by blk_ext)).trans (ref_qh x g w qn p s n)

theorem k_eq : val_main_v66 (F := Ideal) x g w kn = KT x g w kn := by
  funext i
  obtain ⟨p, n, s, rfl⟩ : ∃ (p : Fin 8) (n : Fin 1024) (s : Fin 4096), i = ix3 p n s := ⟨i 0, i 1, i 2, by blk_ext⟩
  rw [val_main_v66_apply, val_main_v64_apply, val_main_v63_apply]
  exact (congrArg (val_main_v52 (F := Ideal) x g w kn) (by blk_ext)).trans (ref_kh x g w kn p s n)

theorem v_eq : val_main_v67 (F := Ideal) x g w = VV x g w := by
  funext i
  obtain ⟨p, s, n, rfl⟩ : ∃ (p : Fin 8) (s : Fin 4096) (n : Fin 1024), i = ix3 p s n := ⟨i 0, i 1, i 2, by blk_ext⟩
  rw [val_main_v67_apply, val_main_v19_apply]
  exact (congrArg (val_main_v16 (F := Ideal) x g w) (by blk_ext)).trans (ref_proj x g w p s ⟨2048 + n.val, by omega⟩)

theorem une_self (d : EReal) : Ideal.cmp .une d d = 0#1 := by
  simp [Ideal.cmp]

theorem ref_gate (p : Fin 8) (s : Fin 4096) (h : Fin 16) :
    val_main_v57 (F := Ideal) x g w b (ix3 p s h) = ls (Y x g w p s ⟨3072 + h.val, by omega⟩ + b (ix2 0 h)) := by
  have hf : val_main_v56 (F := Ideal) x g w b (ix3 p s h) = Y x g w p s ⟨3072 + h.val, by omega⟩ + b (ix2 0 h) := by
    rw [val_main_v56_apply, val_main_v20_apply, val_main_v55_apply, val_main_v54_apply, val_main_v53_apply, ← ref_proj]
    exact congrArg₂ (· + ·) (congrArg _ (by blk_ext)) (congrArg b (by blk_ext))
  rw [← hf, val_main_v57_apply, val_main_call0_v1_apply, val_main_call0_call0_v11_apply, val_main_call0_call0_v10_apply, val_main_call0_call0_v9_apply,
    val_main_call0_call0_v8_apply, val_main_call0_call0_v7_apply, val_main_call0_call0_v6_apply, val_main_call0_call0_v5_apply, val_main_call0_call0_v4_apply,
    val_main_call0_call0_v3_apply, val_main_call0_call0_v2_apply, val_main_call0_call0_v1_apply, val_main_call0_call0_v0_apply, val_main_call0_v0_apply]
  generalize val_main_v56 (F := Ideal) x g w b (ix3 p s h) = f
  rw [← neg_softplus, ← Ideal.ofBits_zero_f32]
  refine (congrArg (fun t => -(Scalar.select t _ _)) (une_self _)).trans ?_
  rfl

theorem c_eq : val_main_v61 (F := Ideal) x g w b = CC x g w b := by
  funext i
  obtain ⟨p, h, s, rfl⟩ : ∃ (p : Fin 8) (h : Fin 16) (s : Fin 4096), i = ix3 p h s := ⟨i 0, i 1, i 2, by blk_ext⟩
  rw [val_main_v61_apply, val_main_v59_apply]
  refine congrArg₂ (· * ·) ?_ rfl
  refine (congrArg (val_main_v58 (F := Ideal) x g w b) (show idx_main_v59 (ix3 p h s) = ix3 p s h by blk_ext)).trans ?_
  unfold val_main_v58
  refine (window_upto _ _ (fun i => ?_) _ _ p s h).trans ?_
  · rw [val_main_call1_call0_v0_apply]; exact Ideal.ofBits_zero_f32
  · exact congrArg (fun f => upto f s) (funext fun s => ref_gate x g w b p s h)

end Cert.Proof.Fox

end
-- ==== Proof.Fox.Kernel.lean ====
/- The attention projections over the grid: the windows' reads, the carried sums, and the four result arrays as functions
   of the arguments. -/
module

public import proofs.«01_k».proof.Proof.Fox.Out
public import Idealize.ShloMosaic.Lib.StableHlo.ReadAt
public import proofs.«01_k».proof.Proof.Fox.Reference

@[expose] public section

noncomputable section

namespace Cert.Proof.Fox

open Cert.Kernel4Ideal Cert.Kernel4Ideal.Gen Idealize.ShloMosaic Idealize.ShloMosaic.TcCoe Idealize.SL.Sem
open Cert.Proof.Ffn (hrow)
open scoped BigOperators

/-! ## Running sums, tile by tile -/

/-- A sum of the entries before a position. -/
def before (f : Fin 4096 → EReal) (n : Nat) : EReal := ∑ i, if i.val < n then f i else 0

theorem before_zero (f : Fin 4096 → EReal) : before f 0 = 0 :=
  Finset.sum_eq_zero fun i _ => if_neg (Nat.not_lt_zero _)

/-- Row `r` of tile `q`. -/
def row (q : Fin 4) (r : Fin 1024) : Fin 4096 := ⟨1024 * q.val + r.val, by omega⟩

theorem upto_row (f : Fin 4096 → EReal) (q : Fin 4) (r : Fin 1024) :
    upto f (row q r) = upto (fun s => f (row q s)) r + before f (1024 * q.val) := by
  have e : upto (fun s => f (row q s)) r = ∑ i : Fin 4096, if 1024 * q.val ≤ i.val ∧ i.val ≤ 1024 * q.val + r.val then f i else 0 := by
    refine Fintype.sum_of_injective (row q) (fun a b h => ?_) _ _ (fun i hi => ?_) (fun s => ?_)
    · have h' := congrArg Fin.val h
      exact Fin.ext (by unfold row at h'; dsimp only at h'; omega)
    · refine if_neg fun h => hi ⟨⟨i.val - 1024 * q.val, by omega⟩, Fin.ext ?_⟩
      show 1024 * q.val + (i.val - 1024 * q.val) = i.val
      omega
    · refine if_congr ?_ rfl rfl
      rw [Fin.le_def]
      show s.val ≤ r.val ↔ 1024 * q.val ≤ 1024 * q.val + s.val ∧ 1024 * q.val + s.val ≤ 1024 * q.val + r.val
      omega
  rw [e]
  unfold before upto
  rw [← Finset.sum_add_distrib]
  refine Finset.sum_congr rfl fun i _ => ?_
  have hl : i ≤ row q r ↔ i.val ≤ 1024 * q.val + r.val := Fin.le_def
  by_cases h1 : i.val < 1024 * q.val
  · rw [if_pos (hl.mpr (by omega)), if_neg (by omega), if_pos h1, zero_add]
  · by_cases h2 : i.val ≤ 1024 * q.val + r.val
    · rw [if_pos (hl.mpr h2), if_pos ⟨by omega, h2⟩, if_neg h1, add_zero]
    · rw [if_neg (fun h => h2 (hl.mp h)), if_neg (fun h => h2 h.2), if_neg h1, add_zero]

theorem before_next (f : Fin 4096 → EReal) (q : Fin 4) :
    before f (1024 * (q.val + 1)) = upto (fun s => f (row q s)) 1023 + before f (1024 * q.val) := by
  rw [← upto_row]
  refine Finset.sum_congr rfl fun i _ => if_congr ?_ rfl rfl
  rw [Fin.le_def]
  show i.val < 1024 * (q.val + 1) ↔ i.val ≤ 1024 * q.val + 1023
  omega

/-! ## The windows -/

variable (m : (ℓ : Loc nD τ sig) → Buf (Elt Ideal) ℓ)

theorem idx0 : ∀ t : Fin cfg0.N, win0_0.index t = ![t.val / 4, t.val % 4, 0] := by decide +kernel
theorem idx1 : ∀ t : Fin cfg0.N, win0_1.index t = ![0, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val / 4, t.val % 4, 0] := by decide +kernel
theorem idx8 : ∀ t : Fin cfg0.N, win0_8.index t = ![t.val / 4, 0, t.val % 4] := by decide +kernel
theorem idx9 : ∀ t : Fin cfg0.N, win0_9.index t = ![t.val / 4, t.val % 4, 0] := by decide +kernel
theorem idx10 : ∀ t : Fin cfg0.N, win0_10.index t = ![t.val / 4, 0, t.val % 4] := by decide +kernel

/-- A grid point's batch. -/
def bat (t : Fin cfg0.N) : Fin 8 := ⟨t.val / 4, by have h := Nat.lt_of_lt_of_eq t.isLt N_0; omega⟩

/-- A grid point's tile. -/
def til (t : Fin cfg0.N) : Fin 4 := ⟨t.val % 4, Nat.mod_lt _ (by decide)⟩

theorem x_read (c : Dev nD) (t : Fin cfg0.N) (r k : Fin 1024) :
    iblk m c 0 t (ix3 0 r k) = m ((c : Thread nD τ).loc main_arg0) (ix3 (bat t) (row (til t) r) k) := by
  unfold bat til row
  blk_ext [iblk, V, idx0 t]

theorem read1 (t : Fin cfg0.N) (X : FVec Ideal S1x1024 .f32) (k : Fin 1024) :
    ((cfg0.win 1).blk t).view.read (Elt Ideal) X (ix2 0 k) = X (ix2 0 k) := by
  blk_ext [idx1 t]

theorem g_read (c : Dev nD) (t : Fin cfg0.N) (k : Fin 1024) :
    iblk m c 1 t (ix2 0 k) = m ((c : Thread nD τ).loc main_arg1) (ix2 1 k) := by
  unfold iblk
  refine (read1 t _ k).trans ?_
  show StableHlo.after (List.flatten [hostOps0, hostOps0_1, hostOps0_2, hostOps0_3, hostOps0_4]) (fun b => m (c, b)) (Proc.devRef .tc main_v7) (ix2 0 k) = _
  simp only [hostOps0, hostOps0_1, hostOps0_2, hostOps0_3, hostOps0_4, List.flatten_cons, List.flatten_nil, List.append_nil, List.cons_append, List.nil_append]
  after_reads_at

theorem read2 (t : Fin cfg0.N) (X : FVec Ideal S1x1024x3072 .bf16) (k : Fin 1024) (n : Fin 3072) :
    ((cfg0.win 2).blk t).view.read (Elt Ideal) X (ix3 0 k n) = X (ix3 0 k n) := by
  blk_ext [idx2 t]

theorem w_read (c : Dev nD) (t : Fin cfg0.N) (k : Fin 1024) (n : Fin 3072) :
    iblk m c 2 t (ix3 0 k n) = m ((c : Thread nD τ).loc main_arg2) (ix3 0 k ⟨n.val, by omega⟩) := by
  unfold iblk
  refine (read2 t _ k n).trans ?_
  show StableHlo.after (List.flatten [hostOps0, hostOps0_1, hostOps0_2, hostOps0_3, hostOps0_4]) (fun b => m (c, b)) (Proc.devRef .tc main_v1) (ix3 0 k n) = _
  simp only [hostOps0, hostOps0_1, hostOps0_2, hostOps0_3, hostOps0_4, List.flatten_cons, List.flatten_nil, List.append_nil, List.cons_append, List.nil_append]
  after_reads_at

theorem read3 (t : Fin cfg0.N) (X : FVec Ideal S1x1024x128 .bf16) (k : Fin 1024) (n : Fin 128) :
    ((cfg0.win 3).blk t).view.read (Elt Ideal) X (ix3 0 k n) = X (ix3 0 k n) := by
  blk_ext [idx3 t]

theorem f_read (c : Dev nD) (t : Fin cfg0.N) (k : Fin 1024) (h : Fin 16) :
    iblk m c 3 t (ix3 0 k ⟨h.val, by omega⟩) = m ((c : Thread nD τ).loc main_arg2) (ix3 0 k ⟨3072 + h.val, by omega⟩) := by
  unfold iblk
  refine (read3 t _ k _).trans ?_
  show StableHlo.after (List.flatten [hostOps0, hostOps0_1, hostOps0_2, hostOps0_3, hostOps0_4]) (fun b => m (c, b)) (Proc.devRef .tc main_v4) (ix3 0 k _) = _
  simp only [hostOps0, hostOps0_1, hostOps0_2, hostOps0_3, hostOps0_4, List.flatten_cons, List.flatten_nil, List.append_nil, List.cons_append, List.nil_append]
  after_reads_at

theorem read4 (t : Fin cfg0.N) (X : FVec Ideal S1x128 .f32) (k : Fin 128) :
    ((cfg0.win 4).blk t).view.read (Elt Ideal) X (ix2 0 k) = X (ix2 0 k) := by
  blk_ext [idx4 t]

theorem b_read (c : Dev nD) (t : Fin cfg0.N) (h : Fin 16) :
    iblk m c 4 t (ix2 0 ⟨h.val, by omega⟩) = m ((c : Thread nD τ).loc main_arg3) (ix2 0 h) := by
  unfold iblk
  refine (read4 t _ _).trans ?_
  show StableHlo.after (List.flatten [hostOps0, hostOps0_1, hostOps0_2, hostOps0_3, hostOps0_4]) (fun b => m (c, b)) (Proc.devRef .tc main_v10) (ix2 0 _) = _
  simp only [hostOps0, hostOps0_1, hostOps0_2, hostOps0_3, hostOps0_4, List.flatten_cons, List.flatten_nil, List.append_nil, List.cons_append, List.nil_append]
  after_reads_at

theorem read5 (t : Fin cfg0.N) (X : FVec Ideal S1x128 .f32) (k : Fin 128) :
    ((cfg0.win 5).blk t).view.read (Elt Ideal) X (ix2 0 k) = X (ix2 0 k) := by
  blk_ext [idx5 t]

theorem qn_read (c : Dev nD) (t : Fin cfg0.N) (j : Fin 128) :
    iblk m c 5 t (ix2 0 j) = m ((c : Thread nD τ).loc main_arg4) (ix2 0 ⟨j.val % 64, Nat.mod_lt _ (by decide)⟩) := by
  unfold iblk
  refine (read5 t _ _).trans ?_
  show StableHlo.after (List.flatten [hostOps0, hostOps0_1, hostOps0_2, hostOps0_3, hostOps0_4]) (fun b => m (c, b)) (Proc.devRef .tc main_v13) (ix2 0 j) = _
  simp only [hostOps0, hostOps0_1, hostOps0_2, hostOps0_3, hostOps0_4, List.flatten_cons, List.flatten_nil, List.append_nil, List.cons_append, List.nil_append]
  after_reads_at
  after_reads_at
  by_cases h : j.val < 64
  · refine (dif_pos h).trans ?_
    exact congrArg (fun e : Fin 64 => m ((c : Thread nD τ).loc main_arg4) (ix2 0 e)) (Fin.ext (by show j.val = j.val % 64; omega))
  · refine (dif_neg h).trans ?_
    exact congrArg (fun e : Fin 64 => m ((c : Thread nD τ).loc main_arg4) (ix2 0 e)) (Fin.ext (by show j.val - 64 = j.val % 64; omega))

theorem read6 (t : Fin cfg0.N) (X : FVec Ideal S1x128 .f32) (k : Fin 128) :
    ((cfg0.win 6).blk t).view.read (Elt Ideal) X (ix2 0 k) = X (ix2 0 k) := by
  blk_ext [idx6 t]

theorem kn_read (c : Dev nD) (t : Fin cfg0.N) (j : Fin 128) :
    iblk m c 6 t (ix2 0 j) = m ((c : Thread nD τ).loc main_arg5) (ix2 0 ⟨j.val % 64, Nat.mod_lt _ (by decide)⟩) := by
  unfold iblk
  refine (read6 t _ _).trans ?_
  show StableHlo.after (List.flatten [hostOps0, hostOps0_1, hostOps0_2, hostOps0_3, hostOps0_4]) (fun b => m (c, b)) (Proc.devRef .tc main_v16) (ix2 0 j) = _
  simp only [hostOps0, hostOps0_1, hostOps0_2, hostOps0_3, hostOps0_4, List.flatten_cons, List.flatten_nil, List.append_nil, List.cons_append, List.nil_append]
  after_reads_at
  after_reads_at
  by_cases h : j.val < 64
  · refine (dif_pos h).trans ?_
    exact congrArg (fun e : Fin 64 => m ((c : Thread nD τ).loc main_arg5) (ix2 0 e)) (Fin.ext (by show j.val = j.val % 64; omega))
  · refine (dif_neg h).trans ?_
    exact congrArg (fun e : Fin 64 => m ((c : Thread nD τ).loc main_arg5) (ix2 0 e)) (Fin.ext (by show j.val - 64 = j.val % 64; omega))

/-! ## One grid point -/

/-- The arguments' projected rows. -/
abbrev yy (c : Dev nD) (p : Fin 8) (s : Fin 4096) (n : Fin 3088) : EReal :=
  Y (m ((c : Thread nD τ).loc main_arg0)) (m ((c : Thread nD τ).loc main_arg1)) (m ((c : Thread nD τ).loc main_arg2)) p s n

/-- The arguments' gates. -/
def gate (c : Dev nD) (p : Fin 8) (h : Fin 16) (s : Fin 4096) : EReal :=
  ls (yy m c p s ⟨3072 + h.val, by omega⟩ + m ((c : Thread nD τ).loc main_arg3) (ix2 0 h))

theorem y_row (c : Dev nD) (t : Fin cfg0.N) (r : Fin 1024) (n : Fin 3072) :
    yRow (iblk m c 0 t) (iblk m c 1 t) (iblk m c 2 t) r n = yy m c (bat t) (row (til t) r) ⟨n.val, by omega⟩ := by
  unfold yRow yy Y
  simp only [x_read, g_read, w_read]

theorem z_row (c : Dev nD) (t : Fin cfg0.N) (h : Fin 16) :
    zRow (iblk m c 0 t) (iblk m c 1 t) (iblk m c 3 t) (iblk m c 4 t) ⟨h.val, by omega⟩
      = fun r => gate m c (bat t) h (row (til t) r) := by
  funext r
  unfold zRow gate yy Y
  simp only [x_read, g_read, f_read, b_read]

theorem q_out (c : Dev nD) (t : Fin cfg0.N) (r n : Fin 1024) :
    (outsAt0 m c t.val t.isLt).1 (ix3 0 r n)
      = head (fun n => yy m c (bat t) (row (til t) r) ⟨n.val, by omega⟩) (fun e => m ((c : Thread nD τ).loc main_arg4) (ix2 0 e)) n
        * Ideal.ofBits .f32 0x3E38AA3B#32 := by
  by_cases h0 : t.val % 4 = 0
  · rw [outsAt0_A m c t h0]
    dsimp only
    refine (q_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) ((hcond0_0 t).mpr h0) (fun e => m ((c : Thread nD τ).loc main_arg4) (ix2 0 e)) (qn_read m c t) r n).trans ?_
    simp only [y_row]
  · rw [outsAt0_B m c t h0]
    dsimp only
    refine (q_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 (fun h => h0 ((hcond0_0 t).mp h)) (fun e => m ((c : Thread nD τ).loc main_arg4) (ix2 0 e)) (qn_read m c t) r n).trans ?_
    simp only [y_row]

theorem k_out (c : Dev nD) (t : Fin cfg0.N) (r n : Fin 1024) :
    (outsAt0 m c t.val t.isLt).2.1 (ix3 0 n r)
      = head (fun n => yy m c (bat t) (row (til t) r) ⟨1024 + n.val, by omega⟩) (fun e => m ((c : Thread nD τ).loc main_arg5) (ix2 0 e)) n := by
  by_cases h0 : t.val % 4 = 0
  · rw [outsAt0_A m c t h0]
    dsimp only
    refine (k_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) ((hcond0_0 t).mpr h0) (fun e => m ((c : Thread nD τ).loc main_arg5) (ix2 0 e)) (kn_read m c t) r n).trans ?_
    simp only [y_row]
  · rw [outsAt0_B m c t h0]
    dsimp only
    refine (k_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 (fun h => h0 ((hcond0_0 t).mp h)) (fun e => m ((c : Thread nD τ).loc main_arg5) (ix2 0 e)) (kn_read m c t) r n).trans ?_
    simp only [y_row]

theorem v_out (c : Dev nD) (t : Fin cfg0.N) (r n : Fin 1024) :
    (outsAt0 m c t.val t.isLt).2.2.1 (ix3 0 r n) = yy m c (bat t) (row (til t) r) ⟨2048 + n.val, by omega⟩ := by
  by_cases h0 : t.val % 4 = 0
  · rw [outsAt0_A m c t h0]
    dsimp only
    refine (v_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) ((hcond0_0 t).mpr h0) r n).trans ?_
    exact y_row m c t r _
  · rw [outsAt0_B m c t h0]
    dsimp only
    refine (v_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 (fun h => h0 ((hcond0_0 t).mp h)) r n).trans ?_
    exact y_row m c t r _

theorem carry_reset (c : Dev nD) (t : Fin cfg0.N) (h0 : t.val % 4 = 0) (h : Fin 16) :
    (outsAt0 m c t.val t.isLt).2.2.2.2 (ix2 0 ⟨h.val, by omega⟩) = before (gate m c (bat t) h) (1024 * (t.val % 4 + 1)) := by
  rw [outsAt0_A m c t h0]
  dsimp only
  refine (s_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) ((hcond0_0 t).mpr h0) ⟨h.val, by omega⟩).trans ?_
  rw [z_row]
  refine Eq.trans ?_ (before_next (gate m c (bat t) h) (til t)).symm
  rw [show (til t).val = 0 from h0, Nat.mul_zero, before_zero]

theorem carry_step (c : Dev nD) (t : Fin cfg0.N) (h0 : ¬ t.val % 4 = 0) (h : Fin 16)
    (ih : (outsAt0 m c (t.val - 1) (Nat.lt_of_le_of_lt (Nat.sub_le _ _) t.isLt)).2.2.2.2 (ix2 0 ⟨h.val, by omega⟩)
      = before (gate m c (bat t) h) (1024 * (t.val % 4))) :
    (outsAt0 m c t.val t.isLt).2.2.2.2 (ix2 0 ⟨h.val, by omega⟩) = before (gate m c (bat t) h) (1024 * (t.val % 4 + 1)) := by
  rw [outsAt0_B m c t h0]
  dsimp only
  refine (s_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 (fun h => h0 ((hcond0_0 t).mp h)) ⟨h.val, by omega⟩).trans ?_
  rw [z_row, ih]
  exact (before_next (gate m c (bat t) h) (til t)).symm

/-- After a grid point the carried row holds each gate's sum over the batch's rows so far. -/
theorem carry (c : Dev nD) (h : Fin 16) : ∀ (n : Nat) (hn : n < cfg0.N),
    (outsAt0 m c n hn).2.2.2.2 (ix2 0 ⟨h.val, by omega⟩) = before (gate m c (bat ⟨n, hn⟩) h) (1024 * (n % 4 + 1)) := by
  intro n
  induction n with
  | zero => exact fun hn => carry_reset m c ⟨0, hn⟩ rfl h
  | succ n ih =>
    intro hn
    by_cases h0 : (n + 1) % 4 = 0
    · exact carry_reset m c ⟨n + 1, hn⟩ h0 h
    · refine carry_step m c ⟨n + 1, hn⟩ h0 h ((ih (Nat.lt_of_succ_lt hn)).trans ?_)
      have e1 : bat ⟨n, Nat.lt_of_succ_lt hn⟩ = bat ⟨n + 1, hn⟩ := Fin.ext (by show n / 4 = (n + 1) / 4; omega)
      have e2 : n % 4 + 1 = (n + 1) % 4 := by omega
      rw [e1, e2]

theorem c_out (c : Dev nD) (t : Fin cfg0.N) (h : Fin 16) (r : Fin 1024) :
    (outsAt0 m c t.val t.isLt).2.2.2.1 (ix3 0 h r)
      = upto (gate m c (bat t) h) (row (til t) r) * Ideal.ofBits .f32 0x3FB8AA3B#32 := by
  rw [upto_row]
  by_cases h0 : t.val % 4 = 0
  · rw [outsAt0_A m c t h0]
    dsimp only
    refine (c_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) ((hcond0_0 t).mpr h0) h r).trans ?_
    rw [z_row, show (til t).val = 0 from h0, Nat.mul_zero, before_zero]
  · rw [outsAt0_B m c t h0]
    dsimp only
    refine (c_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 (fun h => h0 ((hcond0_0 t).mp h)) h r).trans ?_
    have e := carry m c h (t.val - 1) (Nat.lt_of_le_of_lt (Nat.sub_le _ _) t.isLt)
    have e1 : bat ⟨t.val - 1, Nat.lt_of_le_of_lt (Nat.sub_le _ _) t.isLt⟩ = bat t := Fin.ext (by show (t.val - 1) / 4 = t.val / 4; omega)
    have e2 : (t.val - 1) % 4 + 1 = t.val % 4 := by omega
    rw [e1, e2] at e
    rw [z_row, e]
    rfl

theorem final7 (c : Dev nD) :
    (dats m 0 c).arrAt 7 cfg0.N = Q (m ((c : Thread nD τ).loc main_arg0)) (m ((c : Thread nD τ).loc main_arg1))
      (m ((c : Thread nD τ).loc main_arg2)) (m ((c : Thread nD τ).loc main_arg4)) := by
  refine (dats m 0 c).arrAt_eq_of_covers 7 _ (by decide +kernel) fun t hf y => ?_
  blk_simp
  rw [after0_7]
  revert y
  intro (y : S1x1024x1024.Idx)
  obtain ⟨r, n, rfl⟩ : ∃ (r : Fin 1024) (n : Fin 1024), y = ix3 0 r n := ⟨y 1, y 2, by blk_ext⟩
  refine (q_out m c t r n).trans ?_
  have e : ((cfg0.win 7).blk t).view.emb (ix3 0 r n : S1x1024x1024.Idx) = ix3 (bat t) (row (til t) r) n := by
    unfold bat til row
    blk_ext [idx7 t]
  rw [e]
  rfl

theorem final8 (c : Dev nD) :
    (dats m 0 c).arrAt 8 cfg0.N = KT (m ((c : Thread nD τ).loc main_arg0)) (m ((c : Thread nD τ).loc main_arg1))
      (m ((c : Thread nD τ).loc main_arg2)) (m ((c : Thread nD τ).loc main_arg5)) := by
  refine (dats m 0 c).arrAt_eq_of_covers 8 _ (by decide +kernel) fun t hf y => ?_
  blk_simp
  rw [after0_8]
  revert y
  intro (y : S1x1024x1024.Idx)
  obtain ⟨n, r, rfl⟩ : ∃ (n : Fin 1024) (r : Fin 1024), y = ix3 0 n r := ⟨y 1, y 2, by blk_ext⟩
  refine (k_out m c t r n).trans ?_
  have e : ((cfg0.win 8).blk t).view.emb (ix3 0 n r : S1x1024x1024.Idx) = ix3 (bat t) n (row (til t) r) := by
    unfold bat til row
    blk_ext [idx8 t]
  rw [e]
  rfl

theorem final9 (c : Dev nD) :
    (dats m 0 c).arrAt 9 cfg0.N = VV (m ((c : Thread nD τ).loc main_arg0)) (m ((c : Thread nD τ).loc main_arg1))
      (m ((c : Thread nD τ).loc main_arg2))  := by
  refine (dats m 0 c).arrAt_eq_of_covers 9 _ (by decide +kernel) fun t hf y => ?_
  blk_simp
  rw [after0_9]
  revert y
  intro (y : S1x1024x1024.Idx)
  obtain ⟨r, n, rfl⟩ : ∃ (r : Fin 1024) (n : Fin 1024), y = ix3 0 r n := ⟨y 1, y 2, by blk_ext⟩
  refine (v_out m c t r n).trans ?_
  have e : ((cfg0.win 9).blk t).view.emb (ix3 0 r n : S1x1024x1024.Idx) = ix3 (bat t) (row (til t) r) n := by
    unfold bat til row
    blk_ext [idx9 t]
  rw [e]
  rfl

theorem final10 (c : Dev nD) :
    (dats m 0 c).arrAt 10 cfg0.N = CC (m ((c : Thread nD τ).loc main_arg0)) (m ((c : Thread nD τ).loc main_arg1))
      (m ((c : Thread nD τ).loc main_arg2)) (m ((c : Thread nD τ).loc main_arg3)) := by
  refine (dats m 0 c).arrAt_eq_of_covers 10 _ (by decide +kernel) fun t hf y => ?_
  blk_simp
  rw [after0_10]
  revert y
  intro (y : S1x16x1024.Idx)
  obtain ⟨h, r, rfl⟩ : ∃ (h : Fin 16) (r : Fin 1024), y = ix3 0 h r := ⟨y 1, y 2, by blk_ext⟩
  refine (c_out m c t h r).trans ?_
  have e : ((cfg0.win 10).blk t).view.emb (ix3 0 h r : S1x16x1024.Idx) = ix3 (bat t) h (row (til t) r) := by
    unfold bat til row
    blk_ext [idx10 t]
  rw [e]
  rfl

end Cert.Proof.Fox

end
-- ==== Proof.Fox.Claims.lean ====
/- What the certificate claims of the attention projections: both programs run, their arguments end unchanged, and from
   equal arguments their four results are equal. -/
module

public import proofs.«01_k».proof.Defs
public import proofs.«01_k».proof.Proof.Fox.Kernel
public import proofs.«01_k».proof.Proof.Gen.Kernel4
public import proofs.«01_k».proof.Proof.Gen.Kernel4.Frame
public import proofs.«01_k».proof.Proof.Gen.Reference4Ideal.Run

@[expose] public section

noncomputable section

namespace Cert.Proof.Fox

open Idealize.ShloMosaic Idealize.SL.Sem

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run (F := Ideal) m ρ)

theorem preserves : Cert.preserves_Kernel4_Kernel4Ideal := trivial

/-- From equal arguments both end at the queries, keys, values and running gates of them. -/
theorem algebraic : Cert.algebraic_Kernel4Ideal_Reference4Ideal := by
  intro m ρ m' ρ' _ hagree
  refine ⟨_, _, _, _, Cert.Kernel4Ideal.Value.run_blocks (F := Ideal) m ρ, ?_⟩
  refine (θ_run Cert.Reference4Ideal.defs _ _).mono
    (fun _ h c => ⟨(h c).1.trans ?_, (h c).2.1.trans ?_, (h c).2.2.1.trans ?_, (h c).2.2.2.1.trans ?_, (h c).2.2.2.2⟩)
    (Cert.Reference4Ideal.Value.run (F := Ideal) m' ρ')
  · rw [final7 m c, Cert.Reference4Ideal.Read.val_main_v65_eq, q_eq, (hagree c).1, (hagree c).2.1, (hagree c).2.2.1,
      (hagree c).2.2.2.2.1]
  · rw [final8 m c, Cert.Reference4Ideal.Read.val_main_v66_eq, k_eq, (hagree c).1, (hagree c).2.1, (hagree c).2.2.1,
      (hagree c).2.2.2.2.2]
  · rw [final9 m c, Cert.Reference4Ideal.Read.val_main_v67_eq, v_eq, (hagree c).1, (hagree c).2.1, (hagree c).2.2.1]
  · rw [final10 m c, Cert.Reference4Ideal.Read.val_main_v61_eq, c_eq, (hagree c).1, (hagree c).2.1, (hagree c).2.2.1,
      (hagree c).2.2.2.1]

end Cert.Proof.Fox

end
-- ==== Proof.Conv.Tap.lean ====
/- The convolution's inner step: thirty-one shifted rows of a slab against the weights' rows, added up. -/
module

public import proofs.«01_k».proof.Proof.Fox.Spec
public import proofs.«01_k».proof.Proof.Gen.Kernel5Ideal.Skeleton
public import Idealize.ShloMosaic.Lib.KernelVsHost

@[expose] public section

noncomputable section

namespace Cert.Proof.Conv

open Cert.Kernel5Ideal Cert.Kernel5Ideal.Gen Idealize.ShloMosaic Idealize.ShloMosaic.TcCoe Idealize.SL.Sem
open scoped BigOperators

/-- One tap: rows from `lo` on, times weight row `k`, added to what is there. -/
def tap (s : FVec Ideal S160x128 .f32) (w : FVec Ideal S31x128 .f32) (lo k : Nat) (hs : S160x128.Slices ![lo, 0] S128x128)
    (hw : S31x128.Slices ![k, 0] S1x128) (acc : FVec Ideal S128x128 .f32) : FVec Ideal S128x128 .f32 :=
  addf acc (mulf (extractStridedSlice S128x128 ![lo, 0] s hs)
    (broadcastTo S128x128 (extractStridedSlice S1x128 ![k, 0] w hw) broadcasts_S1x128_S128x128))

/-- A tap's term at row `r` and lane `l`. -/
def term (s : FVec Ideal S160x128 .f32) (w : FVec Ideal S31x128 .f32) (r l : Fin 128) (k : Fin 31) : EReal :=
  s (ix2 ⟨r.val + 2 + k.val, by omega⟩ l) * w (ix2 k l)

theorem tap_apply (s : FVec Ideal S160x128 .f32) (w : FVec Ideal S31x128 .f32) (lo k : Nat) (hlo : lo ≤ 32) (hk : k < 31)
    (hs : S160x128.Slices ![lo, 0] S128x128) (hw : S31x128.Slices ![k, 0] S1x128) (acc : FVec Ideal S128x128 .f32) (r l : Fin 128) :
    tap s w lo k hs hw acc (ix2 r l) = acc (ix2 r l) + s (ix2 ⟨lo + r.val, by omega⟩ l) * w (ix2 ⟨k, hk⟩ l) := by
  unfold tap
  refine congrArg (acc (ix2 r l) + ·) (congrArg₂ (· * ·) (congrArg s ?_) ?_)
  · funext a
    fin_cases a
    · rfl
    · exact Fin.ext (Nat.zero_add _)
  · pointwise

theorem tap_here (s : FVec Ideal S160x128 .f32) (w : FVec Ideal S31x128 .f32) (lo k : Nat) (hlo : lo = k + 2) (hk : k < 31)
    (hs : S160x128.Slices ![lo, 0] S128x128) (hw : S31x128.Slices ![k, 0] S1x128) (acc : FVec Ideal S128x128 .f32) (r l : Fin 128) :
    tap s w lo k hs hw acc (ix2 r l) = acc (ix2 r l) + term s w r l ⟨k, hk⟩ := by
  rw [tap_apply s w lo k (by omega) hk]
  refine congrArg (fun e : Fin 160 => acc (ix2 r l) + s (ix2 e l) * w (ix2 ⟨k, hk⟩ l)) (Fin.ext ?_)
  show lo + r.val = r.val + 2 + k
  omega

theorem tap_rot (s : FVec Ideal S160x128 .f32) (w : FVec Ideal S31x128 .f32) (n lo k : Nat) (hlo : lo = k + 2 + n) (hk : k < 31) (hl : lo ≤ 32)
    (h : S160x128.Rotates 0 none)
    (hs : S160x128.Slices ![lo, 0] S128x128) (hw : S31x128.Slices ![k, 0] S1x128) (acc : FVec Ideal S128x128 .f32) (r l : Fin 128) :
    tap (dynamicRotate 0 (BitVec.ofNat 32 n) none s h) w lo k hs hw acc (ix2 r l) = acc (ix2 r l) + term s w r l ⟨k, hk⟩ := by
  rw [tap_apply _ w lo k hl hk]
  refine congrArg (fun e : EReal => acc (ix2 r l) + e * w (ix2 ⟨k, hk⟩ l)) ?_
  exact dynamicRotate_apply (0 : Fin 2) (BitVec.ofNat 32 n) s h (ix2 ⟨lo + r.val, by omega⟩ l) (ix2 ⟨r.val + 2 + k, by omega⟩ l) fun a => by
    have hr := r.isLt
    fin_cases a
    · refine Eq.trans ?_ (if_pos rfl).symm
      show r.val + 2 + k = (lo + r.val + 160 - (BitVec.ofNat 32 n).toNat % 160) % 160
      rw [BitVec.toNat_ofNat, Nat.mod_eq_of_lt (by omega : n < 2 ^ 32)]
      omega
    · exact (if_neg (by decide)).symm

/-- A slab's outputs: the bias and the thirty-one taps, eight shifts of the slab one after the other. -/
def slabOut (w : FVec Ideal S31x128 .f32) (b : FVec Ideal S1x128 .f32) (s : FVec Ideal S160x128 .f32) : FVec Ideal S128x128 .f32 :=
  let a0 : FVec Ideal S128x128 .f32 := (addf (broadcast S128x128 (Scalar.ofBits .f32 0x00000000#32)) (broadcastTo S128x128 b broadcasts_S1x128_S128x128))
  let a1 := tap s w 32 30 slices_S160x128_o32_0_S128x128 slices_S31x128_o30_0_S1x128 a0
  let a2 := tap s w 24 22 slices_S160x128_o24_0_S128x128 slices_S31x128_o22_0_S1x128 a1
  let a3 := tap s w 16 14 slices_S160x128_o16_0_S128x128 slices_S31x128_o14_0_S1x128 a2
  let a4 := tap s w 8 6 slices_S160x128_o8_0_S128x128 slices_S31x128_o6_0_S1x128 a3
  let a5 := tap (dynamicRotate 0 1#32 none s rotates_S160x128_d0) w 32 29 slices_S160x128_o32_0_S128x128 slices_S31x128_o29_0_S1x128 a4
  let a6 := tap (dynamicRotate 0 1#32 none s rotates_S160x128_d0) w 24 21 slices_S160x128_o24_0_S128x128 slices_S31x128_o21_0_S1x128 a5
  let a7 := tap (dynamicRotate 0 1#32 none s rotates_S160x128_d0) w 16 13 slices_S160x128_o16_0_S128x128 slices_S31x128_o13_0_S1x128 a6
  let a8 := tap (dynamicRotate 0 1#32 none s rotates_S160x128_d0) w 8 5 slices_S160x128_o8_0_S128x128 slices_S31x128_o5_0_S1x128 a7
  let a9 := tap (dynamicRotate 0 2#32 none s rotates_S160x128_d0) w 32 28 slices_S160x128_o32_0_S128x128 slices_S31x128_o28_0_S1x128 a8
  let a10 := tap (dynamicRotate 0 2#32 none s rotates_S160x128_d0) w 24 20 slices_S160x128_o24_0_S128x128 slices_S31x128_o20_0_S1x128 a9
  let a11 := tap (dynamicRotate 0 2#32 none s rotates_S160x128_d0) w 16 12 slices_S160x128_o16_0_S128x128 slices_S31x128_o12_0_S1x128 a10
  let a12 := tap (dynamicRotate 0 2#32 none s rotates_S160x128_d0) w 8 4 slices_S160x128_o8_0_S128x128 slices_S31x128_o4_0_S1x128 a11
  let a13 := tap (dynamicRotate 0 3#32 none s rotates_S160x128_d0) w 32 27 slices_S160x128_o32_0_S128x128 slices_S31x128_o27_0_S1x128 a12
  let a14 := tap (dynamicRotate 0 3#32 none s rotates_S160x128_d0) w 24 19 slices_S160x128_o24_0_S128x128 slices_S31x128_o19_0_S1x128 a13
  let a15 := tap (dynamicRotate 0 3#32 none s rotates_S160x128_d0) w 16 11 slices_S160x128_o16_0_S128x128 slices_S31x128_o11_0_S1x128 a14
  let a16 := tap (dynamicRotate 0 3#32 none s rotates_S160x128_d0) w 8 3 slices_S160x128_o8_0_S128x128 slices_S31x128_o3_0_S1x128 a15
  let a17 := tap (dynamicRotate 0 4#32 none s rotates_S160x128_d0) w 32 26 slices_S160x128_o32_0_S128x128 slices_S31x128_o26_0_S1x128 a16
  let a18 := tap (dynamicRotate 0 4#32 none s rotates_S160x128_d0) w 24 18 slices_S160x128_o24_0_S128x128 slices_S31x128_o18_0_S1x128 a17
  let a19 := tap (dynamicRotate 0 4#32 none s rotates_S160x128_d0) w 16 10 slices_S160x128_o16_0_S128x128 slices_S31x128_o10_0_S1x128 a18
  let a20 := tap (dynamicRotate 0 4#32 none s rotates_S160x128_d0) w 8 2 slices_S160x128_o8_0_S128x128 slices_S31x128_o2_0_S1x128 a19
  let a21 := tap (dynamicRotate 0 5#32 none s rotates_S160x128_d0) w 32 25 slices_S160x128_o32_0_S128x128 slices_S31x128_o25_0_S1x128 a20
  let a22 := tap (dynamicRotate 0 5#32 none s rotates_S160x128_d0) w 24 17 slices_S160x128_o24_0_S128x128 slices_S31x128_o17_0_S1x128 a21
  let a23 := tap (dynamicRotate 0 5#32 none s rotates_S160x128_d0) w 16 9 slices_S160x128_o16_0_S128x128 slices_S31x128_o9_0_S1x128 a22
  let a24 := tap (dynamicRotate 0 5#32 none s rotates_S160x128_d0) w 8 1 slices_S160x128_o8_0_S128x128 slices_S31x128_o1_0_S1x128 a23
  let a25 := tap (dynamicRotate 0 6#32 none s rotates_S160x128_d0) w 32 24 slices_S160x128_o32_0_S128x128 slices_S31x128_o24_0_S1x128 a24
  let a26 := tap (dynamicRotate 0 6#32 none s rotates_S160x128_d0) w 24 16 slices_S160x128_o24_0_S128x128 slices_S31x128_o16_0_S1x128 a25
  let a27 := tap (dynamicRotate 0 6#32 none s rotates_S160x128_d0) w 16 8 slices_S160x128_o16_0_S128x128 slices_S31x128_o8_0_S1x128 a26
  let a28 := tap (dynamicRotate 0 6#32 none s rotates_S160x128_d0) w 8 0 slices_S160x128_o8_0_S128x128 slices_S31x128_o0_0_S1x128 a27
  let a29 := tap (dynamicRotate 0 7#32 none s rotates_S160x128_d0) w 32 23 slices_S160x128_o32_0_S128x128 slices_S31x128_o23_0_S1x128 a28
  let a30 := tap (dynamicRotate 0 7#32 none s rotates_S160x128_d0) w 24 15 slices_S160x128_o24_0_S128x128 slices_S31x128_o15_0_S1x128 a29
  let a31 := tap (dynamicRotate 0 7#32 none s rotates_S160x128_d0) w 16 7 slices_S160x128_o16_0_S128x128 slices_S31x128_o7_0_S1x128 a30
  a31

theorem taps_sum (f : Fin 31 → EReal) (v : EReal) : List.foldl (fun a k => a + f k) v [30, 22, 14, 6, 29, 21, 13, 5, 28, 20, 12, 4, 27, 19, 11, 3, 26, 18, 10, 2, 25, 17, 9, 1, 24, 16, 8, 0, 23, 15, 7] = v + ∑ k, f k := by
  rw [Fox.foldl_add, Fin.sum_univ_def]
  exact congrArg (v + ·) (List.Perm.sum_eq (List.Perm.map f (by decide)))

theorem slabOut_apply (w : FVec Ideal S31x128 .f32) (b : FVec Ideal S1x128 .f32) (s : FVec Ideal S160x128 .f32) (r l : Fin 128) :
    slabOut w b s (ix2 r l) = b (ix2 0 l) + ∑ k, term s w r l k := by
  unfold slabOut
  dsimp only
  rw [tap_rot s w 7 16 7 (by decide) (by decide) (by decide),
    tap_rot s w 7 24 15 (by decide) (by decide) (by decide),
    tap_rot s w 7 32 23 (by decide) (by decide) (by decide),
    tap_rot s w 6 8 0 (by decide) (by decide) (by decide),
    tap_rot s w 6 16 8 (by decide) (by decide) (by decide),
    tap_rot s w 6 24 16 (by decide) (by decide) (by decide),
    tap_rot s w 6 32 24 (by decide) (by decide) (by decide),
    tap_rot s w 5 8 1 (by decide) (by decide) (by decide),
    tap_rot s w 5 16 9 (by decide) (by decide) (by decide),
    tap_rot s w 5 24 17 (by decide) (by decide) (by decide),
    tap_rot s w 5 32 25 (by decide) (by decide) (by decide),
    tap_rot s w 4 8 2 (by decide) (by decide) (by decide),
    tap_rot s w 4 16 10 (by decide) (by decide) (by decide),
    tap_rot s w 4 24 18 (by decide) (by decide) (by decide),
    tap_rot s w 4 32 26 (by decide) (by decide) (by decide),
    tap_rot s w 3 8 3 (by decide) (by decide) (by decide),
    tap_rot s w 3 16 11 (by decide) (by decide) (by decide),
    tap_rot s w 3 24 19 (by decide) (by decide) (by decide),
    tap_rot s w 3 32 27 (by decide) (by decide) (by decide),
    tap_rot s w 2 8 4 (by decide) (by decide) (by decide),
    tap_rot s w 2 16 12 (by decide) (by decide) (by decide),
    tap_rot s w 2 24 20 (by decide) (by decide) (by decide),
    tap_rot s w 2 32 28 (by decide) (by decide) (by decide),
    tap_rot s w 1 8 5 (by decide) (by decide) (by decide),
    tap_rot s w 1 16 13 (by decide) (by decide) (by decide),
    tap_rot s w 1 24 21 (by decide) (by decide) (by decide),
    tap_rot s w 1 32 29 (by decide) (by decide) (by decide),
    tap_here s w 8 6 (by decide) (by decide),
    tap_here s w 16 14 (by decide) (by decide),
    tap_here s w 24 22 (by decide) (by decide),
    tap_here s w 32 30 (by decide) (by decide)]
  refine Eq.trans ?_ (taps_sum (term s w r l) (b (ix2 0 l)))
  have e : addf (broadcast S128x128 (Scalar.ofBits (F := Ideal) .f32 0x00000000#32)) (broadcastTo S128x128 b broadcasts_S1x128_S128x128) (ix2 r l) = b (ix2 0 l) := by
    refine (congrArg₂ (· + ·) Ideal.ofBits_zero_f32 ?_).trans (zero_add _)
    pointwise
  rw [e]
  rfl

end Cert.Proof.Conv

end
-- ==== Proof.Conv.Trip.lean ====
/- One trip of the convolution's loop over blocks of lanes: eight slabs of rows. -/
module

public import proofs.«01_k».proof.Proof.Conv.Tap
public import proofs.«01_k».proof.Proof.Gen.Kernel5Ideal.Loops

@[expose] public section

noncomputable section

namespace Cert.Proof.Conv

open Cert.Kernel5Ideal Cert.Kernel5Ideal.Gen Idealize.ShloMosaic Idealize.ShloMosaic.TcCoe Idealize.SL.Sem
open scoped BigOperators

/-- A trip's block of the weights, as read. -/
def rdW (a6 : Memref sig .tc .vmem S31x1024 .f32) (X6 : BufTy.Contents (Elt Ideal) a6.view.ty) (k : Fin k0_t1_loop.trips) : Vec Ideal S31x128 .f32 :=
  View.readAt (Elt Ideal) a6.view (Rect.unit (s := S31x1024) (k0_off1 k) S31x128.size (k0_off1_inb k)).toLoadRect X6

/-- A trip's block of the bias, as read. -/
def rdB (a7 : Memref sig .tc .vmem S1x1024 .f32) (X7 : BufTy.Contents (Elt Ideal) a7.view.ty) (k : Fin k0_t1_loop.trips) : Vec Ideal S1x128 .f32 :=
  View.readAt (Elt Ideal) a7.view (Rect.unit (s := S1x1024) (k0_off2 k) S1x128.size (k0_off2_inb k)).toLoadRect X7

/-- A slab's outputs, as stored. -/
def slabSt (w : FVec Ideal S31x128 .f32) (b : FVec Ideal S1x128 .f32) (s : FVec Ideal S160x128 .f32) : FVec Ideal S128x128 .f32 :=
  shapeCast S128x128 (slabOut w b s) shapeCasts_S128x128_S128x128

theorem trip_eq (𝒱 : Variants) (bd : Option 𝒱.V) (c : Dev nD) (i : grid0.Coords) (a2 : Memref sig .tc .vmem S1x1024x1024 .f32) (h2 : a2.IsWhole) (a3 : Memref sig .tc .vmem S1x1024 .f32) (h3 : a3.IsWhole) (a4 : Memref sig .tc .vmem S1x1024x2048 .bf16) (h4 : a4.IsWhole) (a5 : Memref sig .tc .vmem S1x2048 .f32) (h5 : a5.IsWhole) (a6 : Memref sig .tc .vmem S31x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024x1024 .bf16) (h10 : a10.IsWhole) (a11 : Memref sig .tc .vmem S1x1024 .f32) (h11 : a11.IsWhole) (a12 : Memref sig .tc .vmem S1x1024x1024 .f32) (h12 : a12.IsWhole) (a13 : Memref sig .tc .vmem S1056x1024 .f32) (h13 : a13.IsWhole) (a14 : Memref sig .tc .vmem S1024x1024 .f32) (h14 : a14.IsWhole)
    (v26 v33 : FVec Ideal S1024x1024 .f32) (z : Ideal .f32) (X6 : BufTy.Contents (Elt Ideal) a6.view.ty)
    (X7 : BufTy.Contents (Elt Ideal) a7.view.ty) (X13 : BufTy.Contents (Elt Ideal) a13.view.ty) (k : Fin k0_t1_loop.trips) :
    tripL_k0_t1 (F := Ideal) 𝒱 c bd i a2 h2 a3 h3 a4 h4 a5 h5 a6 h6 a7 h7 a8 h8 a9 h9 a10 h10 a11 h11 a12 h12 a13 h13 a14 h14 v26 v33 z X6 X7 X13 k
      = [⟨Rect.unit (k0_off18 k) S128x128.size (k0_off18_inb k), slabSt (k0_pay2 (rdW a6 X6 k)) (k0_pay3 (rdB a7 X7 k)) (View.readAt (Elt Ideal) a13.view (Rect.unit (s := S1056x1024) (k0_off17 k) S160x128.size (k0_off17_inb k)).toLoadRect X13)⟩,
        ⟨Rect.unit (k0_off16 k) S128x128.size (k0_off16_inb k), slabSt (k0_pay2 (rdW a6 X6 k)) (k0_pay3 (rdB a7 X7 k)) (View.readAt (Elt Ideal) a13.view (Rect.unit (s := S1056x1024) (k0_off15 k) S160x128.size (k0_off15_inb k)).toLoadRect X13)⟩,
        ⟨Rect.unit (k0_off14 k) S128x128.size (k0_off14_inb k), slabSt (k0_pay2 (rdW a6 X6 k)) (k0_pay3 (rdB a7 X7 k)) (View.readAt (Elt Ideal) a13.view (Rect.unit (s := S1056x1024) (k0_off13 k) S160x128.size (k0_off13_inb k)).toLoadRect X13)⟩,
        ⟨Rect.unit (k0_off12 k) S128x128.size (k0_off12_inb k), slabSt (k0_pay2 (rdW a6 X6 k)) (k0_pay3 (rdB a7 X7 k)) (View.readAt (Elt Ideal) a13.view (Rect.unit (s := S1056x1024) (k0_off11 k) S160x128.size (k0_off11_inb k)).toLoadRect X13)⟩,
        ⟨Rect.unit (k0_off10 k) S128x128.size (k0_off10_inb k), slabSt (k0_pay2 (rdW a6 X6 k)) (k0_pay3 (rdB a7 X7 k)) (View.readAt (Elt Ideal) a13.view (Rect.unit (s := S1056x1024) (k0_off9 k) S160x128.size (k0_off9_inb k)).toLoadRect X13)⟩,
        ⟨Rect.unit (k0_off8 k) S128x128.size (k0_off8_inb k), slabSt (k0_pay2 (rdW a6 X6 k)) (k0_pay3 (rdB a7 X7 k)) (View.readAt (Elt Ideal) a13.view (Rect.unit (s := S1056x1024) (k0_off7 k) S160x128.size (k0_off7_inb k)).toLoadRect X13)⟩,
        ⟨Rect.unit (k0_off6 k) S128x128.size (k0_off6_inb k), slabSt (k0_pay2 (rdW a6 X6 k)) (k0_pay3 (rdB a7 X7 k)) (View.readAt (Elt Ideal) a13.view (Rect.unit (s := S1056x1024) (k0_off5 k) S160x128.size (k0_off5_inb k)).toLoadRect X13)⟩,
        ⟨Rect.unit (k0_off4 k) S128x128.size (k0_off4_inb k), slabSt (k0_pay2 (rdW a6 X6 k)) (k0_pay3 (rdB a7 X7 k)) (View.readAt (Elt Ideal) a13.view (Rect.unit (s := S1056x1024) (k0_off3 k) S160x128.size (k0_off3_inb k)).toLoadRect X13)⟩] := by
  unfold tripL_k0_t1 trip_k0_t1
  dsimp only
  rfl

end Cert.Proof.Conv

end
-- ==== Proof.Conv.Run.lean ====
/- The convolution's loop over blocks of lanes: every output row is the bias and thirty-one taps of the rows before it. -/
module

public import proofs.«01_k».proof.Proof.Conv.Trip

@[expose] public section

noncomputable section

namespace Cert.Proof.Conv

open Cert.Kernel5Ideal Cert.Kernel5Ideal.Gen Idealize.ShloMosaic Idealize.ShloMosaic.TcCoe Idealize.SL.Sem
open scoped BigOperators

theorem trips_eq : k0_t1_loop.trips = 8 := by
  decide +kernel

theorem off_1 (k : Fin k0_t1_loop.trips) : k0_off1 k = ![0, 128 * k.val] := by
  revert k
  decide +kernel

theorem off_2 (k : Fin k0_t1_loop.trips) : k0_off2 k = ![0, 128 * k.val] := by
  revert k
  decide +kernel

theorem off_3 (k : Fin k0_t1_loop.trips) : k0_off3 k = ![128 * 0, 128 * k.val] := by
  revert k
  decide +kernel

theorem off_4 (k : Fin k0_t1_loop.trips) : k0_off4 k = ![128 * 0, 128 * k.val] := by
  revert k
  decide +kernel

theorem off_5 (k : Fin k0_t1_loop.trips) : k0_off5 k = ![128 * 1, 128 * k.val] := by
  revert k
  decide +kernel

theorem off_6 (k : Fin k0_t1_loop.trips) : k0_off6 k = ![128 * 1, 128 * k.val] := by
  revert k
  decide +kernel

theorem off_7 (k : Fin k0_t1_loop.trips) : k0_off7 k = ![128 * 2, 128 * k.val] := by
  revert k
  decide +kernel

theorem off_8 (k : Fin k0_t1_loop.trips) : k0_off8 k = ![128 * 2, 128 * k.val] := by
  revert k
  decide +kernel

theorem off_9 (k : Fin k0_t1_loop.trips) : k0_off9 k = ![128 * 3, 128 * k.val] := by
  revert k
  decide +kernel

theorem off_10 (k : Fin k0_t1_loop.trips) : k0_off10 k = ![128 * 3, 128 * k.val] := by
  revert k
  decide +kernel

theorem off_11 (k : Fin k0_t1_loop.trips) : k0_off11 k = ![128 * 4, 128 * k.val] := by
  revert k
  decide +kernel

theorem off_12 (k : Fin k0_t1_loop.trips) : k0_off12 k = ![128 * 4, 128 * k.val] := by
  revert k
  decide +kernel

theorem off_13 (k : Fin k0_t1_loop.trips) : k0_off13 k = ![128 * 5, 128 * k.val] := by
  revert k
  decide +kernel

theorem off_14 (k : Fin k0_t1_loop.trips) : k0_off14 k = ![128 * 5, 128 * k.val] := by
  revert k
  decide +kernel

theorem off_15 (k : Fin k0_t1_loop.trips) : k0_off15 k = ![128 * 6, 128 * k.val] := by
  revert k
  decide +kernel

theorem off_16 (k : Fin k0_t1_loop.trips) : k0_off16 k = ![128 * 6, 128 * k.val] := by
  revert k
  decide +kernel

theorem off_17 (k : Fin k0_t1_loop.trips) : k0_off17 k = ![128 * 7, 128 * k.val] := by
  revert k
  decide +kernel

theorem off_18 (k : Fin k0_t1_loop.trips) : k0_off18 k = ![128 * 7, 128 * k.val] := by
  revert k
  decide +kernel

/-- An output of the convolution: the bias and thirty-one rows of the extended block. -/
def conv (E : Vec Ideal S1056x1024 .f32) (W : Vec Ideal S31x1024 .f32) (B : Vec Ideal S1x1024 .f32) (j : S1024x1024.Idx) : EReal :=
  B (ix2 0 (j 1)) + ∑ k : Fin 31, E (ix2 ⟨(j 0).val + 2 + k.val, by have h : (j 0).val < 1024 := (j 0).isLt; omega⟩ (j 1)) * W (ix2 k (j 1))

theorem slabSt_apply (w : FVec Ideal S31x128 .f32) (b : FVec Ideal S1x128 .f32) (s : FVec Ideal S160x128 .f32) (r l : Fin 128) :
    slabSt w b s (ix2 r l) = b (ix2 0 l) + ∑ k, term s w r l k := by
  rw [← slabOut_apply]
  unfold slabSt
  generalize slabOut w b s = z
  pointwise

theorem pay2_apply (w : Vec Ideal S31x128 .f32) (k : Fin 31) (l : Fin 128) : k0_pay2 (F := Ideal) w (ix2 k l) = w (ix2 k l) := by
  unfold k0_pay2
  pointwise

theorem pay3_apply (b : Vec Ideal S1x128 .f32) (l : Fin 128) : k0_pay3 (F := Ideal) b (ix2 0 l) = b (ix2 0 l) := by
  unfold k0_pay3
  pointwise

section
variable (a6 : Memref sig .tc .vmem S31x1024 .f32) (a7 : Memref sig .tc .vmem S1x1024 .f32) (a13 : Memref sig .tc .vmem S1056x1024 .f32)
    (X6 : BufTy.Contents (Elt Ideal) a6.view.ty) (X7 : BufTy.Contents (Elt Ideal) a7.view.ty) (X13 : BufTy.Contents (Elt Ideal) a13.view.ty)

theorem rdW_apply (k : Fin k0_t1_loop.trips) (t : Fin 31) (l : Fin 128) (n : Fin 1024) (hn : n.val = 128 * k.val + l.val) :
    rdW a6 X6 k (ix2 t l) = a6.view.read (Elt Ideal) X6 (ix2 t n) := by
  unfold rdW
  rw [View.readAt_eq_ld]
  refine congrArg (a6.view.read (Elt Ideal) X6) (funext fun a => ?_)
  have e0 : k0_off1 k 0 = 0 := congrFun (off_1 k) 0
  have e1 : k0_off1 k 1 = 128 * k.val := congrFun (off_1 k) 1
  fin_cases a
  · exact Fin.ext (by show k0_off1 k 0 + 1 * t.val = t.val; omega)
  · exact Fin.ext (by show k0_off1 k 1 + 1 * l.val = n.val; omega)

theorem rdB_apply (k : Fin k0_t1_loop.trips) (l : Fin 128) (n : Fin 1024) (hn : n.val = 128 * k.val + l.val) :
    rdB a7 X7 k (ix2 0 l) = a7.view.read (Elt Ideal) X7 (ix2 0 n) := by
  unfold rdB
  rw [View.readAt_eq_ld]
  refine congrArg (a7.view.read (Elt Ideal) X7) (funext fun a => ?_)
  have e1 : k0_off2 k 1 = 128 * k.val := congrFun (off_2 k) 1
  fin_cases a
  · exact Subsingleton.elim (α := Fin 1) _ _
  · exact Fin.ext (by show k0_off2 k 1 + 1 * l.val = n.val; omega)

theorem slab_rd (q k : ℕ) (off : Fin 2 → ℕ) (e : off = ![128 * q, 128 * k]) (inb : ∀ a, off a + S160x128.size a ≤ S1056x1024.size a)
    (r : Fin 160) (l : Fin 128) (R : Fin 1056) (n : Fin 1024) (hR : R.val = 128 * q + r.val) (hn : n.val = 128 * k + l.val) :
    View.readAt (Elt Ideal) a13.view (Rect.unit (s := S1056x1024) off S160x128.size inb).toLoadRect X13 (ix2 r l)
      = a13.view.read (Elt Ideal) X13 (ix2 R n) := by
  rw [View.readAt_eq_ld]
  refine congrArg (a13.view.read (Elt Ideal) X13) (funext fun a => ?_)
  have e0 : off 0 = 128 * q := congrFun e 0
  have e1 : off 1 = 128 * k := congrFun e 1
  fin_cases a
  · exact Fin.ext (by show off 0 + 1 * r.val = R.val; omega)
  · exact Fin.ext (by show off 1 + 1 * l.val = n.val; omega)

theorem piece (q : ℕ) (k : Fin k0_t1_loop.trips) (offr offw : Fin 2 → ℕ) (er : offr = ![128 * q, 128 * k.val]) (ew : offw = ![128 * q, 128 * k.val])
    (inbr : ∀ a, offr a + S160x128.size a ≤ S1056x1024.size a) (inbw : ∀ a, offw a + S128x128.size a ≤ S1024x1024.size a) (x : S128x128.Idx) :
    slabSt (k0_pay2 (rdW a6 X6 k)) (k0_pay3 (rdB a7 X7 k))
        (View.readAt (Elt Ideal) a13.view (Rect.unit (s := S1056x1024) offr S160x128.size inbr).toLoadRect X13) x
      = conv (a13.view.read (Elt Ideal) X13) (a6.view.read (Elt Ideal) X6) (a7.view.read (Elt Ideal) X7)
          ((Rect.unit (s := S1024x1024) offw S128x128.size inbw).emb x) := by
  obtain ⟨r, l, rfl⟩ : ∃ r l, x = ix2 r l := ⟨x 0, x 1, by blk_ext⟩
  rw [slabSt_apply]
  have e0 : offw 0 = 128 * q := congrFun ew 0
  have e1 : offw 1 = 128 * k.val := congrFun ew 1
  have h0 : ((Rect.unit (s := S1024x1024) offw S128x128.size inbw).emb (ix2 r l) 0).val = 128 * q + r.val := by
    show offw 0 + 1 * r.val = _
    omega
  have h1 : ((Rect.unit (s := S1024x1024) offw S128x128.size inbw).emb (ix2 r l) 1).val = 128 * k.val + l.val := by
    show offw 1 + 1 * l.val = _
    omega
  unfold conv
  refine congrArg₂ (· + ·) ((pay3_apply _ l).trans (rdB_apply a7 X7 k l _ h1)) (Finset.sum_congr rfl fun t _ => ?_)
  unfold term
  refine congrArg₂ (· * ·) (slab_rd a13 X13 q k.val offr er inbr _ l _ _ ?_ h1) ((pay2_apply _ t l).trans (rdW_apply a6 X6 k t l _ h1))
  show ((Rect.unit (s := S1024x1024) offw S128x128.size inbw).emb (ix2 r l) 0).val + 2 + t.val = 128 * q + (r.val + 2 + t.val)
  omega

theorem cov (k : ℕ) (j : S1024x1024.Idx) (hj : 128 * k ≤ (j 1).val) (hj' : (j 1).val < 128 * k + 128) (q : ℕ) (off : Fin 2 → ℕ)
    (e : off = ![128 * q, 128 * k]) (inb : ∀ a, off a + S128x128.size a ≤ S1024x1024.size a) (h1 : 128 * q ≤ (j 0).val) (h2 : (j 0).val < 128 * q + 128) :
    j ∈ (Rect.unit (s := S1024x1024) off S128x128.size inb).set := by
  rw [Rect.mem_set_unit]
  intro a
  have e0 : off 0 = 128 * q := congrFun e 0
  have e1 : off 1 = 128 * k := congrFun e 1
  fin_cases a
  · exact ⟨by show off 0 ≤ (j 0).val; omega, by show (j 0).val < off 0 + 128; omega⟩
  · exact ⟨by show off 1 ≤ (j 1).val; omega, by show (j 1).val < off 1 + 128; omega⟩

end

section
variable (𝒱 : Variants) (bd : Option 𝒱.V) (c : Dev nD) (i : grid0.Coords) (a2 : Memref sig .tc .vmem S1x1024x1024 .f32) (h2 : a2.IsWhole) (a3 : Memref sig .tc .vmem S1x1024 .f32) (h3 : a3.IsWhole) (a4 : Memref sig .tc .vmem S1x1024x2048 .bf16) (h4 : a4.IsWhole) (a5 : Memref sig .tc .vmem S1x2048 .f32) (h5 : a5.IsWhole) (a6 : Memref sig .tc .vmem S31x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024x1024 .bf16) (h10 : a10.IsWhole) (a11 : Memref sig .tc .vmem S1x1024 .f32) (h11 : a11.IsWhole) (a12 : Memref sig .tc .vmem S1x1024x1024 .f32) (h12 : a12.IsWhole) (a13 : Memref sig .tc .vmem S1056x1024 .f32) (h13 : a13.IsWhole) (a14 : Memref sig .tc .vmem S1024x1024 .f32) (h14 : a14.IsWhole)
    (v26 v33 : FVec Ideal S1024x1024 .f32) (z : Ideal .f32) (X6 : BufTy.Contents (Elt Ideal) a6.view.ty)
    (X7 : BufTy.Contents (Elt Ideal) a7.view.ty) (X13 : BufTy.Contents (Elt Ideal) a13.view.ty)

theorem trip_fit (k : Fin k0_t1_loop.trips) :
    ∀ p ∈ tripL_k0_t1 (F := Ideal) 𝒱 c bd i a2 h2 a3 h3 a4 h4 a5 h5 a6 h6 a7 h7 a8 h8 a9 h9 a10 h10 a11 h11 a12 h12 a13 h13 a14 h14 v26 v33 z X6 X7 X13 k, ∀ x,
      p.2 x = conv (a13.view.read (Elt Ideal) X13) (a6.view.read (Elt Ideal) X6) (a7.view.read (Elt Ideal) X7) (p.1.emb x) := by
  rw [trip_eq]
  intro p hp
  simp only [List.mem_cons, List.not_mem_nil, or_false] at hp
  rcases hp with rfl | rfl | rfl | rfl | rfl | rfl | rfl | rfl
  · exact fun x => piece a6 a7 a13 X6 X7 X13 7 k _ _ (off_17 k) (off_18 k) (k0_off17_inb k) (k0_off18_inb k) x
  · exact fun x => piece a6 a7 a13 X6 X7 X13 6 k _ _ (off_15 k) (off_16 k) (k0_off15_inb k) (k0_off16_inb k) x
  · exact fun x => piece a6 a7 a13 X6 X7 X13 5 k _ _ (off_13 k) (off_14 k) (k0_off13_inb k) (k0_off14_inb k) x
  · exact fun x => piece a6 a7 a13 X6 X7 X13 4 k _ _ (off_11 k) (off_12 k) (k0_off11_inb k) (k0_off12_inb k) x
  · exact fun x => piece a6 a7 a13 X6 X7 X13 3 k _ _ (off_9 k) (off_10 k) (k0_off9_inb k) (k0_off10_inb k) x
  · exact fun x => piece a6 a7 a13 X6 X7 X13 2 k _ _ (off_7 k) (off_8 k) (k0_off7_inb k) (k0_off8_inb k) x
  · exact fun x => piece a6 a7 a13 X6 X7 X13 1 k _ _ (off_5 k) (off_6 k) (k0_off5_inb k) (k0_off6_inb k) x
  · exact fun x => piece a6 a7 a13 X6 X7 X13 0 k _ _ (off_3 k) (off_4 k) (k0_off3_inb k) (k0_off4_inb k) x

theorem trip_cov (k : Fin k0_t1_loop.trips) (j : S1024x1024.Idx) (hj : 128 * k.val ≤ (j 1).val) (hj' : (j 1).val < 128 * k.val + 128) :
    ∃ p ∈ tripL_k0_t1 (F := Ideal) 𝒱 c bd i a2 h2 a3 h3 a4 h4 a5 h5 a6 h6 a7 h7 a8 h8 a9 h9 a10 h10 a11 h11 a12 h12 a13 h13 a14 h14 v26 v33 z X6 X7 X13 k, j ∈ p.1.set := by
  rw [trip_eq]
  have hj0 : (j 0).val < 1024 := (j 0).isLt
  have cov := cov k.val j hj hj'
  simp only [List.mem_cons, List.not_mem_nil, or_false, exists_eq_or_imp, exists_eq_left]
  by_cases q7 : 896 ≤ (j 0).val
  · exact .inl (cov 7 _ (off_18 k) _ q7 (by omega))
  refine .inr ?_
  by_cases q6 : 768 ≤ (j 0).val
  · exact .inl (cov 6 _ (off_16 k) _ q6 (by omega))
  refine .inr ?_
  by_cases q5 : 640 ≤ (j 0).val
  · exact .inl (cov 5 _ (off_14 k) _ q5 (by omega))
  refine .inr ?_
  by_cases q4 : 512 ≤ (j 0).val
  · exact .inl (cov 4 _ (off_12 k) _ q4 (by omega))
  refine .inr ?_
  by_cases q3 : 384 ≤ (j 0).val
  · exact .inl (cov 3 _ (off_10 k) _ q3 (by omega))
  refine .inr ?_
  by_cases q2 : 256 ≤ (j 0).val
  · exact .inl (cov 2 _ (off_8 k) _ q2 (by omega))
  refine .inr ?_
  by_cases q1 : 128 ≤ (j 0).val
  · exact .inl (cov 1 _ (off_6 k) _ q1 (by omega))
  refine .inr ?_
  exact (cov 0 _ (off_4 k) _ (Nat.zero_le _) (by omega))

theorem loop (n : ℕ) (hn : n ≤ k0_t1_loop.trips) :
    (∀ p ∈ pb_k0_t1 (F := Ideal) 𝒱 c bd i a2 h2 a3 h3 a4 h4 a5 h5 a6 h6 a7 h7 a8 h8 a9 h9 a10 h10 a11 h11 a12 h12 a13 h13 a14 h14 v26 v33 z X6 X7 X13 n, ∀ x,
      p.2 x = conv (a13.view.read (Elt Ideal) X13) (a6.view.read (Elt Ideal) X6) (a7.view.read (Elt Ideal) X7) (p.1.emb x))
    ∧ ∀ j : S1024x1024.Idx, (j 1).val < 128 * n → ∃ p ∈ pb_k0_t1 (F := Ideal) 𝒱 c bd i a2 h2 a3 h3 a4 h4 a5 h5 a6 h6 a7 h7 a8 h8 a9 h9 a10 h10 a11 h11 a12 h12 a13 h13 a14 h14 v26 v33 z X6 X7 X13 n, j ∈ p.1.set := by
  induction n with
  | zero => exact ⟨fun p hp => absurd hp List.not_mem_nil, fun j hj => absurd hj (by omega)⟩
  | succ n ih =>
    obtain ⟨hfit, hcov⟩ := ih (by omega)
    have e := pb_k0_t1_succ (F := Ideal) 𝒱 c bd i a2 h2 a3 h3 a4 h4 a5 h5 a6 h6 a7 h7 a8 h8 a9 h9 a10 h10 a11 h11 a12 h12 a13 h13 a14 h14 v26 v33 z X6 X7 X13 ⟨n, by omega⟩
    have e' : pb_k0_t1 (F := Ideal) 𝒱 c bd i a2 h2 a3 h3 a4 h4 a5 h5 a6 h6 a7 h7 a8 h8 a9 h9 a10 h10 a11 h11 a12 h12 a13 h13 a14 h14 v26 v33 z X6 X7 X13 (n + 1) = _ := e
    rw [e']
    refine ⟨fun p hp => ?_, fun j hj => ?_⟩
    · rcases List.mem_append.1 hp with h | h
      · exact trip_fit 𝒱 bd c i a2 h2 a3 h3 a4 h4 a5 h5 a6 h6 a7 h7 a8 h8 a9 h9 a10 h10 a11 h11 a12 h12 a13 h13 a14 h14 v26 v33 z X6 X7 X13 ⟨n, by omega⟩ p h
      · exact hfit p h
    · by_cases h : (j 1).val < 128 * n
      · obtain ⟨p, hp, hm⟩ := hcov j h
        exact ⟨p, List.mem_append_right _ hp, hm⟩
      · obtain ⟨p, hp, hm⟩ := trip_cov 𝒱 bd c i a2 h2 a3 h3 a4 h4 a5 h5 a6 h6 a7 h7 a8 h8 a9 h9 a10 h10 a11 h11 a12 h12 a13 h13 a14 h14 v26 v33 z X6 X7 X13 ⟨n, by omega⟩ j (by show 128 * n ≤ _; omega) (by show _ < 128 * n + 128; omega)
        exact ⟨p, List.mem_append_left _ hp, hm⟩

/-- The rows the loop leaves. -/
theorem loop_canon (j : S1024x1024.Idx) :
    View.canon (Val := Elt Ideal) (pb_k0_t1 (F := Ideal) 𝒱 c bd i a2 h2 a3 h3 a4 h4 a5 h5 a6 h6 a7 h7 a8 h8 a9 h9 a10 h10 a11 h11 a12 h12 a13 h13 a14 h14 v26 v33 z X6 X7 X13 k0_t1_loop.trips) j
      = conv (a13.view.read (Elt Ideal) X13) (a6.view.read (Elt Ideal) X6) (a7.view.read (Elt Ideal) X7) j := by
  obtain ⟨hfit, hcov⟩ := loop 𝒱 bd c i a2 h2 a3 h3 a4 h4 a5 h5 a6 h6 a7 h7 a8 h8 a9 h9 a10 h10 a11 h11 a12 h12 a13 h13 a14 h14 v26 v33 z X6 X7 X13 k0_t1_loop.trips le_rfl
  refine View.canon_apply_of_pieces (Val := Elt Ideal) (e := .f32) _ _ hfit j (hcov j ?_)
  have h : (j 1).val < 1024 := (j 1).isLt
  rw [trips_eq]
  omega

end

end Cert.Proof.Conv

end
-- ==== Proof.Conv.Spec.lean ====
/- The convolution module of one row, written out: norm, gated projection, the causal window of thirty-one rows, layer
   norm, the gate by its own sigmoid, and the output projection added to the input. -/
module

public import proofs.«01_k».proof.Proof.Ffn.Block

@[expose] public section

noncomputable section

namespace Cert.Proof.Conv

open Idealize.ShloMosaic Idealize.ShloMosaic.TcCoe
open Cert.Proof.Ffn (hrow)
open scoped BigOperators

/-- The sigmoid. -/
def sg (z : EReal) : EReal := Ideal.div 1 (1 + Ideal.exp (-z))

/-- A hidden entry: the value half times the sigmoid of the gate half. -/
def hid (x g : Fin 1024 → EReal) (wi : Fin 1024 → Fin 2048 → EReal) (bi : Fin 2048 → EReal) (n : Fin 1024) : EReal :=
  ((∑ k, hrow x g k * wi k ⟨n.val, by omega⟩) + bi ⟨n.val, by omega⟩)
    * sg ((∑ k, hrow x g k * wi k ⟨1024 + n.val, by omega⟩) + bi ⟨1024 + n.val, by omega⟩)

/-- A row's mean. -/
def mean (y : Fin 1024 → EReal) : EReal := Ideal.div (∑ i, y i) (Ideal.ofBits .f32 0x44800000#32)

/-- A row less its mean, over its deviation, times the weight. -/
def scaled (y g : Fin 1024 → EReal) (n : Fin 1024) : EReal :=
  (y n - mean y) * Ideal.rsqrt (Ideal.div (∑ i, (y i - mean y) * (y i - mean y)) (Ideal.ofBits .f32 0x44800000#32) + Ideal.ofBits .f32 0x358637BD#32) * g n

/-- The output row. -/
def res (x y lg lb : Fin 1024 → EReal) (wo : Fin 1024 → Fin 1024 → EReal) (bo : Fin 1024 → EReal) (n : Fin 1024) : EReal :=
  x n + ((∑ k, (scaled y lg k + lb k) * sg (scaled y lg k + lb k) * wo k n) + bo n)

/-- The hidden rows, thirty zero rows before the first. -/
def padded (f : Fin 4096 → EReal) (j : ℕ) (hj : j < 4126) : EReal := if h : 30 ≤ j then f ⟨j - 30, by omega⟩ else 0

/-- The convolution at one row: the bias and thirty-one rows, the last of them the row itself. -/
def dw (f : Fin 4096 → EReal) (w : Fin 31 → EReal) (b : EReal) (s : Fin 4096) : EReal :=
  b + ∑ k : Fin 31, padded f (s.val + k.val) (by omega) * w k

end Cert.Proof.Conv

end
-- ==== Proof.Conv.Block.lean ====
/- The convolution body's own values, entry by entry. -/
module

public import proofs.«01_k».proof.Proof.Conv.Spec
public import proofs.«01_k».proof.Proof.Gen.Kernel5Ideal.Skeleton

@[expose] public section

noncomputable section

namespace Cert.Proof.Conv

open Cert.Kernel5Ideal Cert.Kernel5Ideal.Gen Idealize.ShloMosaic Idealize.ShloMosaic.TcCoe Idealize.SL.Sem
open Cert.Proof.Ffn (hrow)
open scoped BigOperators

theorem x_apply (x0 : Vec Ideal S1x1024x1024 .f32) (r k : Fin 1024) : k0_pay84 (F := Ideal) x0 (ix2 r k) = x0 (ix3 0 r k) := by
  unfold k0_pay84
  pointwise

theorem norm_apply (x0 : Vec Ideal S1x1024x1024 .f32) (x1 : Vec Ideal S1x1024 .f32) (r k : Fin 1024) :
    k0_pay85 (F := Ideal) x0 x1 (ix2 r k) = hrow (fun i => x0 (ix3 0 r i)) (fun i => x1 (ix2 0 i)) k := by
  unfold k0_pay85 k0_pay84 hrow
  pointwise

/-- A product with a block of weights. -/
def mm (h : FVec Ideal S1024x1024 .bf16) (w : Vec Ideal S1x1024x1024 .bf16) : FVec Ideal S1024x1024 .f32 :=
  matmul dot_S1024x1024_S1024x1024_S1024x1024_1_0_0_1_n_n none h
    (shapeCast S1024x1024 w shapeCasts_S1x1024x1024_S1024x1024 : FVec Ideal S1024x1024 .bf16) (constant S1024x1024 .f32 0x00000000#32)

theorem mm_apply (h : FVec Ideal S1024x1024 .bf16) (w : Vec Ideal S1x1024x1024 .bf16) (r n : Fin 1024) :
    mm h w (ix2 r n) = ∑ k : Fin 1024, h (ix2 r k) * w (ix3 0 k n) := by
  unfold mm
  refine (Ideal.matmul_plain_apply none _ _ _ r n).trans ?_
  refine (congrArg (· + _) Ideal.ofBits_zero_f32).trans ((zero_add _).trans ?_)
  exact Finset.sum_congr rfl fun k _ => congrArg (h (ix2 r k) * ·) (by pointwise)

theorem bias_apply (M : FVec Ideal S1024x1024 .f32) (b : Vec Ideal S1x1024 .f32) (r n : Fin 1024) :
    addf M (broadcastTo S1024x1024 (shapeCast S1x1024 b shapeCasts_S1x1024_S1x1024 : FVec Ideal S1x1024 .f32) broadcasts_S1x1024_S1024x1024 : FVec Ideal S1024x1024 .f32) (ix2 r n)
      = M (ix2 r n) + b (ix2 0 n) := by
  pointwise

theorem val_apply (x0 : Vec Ideal S1x1024x1024 .f32) (x1 : Vec Ideal S1x1024 .f32) (w : Vec Ideal S1x1024x1024 .bf16) (b : Vec Ideal S1x1024 .f32)
    (r n : Fin 1024) :
    k0_pay86 (F := Ideal) x0 x1 w b (ix2 r n)
      = (∑ k, hrow (fun i => x0 (ix3 0 r i)) (fun i => x1 (ix2 0 i)) k * w (ix3 0 k n)) + b (ix2 0 n) := by
  refine (bias_apply (mm (k0_pay85 x0 x1) w) b r n).trans (congrArg (· + _) ((mm_apply _ w r n).trans ?_))
  exact Finset.sum_congr rfl fun k _ => congrArg (· * _) (norm_apply x0 x1 r k)

theorem gate_apply (x0 : Vec Ideal S1x1024x1024 .f32) (x1 : Vec Ideal S1x1024 .f32) (w : Vec Ideal S1x1024x1024 .bf16) (b : Vec Ideal S1x1024 .f32)
    (r n : Fin 1024) :
    k0_pay87 (F := Ideal) x0 x1 w b (ix2 r n)
      = (∑ k, hrow (fun i => x0 (ix3 0 r i)) (fun i => x1 (ix2 0 i)) k * w (ix3 0 k n)) + b (ix2 0 n) :=
  val_apply x0 x1 w b r n

theorem glu_apply (V G : FVec Ideal S1024x1024 .f32) (r n : Fin 1024) :
    k0_pay88 (F := Ideal) V G (Scalar.ofBits .f32 0x00000000#32) (ix2 r n) = V (ix2 r n) * sg (G (ix2 r n)) := by
  unfold k0_pay88 sg
  rw [← Ideal.ofBits_one_f32, ← zero_sub, ← Ideal.ofBits_zero_f32]
  rfl

theorem stored_apply (V G : FVec Ideal S1024x1024 .f32) (r n : Fin 1024) :
    k0_pay89 (F := Ideal) V G (Scalar.ofBits .f32 0x00000000#32) (ix2 r n) = V (ix2 r n) * sg (G (ix2 r n)) := by
  rw [← glu_apply]
  unfold k0_pay89
  generalize k0_pay88 V G (Scalar.ofBits .f32 0x00000000#32) = z
  pointwise

theorem last_apply (V G : FVec Ideal S1024x1024 .f32) (r : Fin 32) (n : Fin 1024) (R : Fin 1024) (hR : R.val = 992 + r.val) :
    k0_pay91 (F := Ideal) V G (Scalar.ofBits .f32 0x00000000#32) (ix2 r n) = V (ix2 R n) * sg (G (ix2 R n)) := by
  have hb : 992 + r.val < 1024 := by
    clear hR
    omega
  obtain rfl : R = ⟨992 + r.val, hb⟩ := Fin.ext hR
  rw [← glu_apply]
  unfold k0_pay91
  generalize k0_pay88 V G (Scalar.ofBits .f32 0x00000000#32) = z
  pointwise

theorem zeros_apply (r : Fin 32) (n : Fin 1024) : k0_pay83 (F := Ideal) (ix2 r n) = 0 := by
  unfold k0_pay83
  pointwise

theorem scaled_apply (y : Vec Ideal S1024x1024 .f32) (lg : Vec Ideal S1x1024 .f32) (r n : Fin 1024) :
    k0_pay92 (F := Ideal) y lg (ix2 r n) = scaled (fun i => y (ix2 r i)) (fun i => lg (ix2 0 i)) n := by
  unfold k0_pay92 scaled mean
  pointwise

/-- The gate by its own sigmoid, in the body's operations. -/
def act (Z : FVec Ideal S1024x1024 .f32) (lb : Vec Ideal S1x1024 .f32) : FVec Ideal S1024x1024 .bf16 :=
  let A : FVec Ideal S1024x1024 .f32 := addf Z (broadcastTo S1024x1024 (shapeCast S1x1024 lb shapeCasts_S1x1024_S1x1024 : FVec Ideal S1x1024 .f32) broadcasts_S1x1024_S1024x1024)
  let B : FVec Ideal S1024x1024 .f32 := mulf A (divf (broadcast S1024x1024 (Scalar.ofBits .f32 0x3F800000#32)) (addf (broadcast S1024x1024 (Scalar.ofBits .f32 0x3F800000#32)) (exp (subf (broadcast S1024x1024 (Scalar.ofBits .f32 0x00000000#32)) A))))
  truncf .bf16 B bitsLt_bf16_f32

theorem act_apply (Z : FVec Ideal S1024x1024 .f32) (lb : Vec Ideal S1x1024 .f32) (r n : Fin 1024) :
    act Z lb (ix2 r n) = (Z (ix2 r n) + lb (ix2 0 n)) * sg (Z (ix2 r n) + lb (ix2 0 n)) := by
  rw [← bias_apply]
  unfold act sg
  rw [← Ideal.ofBits_one_f32, ← zero_sub, ← Ideal.ofBits_zero_f32]
  rfl

theorem out_apply (X Z : FVec Ideal S1024x1024 .f32) (lb : Vec Ideal S1x1024 .f32) (w : Vec Ideal S1x1024x1024 .bf16) (bo : Vec Ideal S1x1024 .f32)
    (r n : Fin 1024) :
    k0_pay1 (F := Ideal) X Z lb w bo (ix3 0 r n)
      = X (ix2 r n) + ((∑ k, (Z (ix2 r k) + lb (ix2 0 k)) * sg (Z (ix2 r k) + lb (ix2 0 k)) * w (ix3 0 k n)) + bo (ix2 0 n)) := by
  have e : k0_pay1 (F := Ideal) X Z lb w bo = shapeCast S1x1024x1024 (addf (addf X (mm (act Z lb) w))
      (broadcastTo S1024x1024 (shapeCast S1x1024 bo shapeCasts_S1x1024_S1x1024 : FVec Ideal S1x1024 .f32) broadcasts_S1x1024_S1024x1024 : FVec Ideal S1024x1024 .f32))
      shapeCasts_S1024x1024_S1x1024x1024 := rfl
  have e2 : k0_pay1 (F := Ideal) X Z lb w bo (ix3 0 r n) = X (ix2 r n) + mm (act Z lb) w (ix2 r n) + bo (ix2 0 n) := by
    rw [e]
    generalize mm (act Z lb) w = M
    pointwise
  rw [e2, mm_apply, add_assoc]
  exact congrArg (fun s => X (ix2 r n) + (s + bo (ix2 0 n))) (Finset.sum_congr rfl fun k _ => congrArg (· * _) (act_apply Z lb r k))

end Cert.Proof.Conv

end
-- ==== Proof.Conv.Out.lean ====
/- What one run of the convolution body leaves in its output block and in the rows it carries. -/
module

public import proofs.«01_k».proof.Proof.Conv.Run
public import proofs.«01_k».proof.Proof.Conv.Block
public import proofs.«01_k».proof.Proof.Gen.Kernel5Ideal.Value
public import Idealize.ShloMosaic.Lib.WritesUnit

@[expose] public section

noncomputable section

namespace Cert.Proof.Conv

open Cert.Kernel5Ideal Cert.Kernel5Ideal.Gen Idealize.ShloMosaic Idealize.ShloMosaic.TcCoe Idealize.SL.Sem
open Cert.Proof.Ffn (hrow hz)
open scoped BigOperators

theorem hz3 : (![0, 0, 0] : Fin 3 → Nat) = fun _ => 0 := funext fun a => by fin_cases a <;> rfl

/-! ## The reads -/

theorem rd {s : Shape} {e : EltTy} (v : Memref sig .tc .vmem s e) (h : v.IsWhole) (X : Vec Ideal s e) (r : Rect s) :
    View.readAt (Elt Ideal) v.view r.toLoadRect (h.unread X) = View.ld X r := by
  rw [View.readAt_eq_ld, h.read_unread]

/-- A whole block, as read. -/
def rX (a : Memref sig .tc .vmem S1x1024x1024 .f32) (h : a.IsWhole) (x : Vec Ideal S1x1024x1024 .f32) : Vec Ideal S1x1024x1024 .f32 :=
  View.readAt (Elt Ideal) a.view (Rect.unit (s := S1x1024x1024) ![0, 0, 0] S1x1024x1024.size inb_S1x1024x1024_S1x1024x1024_0_0_0).toLoadRect (h.unread x)

/-- A row of weights, as read. -/
def rG (a : Memref sig .tc .vmem S1x1024 .f32) (h : a.IsWhole) (x : Vec Ideal S1x1024 .f32) : Vec Ideal S1x1024 .f32 :=
  View.readAt (Elt Ideal) a.view (Rect.unit (s := S1x1024) ![0, 0] S1x1024.size inb_S1x1024_S1x1024_0_0).toLoadRect (h.unread x)

/-- The output weights, as read. -/
def rO (a : Memref sig .tc .vmem S1x1024x1024 .bf16) (h : a.IsWhole) (x : Vec Ideal S1x1024x1024 .bf16) : Vec Ideal S1x1024x1024 .bf16 :=
  View.readAt (Elt Ideal) a.view (Rect.unit (s := S1x1024x1024) ![0, 0, 0] S1x1024x1024.size inb_S1x1024x1024_S1x1024x1024_0_0_0).toLoadRect (h.unread x)

/-- A half of the input weights, as read. -/
def rW (o : Nat) (a : Memref sig .tc .vmem S1x1024x2048 .bf16) (h : a.IsWhole) (x : Vec Ideal S1x1024x2048 .bf16)
    (inb : ∀ a, (![0, 0, o] : Fin 3 → ℕ) a + (![1, 1024, 1024] : Fin 3 → ℕ) a ≤ S1x1024x2048.size a) : Vec Ideal S1x1024x1024 .bf16 :=
  View.readAt (Elt Ideal) a.view (Rect.unit (s := S1x1024x2048) ![0, 0, o] ![1, 1024, 1024] inb).toLoadRect (h.unread x)

/-- A half of the input bias, as read. -/
def rB (o : Nat) (a : Memref sig .tc .vmem S1x2048 .f32) (h : a.IsWhole) (x : Vec Ideal S1x2048 .f32)
    (inb : ∀ a, (![0, o] : Fin 2 → ℕ) a + (![1, 1024] : Fin 2 → ℕ) a ≤ S1x2048.size a) : Vec Ideal S1x1024 .f32 :=
  View.readAt (Elt Ideal) a.view (Rect.unit (s := S1x2048) ![0, o] ![1, 1024] inb).toLoadRect (h.unread x)

theorem rd_x (a : Memref sig .tc .vmem S1x1024x1024 .f32) (h : a.IsWhole) (x : Vec Ideal S1x1024x1024 .f32) : rX a h x = x :=
  (rd a h x _).trans (View.ld_unit_zero (Val := Elt Ideal) (e := .f32) (S := S1x1024x1024) hz3 _ _)

theorem rd_g (a : Memref sig .tc .vmem S1x1024 .f32) (h : a.IsWhole) (x : Vec Ideal S1x1024 .f32) : rG a h x = x :=
  (rd a h x _).trans (View.ld_unit_zero (Val := Elt Ideal) (e := .f32) (S := S1x1024) hz _ _)

theorem rd_o (a : Memref sig .tc .vmem S1x1024x1024 .bf16) (h : a.IsWhole) (x : Vec Ideal S1x1024x1024 .bf16) : rO a h x = x :=
  (rd a h x _).trans (View.ld_unit_zero (Val := Elt Ideal) (e := .bf16) (S := S1x1024x1024) hz3 _ _)

theorem rd_w (o : Nat) (a : Memref sig .tc .vmem S1x1024x2048 .bf16) (h : a.IsWhole) (x : Vec Ideal S1x1024x2048 .bf16)
    (inb : ∀ a, (![0, 0, o] : Fin 3 → ℕ) a + (![1, 1024, 1024] : Fin 3 → ℕ) a ≤ S1x1024x2048.size a) (k n : Fin 1024) (n' : Fin 2048)
    (hn : n'.val = o + n.val) : rW o a h x inb (ix3 0 k n) = x (ix3 0 k n') := by
  unfold rW
  rw [rd]
  refine congrArg x (funext fun a => ?_)
  fin_cases a
  · exact Subsingleton.elim (α := Fin 1) _ _
  · exact Fin.ext (by show 0 + 1 * k.val = k.val; omega)
  · exact Fin.ext (by show o + 1 * n.val = n'.val; omega)

theorem rd_b (o : Nat) (a : Memref sig .tc .vmem S1x2048 .f32) (h : a.IsWhole) (x : Vec Ideal S1x2048 .f32)
    (inb : ∀ a, (![0, o] : Fin 2 → ℕ) a + (![1, 1024] : Fin 2 → ℕ) a ≤ S1x2048.size a) (n : Fin 1024) (n' : Fin 2048)
    (hn : n'.val = o + n.val) : rB o a h x inb (ix2 0 n) = x (ix2 0 n') := by
  unfold rB
  rw [rd]
  refine congrArg x (funext fun a => ?_)
  fin_cases a
  · exact Subsingleton.elim (α := Fin 1) _ _
  · exact Fin.ext (by show o + 1 * n.val = n'.val; omega)

/-! ## The extended block -/

section
variable (a13 : Memref sig .tc .vmem S1056x1024 .f32) (f : BufTy.Contents (Elt Ideal) a13.view.ty)
    (L : List (View.Piece (Elt Ideal) S1056x1024 .f32)) (P : FVec Ideal S1024x1024 .f32) (Z : FVec Ideal S32x1024 .f32) (R : Fin 1056) (n : Fin 1024)

theorem ext_hi (h : 32 ≤ R.val) :
    a13.view.read (Elt Ideal) (a13.view.writes (Elt Ideal) f
      (⟨Rect.unit (s := S1056x1024) ![32, 0] ![1024, 1024] inb_S1056x1024_S1024x1024_32_0, P⟩ :: L)) (ix2 R n) = P (ix2 ⟨R.val - 32, by omega⟩ n) :=
  View.read_writes_cons_rows_of_mem (Val := Elt Ideal) (e := .f32) a13.view f inb_S1056x1024_S1024x1024_32_0 P L (ix2 R n) (ix2 ⟨R.val - 32, by omega⟩ n) rfl
    (by show R.val = 32 + (R.val - 32); omega) rfl

theorem ext_lo (h : R.val < 32) :
    a13.view.read (Elt Ideal) (a13.view.writes (Elt Ideal) f
      (⟨Rect.unit (s := S1056x1024) ![32, 0] ![1024, 1024] inb_S1056x1024_S1024x1024_32_0, P⟩ :: L)) (ix2 R n)
      = a13.view.read (Elt Ideal) (a13.view.writes (Elt Ideal) f L) (ix2 R n) :=
  View.read_writes_cons_rows_of_not_mem (Val := Elt Ideal) (e := .f32) a13.view f inb_S1056x1024_S1024x1024_32_0 P L (ix2 R n) rfl rfl (.inl h)

theorem ext_top (h : R.val < 32) :
    a13.view.read (Elt Ideal) (a13.view.writes (Elt Ideal) f
      (⟨Rect.unit (s := S1056x1024) ![0, 0] ![32, 1024] inb_S1056x1024_S32x1024_0_0, Z⟩ :: L)) (ix2 R n) = Z (ix2 ⟨R.val, h⟩ n) :=
  View.read_writes_cons_rows_of_mem (Val := Elt Ideal) (e := .f32) a13.view f inb_S1056x1024_S32x1024_0_0 Z L (ix2 R n) (ix2 ⟨R.val, h⟩ n) rfl
    (by show R.val = 0 + R.val; omega) rfl

end

/-- A block's hidden rows. -/
def hh (x0 : Vec Ideal S1x1024x1024 .f32) (x1 : Vec Ideal S1x1024 .f32) (x2 : Vec Ideal S1x1024x2048 .bf16) (x3 : Vec Ideal S1x2048 .f32)
    (r n : Fin 1024) : EReal :=
  hid (fun i => x0 (ix3 0 r i)) (fun i => x1 (ix2 0 i)) (fun k n => x2 (ix3 0 k n)) (fun n => x3 (ix2 0 n)) n

/-- The rows before a block, then the block's hidden rows. -/
def ext (hist : Fin 32 → Fin 1024 → EReal) (h : Fin 1024 → Fin 1024 → EReal) (R : Fin 1056) (n : Fin 1024) : EReal :=
  if hR : R.val < 32 then hist ⟨R.val, hR⟩ n else h ⟨R.val - 32, by omega⟩ n

/-- A block's convolution. -/
def yb (e : Fin 1056 → Fin 1024 → EReal) (x4 : Vec Ideal S31x1024 .f32) (x5 : Vec Ideal S1x1024 .f32) (r n : Fin 1024) : EReal :=
  x5 (ix2 0 n) + ∑ k : Fin 31, e ⟨r.val + 2 + k.val, by omega⟩ n * x4 (ix2 k n)

section
variable (a2 : Memref sig .tc .vmem S1x1024x1024 .f32) (h2 : a2.IsWhole) (a3 : Memref sig .tc .vmem S1x1024 .f32) (h3 : a3.IsWhole)
    (a4 : Memref sig .tc .vmem S1x1024x2048 .bf16) (h4 : a4.IsWhole) (a5 : Memref sig .tc .vmem S1x2048 .f32) (h5 : a5.IsWhole)
    (x0 : Vec Ideal S1x1024x1024 .f32) (x1 : Vec Ideal S1x1024 .f32) (x2 : Vec Ideal S1x1024x2048 .bf16) (x3 : Vec Ideal S1x2048 .f32)

/-- The value half, from the reads. -/
def vV : FVec Ideal S1024x1024 .f32 :=
  k0_pay86 (rX a2 h2 x0) (rG a3 h3 x1) (rW 0 a4 h4 x2 inb_S1x1024x2048_S1x1024x1024_0_0_0) (rB 0 a5 h5 x3 inb_S1x2048_S1x1024_0_0)

/-- The gate half, from the reads. -/
def vG : FVec Ideal S1024x1024 .f32 :=
  k0_pay87 (rX a2 h2 x0) (rG a3 h3 x1) (rW 1024 a4 h4 x2 inb_S1x1024x2048_S1x1024x1024_0_0_1024) (rB 1024 a5 h5 x3 inb_S1x2048_S1x1024_0_1024)

theorem hh_eq (r n : Fin 1024) :
    vV a2 h2 a3 h3 a4 h4 a5 h5 x0 x1 x2 x3 (ix2 r n) * sg (vG a2 h2 a3 h3 a4 h4 a5 h5 x0 x1 x2 x3 (ix2 r n)) = hh x0 x1 x2 x3 r n := by
  unfold vV vG hh hid
  rw [val_apply, gate_apply, rd_x, rd_g, rd_b 0 a5 h5 x3 _ n ⟨n.val, by omega⟩ (Nat.zero_add _).symm,
    rd_b 1024 a5 h5 x3 _ n ⟨1024 + n.val, by omega⟩ rfl]
  simp only [rd_w 0 a4 h4 x2 _ _ n ⟨n.val, by omega⟩ (Nat.zero_add _).symm, rd_w 1024 a4 h4 x2 _ _ n ⟨1024 + n.val, by omega⟩ rfl]

end

section
variable (c : Dev nD) (i : grid0.Coords) (a2 : Memref sig .tc .vmem S1x1024x1024 .f32) (h2 : a2.IsWhole) (a3 : Memref sig .tc .vmem S1x1024 .f32) (h3 : a3.IsWhole) (a4 : Memref sig .tc .vmem S1x1024x2048 .bf16) (h4 : a4.IsWhole) (a5 : Memref sig .tc .vmem S1x2048 .f32) (h5 : a5.IsWhole) (a6 : Memref sig .tc .vmem S31x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024x1024 .bf16) (h10 : a10.IsWhole) (a11 : Memref sig .tc .vmem S1x1024 .f32) (h11 : a11.IsWhole) (a12 : Memref sig .tc .vmem S1x1024x1024 .f32) (h12 : a12.IsWhole) (a13 : Memref sig .tc .vmem S1056x1024 .f32) (h13 : a13.IsWhole) (a14 : Memref sig .tc .vmem S1024x1024 .f32) (h14 : a14.IsWhole) (x0 : Vec Ideal S1x1024x1024 .f32) (x1 : Vec Ideal S1x1024 .f32) (x2 : Vec Ideal S1x1024x2048 .bf16) (x3 : Vec Ideal S1x2048 .f32) (x4 : Vec Ideal S31x1024 .f32) (x5 : Vec Ideal S1x1024 .f32) (x6 : Vec Ideal S1x1024 .f32) (x7 : Vec Ideal S1x1024 .f32) (x8 : Vec Ideal S1x1024x1024 .bf16) (x9 : Vec Ideal S1x1024 .f32) (xs : Vec Ideal S1056x1024 .f32)

theorem x13_A (R : Fin 1056) (n : Fin 1024) :
    a13.view.read (Elt Ideal) (a13.view.writes (Elt Ideal) a13.view.junk (kernelRun0_A.sl.HS0_2 (F := Ideal) c a2 h2 a3 h3 a4 h4 a5 h5 x0 x1 x2 x3)) (ix2 R n)
      = ext (fun _ _ => 0) (hh x0 x1 x2 x3) R n := by
  have e : kernelRun0_A.sl.HS0_2 (F := Ideal) c a2 h2 a3 h3 a4 h4 a5 h5 x0 x1 x2 x3
      = [⟨Rect.unit (s := S1056x1024) ![32, 0] ![1024, 1024] inb_S1056x1024_S1024x1024_32_0, k0_pay89 (vV a2 h2 a3 h3 a4 h4 a5 h5 x0 x1 x2 x3) (vG a2 h2 a3 h3 a4 h4 a5 h5 x0 x1 x2 x3) (Scalar.ofBits .f32 0x00000000#32)⟩,
        ⟨Rect.unit (s := S1056x1024) ![0, 0] ![32, 1024] inb_S1056x1024_S32x1024_0_0, k0_pay83 (F := Ideal)⟩] := rfl
  rw [e]
  unfold ext
  by_cases h : R.val < 32
  · rw [dif_pos h, ext_lo _ _ _ _ _ _ h, ext_top _ _ _ _ _ _ h, zeros_apply]
  · rw [dif_neg h, ext_hi _ _ _ _ _ _ (by omega), stored_apply, hh_eq]

theorem x13_B (R : Fin 1056) (n : Fin 1024) :
    a13.view.read (Elt Ideal) (a13.view.writes (Elt Ideal) (h13.unread xs)
      [⟨Rect.unit (s := S1056x1024) ![32, 0] ![1024, 1024] inb_S1056x1024_S1024x1024_32_0, k0_pay89 (vV a2 h2 a3 h3 a4 h4 a5 h5 x0 x1 x2 x3) (vG a2 h2 a3 h3 a4 h4 a5 h5 x0 x1 x2 x3) (Scalar.ofBits .f32 0x00000000#32)⟩]) (ix2 R n)
      = ext (fun R n => xs (ix2 ⟨R.val, by omega⟩ n)) (hh x0 x1 x2 x3) R n := by
  unfold ext
  by_cases h : R.val < 32
  · rw [dif_pos h, ext_lo _ _ _ _ _ _ h]
    exact congrFun (h13.read_unread xs) _
  · rw [dif_neg h, ext_hi _ _ _ _ _ _ (by omega), stored_apply, hh_eq]

/-- The rows the loop leaves, read back. -/
theorem y_eq (v26 v33 : FVec Ideal S1024x1024 .f32) (z : Ideal .f32) (X13 : BufTy.Contents (Elt Ideal) a13.view.ty) (e : Fin 1056 → Fin 1024 → EReal)
    (he : ∀ R n, a13.view.read (Elt Ideal) X13 (ix2 R n) = e R n) (r n : Fin 1024) :
    a14.view.readCov (pb_k0_t1 (F := Ideal) Variants.none c none i a2 h2 a3 h3 a4 h4 a5 h5 a6 h6 a7 h7 a8 h8 a9 h9 a10 h10 a11 h11 a12 h12 a13 h13 a14 h14 v26 v33 z (h6.unread x4) (h7.unread x5) X13 k0_t1_loop.trips)
      (Rect.unit (s := S1024x1024) ![0, 0] ![1024, 1024] inb_S1024x1024_S1024x1024_0_0).toLoadRect (ix2 r n) = yb e x4 x5 r n := by
  rw [View.readCov_eq_canon']
  have e1 : ((Rect.unit (s := S1024x1024) ![0, 0] ![1024, 1024] inb_S1024x1024_S1024x1024_0_0).toLoadRect.idx (ix2 r n) : S1024x1024.Idx) = ix2 r n := by
    funext a
    fin_cases a
    · exact Fin.ext (by show 0 + 1 * r.val = r.val; omega)
    · exact Fin.ext (by show 0 + 1 * n.val = n.val; omega)
  refine (congrArg _ e1).trans ((loop_canon Variants.none none c i a2 h2 a3 h3 a4 h4 a5 h5 a6 h6 a7 h7 a8 h8 a9 h9 a10 h10 a11 h11 a12 h12 a13 h13 a14 h14 v26 v33 z (h6.unread x4) (h7.unread x5) X13 (ix2 r n)).trans ?_)
  rw [h6.read_unread, h7.read_unread]
  unfold conv yb
  exact congrArg (x5 (ix2 0 n) + ·) (Finset.sum_congr rfl fun k _ => congrArg (· * x4 (ix2 k n)) (he _ n))

/-- The output, from the convolved rows. -/
theorem stored (Y : Vec Ideal S1024x1024 .f32) (r n : Fin 1024) (y : Fin 1024 → EReal) (hy : ∀ k, Y (ix2 r k) = y k) :
    k0_pay1 (F := Ideal) (k0_pay84 (rX a2 h2 x0)) (k0_pay92 Y (rG a8 h8 x6)) (rG a9 h9 x7) (rO a10 h10 x8) (rG a11 h11 x9) (ix3 0 r n)
      = res (fun k => x0 (ix3 0 r k)) y (fun k => x6 (ix2 0 k)) (fun k => x7 (ix2 0 k)) (fun k n => x8 (ix3 0 k n)) (fun k => x9 (ix2 0 k)) n := by
  obtain rfl : (fun k => Y (ix2 r k)) = y := funext hy
  rw [rd_x, rd_g, rd_g, rd_g, rd_o, out_apply, x_apply]
  simp only [scaled_apply]
  rfl

theorem out_A (hc : cond0_0 i) (r n : Fin 1024) :
    out0_A_10 (F := Ideal) c i a2 h2 a3 h3 a4 h4 a5 h5 a6 h6 a7 h7 a8 h8 a9 h9 a10 h10 a11 h11 a12 h12 a13 h13 a14 h14 hc x0 x1 x2 x3 x4 x5 x6 x7 x8 x9 (ix3 0 r n)
      = res (fun k => x0 (ix3 0 r k)) (yb (ext (fun _ _ => 0) (hh x0 x1 x2 x3)) x4 x5 r) (fun k => x6 (ix2 0 k)) (fun k => x7 (ix2 0 k))
          (fun k n => x8 (ix3 0 k n)) (fun k => x9 (ix2 0 k)) n := by
  unfold out0_A_10
  rw [View.read_writes_junk_eq_canon]
  unfold kernelRun0_A
  dsimp only
  rw [View.canon_unit_zero hz3]
  exact stored a2 h2 a8 h8 a9 h9 a10 h10 a11 h11 x0 x6 x7 x8 x9 _ r n _
    (fun k => y_eq c i a2 h2 a3 h3 a4 h4 a5 h5 a6 h6 a7 h7 a8 h8 a9 h9 a10 h10 a11 h11 a12 h12 a13 h13 a14 h14 x4 x5 _ _ _ _ _ (x13_A c a2 h2 a3 h3 a4 h4 a5 h5 a13 x0 x1 x2 x3) r k)

theorem out_B (hc : ¬cond0_0 i) (r n : Fin 1024) :
    out0_B_10 (F := Ideal) c i a2 h2 a3 h3 a4 h4 a5 h5 a6 h6 a7 h7 a8 h8 a9 h9 a10 h10 a11 h11 a12 h12 a13 h13 a14 h14 hc x0 x1 x2 x3 x4 x5 x6 x7 x8 x9 xs (ix3 0 r n)
      = res (fun k => x0 (ix3 0 r k)) (yb (ext (fun R n => xs (ix2 ⟨R.val, by omega⟩ n)) (hh x0 x1 x2 x3)) x4 x5 r) (fun k => x6 (ix2 0 k)) (fun k => x7 (ix2 0 k))
          (fun k n => x8 (ix3 0 k n)) (fun k => x9 (ix2 0 k)) n := by
  unfold out0_B_10
  rw [View.read_writes_junk_eq_canon]
  unfold kernelRun0_B
  dsimp only
  rw [View.canon_unit_zero hz3]
  exact stored a2 h2 a8 h8 a9 h9 a10 h10 a11 h11 x0 x6 x7 x8 x9 _ r n _
    (fun k => y_eq c i a2 h2 a3 h3 a4 h4 a5 h5 a6 h6 a7 h7 a8 h8 a9 h9 a10 h10 a11 h11 a12 h12 a13 h13 a14 h14 x4 x5 _ _ _ _ _ (x13_B a2 h2 a3 h3 a4 h4 a5 h5 a13 h13 x0 x1 x2 x3 xs) r k)

theorem s_A (hc : cond0_0 i) (R : Fin 32) (n : Fin 1024) :
    sout0_A_0 (F := Ideal) c i a2 h2 a3 h3 a4 h4 a5 h5 a6 h6 a7 h7 a8 h8 a9 h9 a10 h10 a11 h11 a12 h12 a13 h13 a14 h14 hc x0 x1 x2 x3 x4 x5 x6 x7 x8 x9 (ix2 ⟨R.val, by omega⟩ n) = hh x0 x1 x2 x3 ⟨992 + R.val, by omega⟩ n := by
  rw [← hh_eq a2 h2 a3 h3 a4 h4 a5 h5]
  unfold sout0_A_0
  unfold kernelRun0_A
  dsimp only
  exact (ext_top _ _ _ _ _ n R.isLt).trans (last_apply (vV a2 h2 a3 h3 a4 h4 a5 h5 x0 x1 x2 x3) (vG a2 h2 a3 h3 a4 h4 a5 h5 x0 x1 x2 x3) R n _ rfl)

theorem s_B (hc : ¬cond0_0 i) (R : Fin 32) (n : Fin 1024) :
    sout0_B_0 (F := Ideal) c i a2 h2 a3 h3 a4 h4 a5 h5 a6 h6 a7 h7 a8 h8 a9 h9 a10 h10 a11 h11 a12 h12 a13 h13 a14 h14 hc x0 x1 x2 x3 x4 x5 x6 x7 x8 x9 xs (ix2 ⟨R.val, by omega⟩ n) = hh x0 x1 x2 x3 ⟨992 + R.val, by omega⟩ n := by
  rw [← hh_eq a2 h2 a3 h3 a4 h4 a5 h5]
  unfold sout0_B_0
  unfold kernelRun0_B
  dsimp only
  exact (ext_top _ _ _ _ _ n R.isLt).trans (last_apply (vV a2 h2 a3 h3 a4 h4 a5 h5 x0 x1 x2 x3) (vG a2 h2 a3 h3 a4 h4 a5 h5 x0 x1 x2 x3) R n _ rfl)

end

end Cert.Proof.Conv

end
-- ==== Proof.Conv.Reference.lean ====
/- The reference module's result, entry by entry, as a function of the arguments. -/
module

public import proofs.«01_k».proof.Proof.Conv.Spec
public import proofs.«01_k».proof.Proof.Gen.Reference5Ideal.Read
public import Idealize.ShloMosaic.Lib.KernelVsHost

@[expose] public section

noncomputable section

namespace Cert.Proof.Conv

open Cert.Reference5Ideal Cert.Reference5Ideal.Read Idealize.ShloMosaic Idealize.ShloMosaic.TcCoe Idealize.SL.Sem
open Cert.Proof.Ffn (hrow)
open scoped BigOperators

section
variable (x : FVec Ideal S8x4096x1024 .f32) (g : FVec Ideal S4x1024 .f32) (wi : FVec Ideal S1x1024x2048 .f32) (bi : FVec Ideal S1x2048 .f32)
    (w : FVec Ideal S1x31x1024 .f32) (b lg lb : FVec Ideal S1x1024 .f32) (wo : FVec Ideal S1x1024x1024 .f32) (bo : FVec Ideal S1x1024 .f32)

/-- A hidden entry of the arguments. -/
def H (p : Fin 8) (s : Fin 4096) (n : Fin 1024) : EReal :=
  hid (fun i => x (ix3 p s i)) (fun i => g (ix2 2 i)) (fun k f => wi (ix3 0 k f)) (fun f => bi (ix2 0 f)) n

/-- A convolved entry of the arguments. -/
def Y (p : Fin 8) (s : Fin 4096) (n : Fin 1024) : EReal :=
  dw (fun s => H x g wi bi p s n) (fun k => w (ix3 0 k n)) (b (ix2 0 n)) s

/-- The result. -/
def G (i : S8x4096x1024.Idx) : EReal :=
  res (fun k => x (ix3 (i 0) (i 1) k)) (Y x g wi bi w b (i 0) (i 1)) (fun k => lg (ix2 0 k)) (fun k => lb (ix2 0 k))
    (fun k n => wo (ix3 0 k n)) (fun n => bo (ix2 0 n)) (i 2)

theorem ref_norm (p : Fin 8) (s : Fin 4096) (k : Fin 1024) :
    val_main_v14 (F := Ideal) x g (ix3 p s k) = hrow (fun i => x (ix3 p s i)) (fun i => g (ix2 2 i)) k := by
  simp only [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply]
  unfold hrow
  refine congrArg₂ (· * ·) (congrArg₂ (· * ·) rfl (congrArg Ideal.rsqrt (congrArg₂ (· + ·) (congrArg₂ Ideal.div ?_ rfl) rfl))) (congrArg g ?_)
  · refine (congrArg (· + _) Ideal.ofBits_zero_f32).trans ((zero_add _).trans ?_)
    exact Finset.sum_congr rfl fun i _ => congrArg₂ (· * ·) (congrArg x (by blk_ext)) (congrArg x (by blk_ext))
  · blk_ext

theorem ref_in (p : Fin 8) (s : Fin 4096) (f : Fin 2048) :
    val_main_v20 (F := Ideal) x g wi bi (ix3 p s f)
      = (∑ k, hrow (fun i => x (ix3 p s i)) (fun i => g (ix2 2 i)) k * wi (ix3 0 k f)) + bi (ix2 0 f) := by
  simp only [val_main_v20_apply, val_main_v19_apply, val_main_v18_apply, val_main_v17_apply, val_main_v16_apply]
  refine congrArg₂ (· + ·) (Finset.sum_congr rfl fun k _ => congrArg₂ (· * ·) ?_ ?_) (congrArg bi (by blk_ext))
  · rw [← ref_norm]; exact congrArg _ (by blk_ext)
  · rw [val_main_v15_apply]; exact congrArg wi (by blk_ext)

theorem ref_hid (p : Fin 8) (s : Fin 4096) (n : Fin 1024) :
    val_main_v29 (F := Ideal) x g wi bi (ix3 p s n) = H x g wi bi p s n := by
  simp only [val_main_v29_apply, val_main_v28_apply, val_main_v27_apply, val_main_v26_apply, val_main_v25_apply, val_main_v24_apply, val_main_v23_apply, val_main_v22_apply, val_main_v21_apply, val_main_cst_2_apply, val_main_cst_3_apply]
  have e1 : idx_main_v21 (ix3 p s n) = ix3 p s ⟨n.val, by omega⟩ := by blk_ext
  have e2 : idx_main_v22 (ix3 p s n) = ix3 p s ⟨1024 + n.val, by omega⟩ := by blk_ext
  rw [e1, e2, ref_in, ref_in]
  unfold H hid sg
  rw [← Ideal.ofBits_one_f32]
  rfl

theorem ref_pad (p : Fin 8) (j : Fin 4126) (n : Fin 1024) :
    val_main_v30 (F := Ideal) x g wi bi (ix3 p j n) = padded (fun s => H x g wi bi p s n) j.val j.isLt := by
  unfold val_main_v30 padded
  by_cases h : 30 ≤ j.val
  · rw [dif_pos h]
    refine (pad_apply_of_inside _ _ _ _ _ _ _ _ (ix3 p ⟨j.val - 30, by omega⟩ n) fun a => ?_).trans (ref_hid x g wi bi p _ n)
    fin_cases a
    · show p.val = 0 + p.val * (0 + 1); omega
    · show j.val = 30 + (j.val - 30) * (0 + 1); omega
    · show n.val = 0 + n.val * (0 + 1); omega
  · rw [dif_neg h]
    refine (pad_apply_of_not_inside _ _ _ _ _ _ _ _ 1 fun h' => h h'.1).trans ?_
    rw [val_main_call0_v0_apply, val_main_c_apply]
    show ((((0#32 : BitVec 32).toInt : ℤ) : ℝ) : EReal) = 0
    simp

/-! ## The thirty-one rows, one after another -/

/-- Row `k` of the window. -/
def T (p : Fin 8) (s : Fin 4096) (n : Fin 1024) (k : ℕ) : EReal :=
  if h : k < 31 then padded (fun s => H x g wi bi p s n) (s.val + k) (by omega) * w (ix3 0 ⟨k, h⟩ n) else 0

theorem T_of (p : Fin 8) (s : Fin 4096) (n : Fin 1024) (k : ℕ) (h : k < 31) :
    padded (fun s => H x g wi bi p s n) (s.val + k) (by omega) * w (ix3 0 ⟨k, h⟩ n) = T x g wi bi w p s n k := by
  unfold T
  rw [dif_pos h]

theorem tap_0 (p : Fin 8) (s : Fin 4096) (n : Fin 1024) :
    val_main_v36 (F := Ideal) x g wi bi w (ix3 p s n) = T x g wi bi w p s n 0 := by
  simp only [val_main_v36_apply, val_main_v35_apply, val_main_v34_apply, val_main_v33_apply, val_main_v32_apply, val_main_v31_apply]
  refine (mul_comm _ _).trans ((congrArg₂ (· * ·) ((congrArg _ ?_).trans (ref_pad x g wi bi p ⟨s.val + 0, by omega⟩ n))
    (congrArg w ?_)).trans (T_of x g wi bi w p s n 0 (by decide))) <;> blk_ext

theorem tap_1 (p : Fin 8) (s : Fin 4096) (n : Fin 1024) :
    val_main_v42 (F := Ideal) x g wi bi w (ix3 p s n) = T x g wi bi w p s n 1 := by
  simp only [val_main_v42_apply, val_main_v41_apply, val_main_v40_apply, val_main_v39_apply, val_main_v38_apply, val_main_v37_apply]
  refine (mul_comm _ _).trans ((congrArg₂ (· * ·) ((congrArg _ ?_).trans (ref_pad x g wi bi p ⟨s.val + 1, by omega⟩ n))
    (congrArg w ?_)).trans (T_of x g wi bi w p s n 1 (by decide))) <;> blk_ext

theorem tap_2 (p : Fin 8) (s : Fin 4096) (n : Fin 1024) :
    val_main_v49 (F := Ideal) x g wi bi w (ix3 p s n) = T x g wi bi w p s n 2 := by
  simp only [val_main_v49_apply, val_main_v48_apply, val_main_v47_apply, val_main_v46_apply, val_main_v45_apply, val_main_v44_apply]
  refine (mul_comm _ _).trans ((congrArg₂ (· * ·) ((congrArg _ ?_).trans (ref_pad x g wi bi p ⟨s.val + 2, by omega⟩ n))
    (congrArg w ?_)).trans (T_of x g wi bi w p s n 2 (by decide))) <;> blk_ext

theorem tap_3 (p : Fin 8) (s : Fin 4096) (n : Fin 1024) :
    val_main_v56 (F := Ideal) x g wi bi w (ix3 p s n) = T x g wi bi w p s n 3 := by
  simp only [val_main_v56_apply, val_main_v55_apply, val_main_v54_apply, val_main_v53_apply, val_main_v52_apply, val_main_v51_apply]
  refine (mul_comm _ _).trans ((congrArg₂ (· * ·) ((congrArg _ ?_).trans (ref_pad x g wi bi p ⟨s.val + 3, by omega⟩ n))
    (congrArg w ?_)).trans (T_of x g wi bi w p s n 3 (by decide))) <;> blk_ext

theorem tap_4 (p : Fin 8) (s : Fin 4096) (n : Fin 1024) :
    val_main_v63 (F := Ideal) x g wi bi w (ix3 p s n) = T x g wi bi w p s n 4 := by
  simp only [val_main_v63_apply, val_main_v62_apply, val_main_v61_apply, val_main_v60_apply, val_main_v59_apply, val_main_v58_apply]
  refine (mul_comm _ _).trans ((congrArg₂ (· * ·) ((congrArg _ ?_).trans (ref_pad x g wi bi p ⟨s.val + 4, by omega⟩ n))
    (congrArg w ?_)).trans (T_of x g wi bi w p s n 4 (by decide))) <;> blk_ext

theorem tap_5 (p : Fin 8) (s : Fin 4096) (n : Fin 1024) :
    val_main_v70 (F := Ideal) x g wi bi w (ix3 p s n) = T x g wi bi w p s n 5 := by
  simp only [val_main_v70_apply, val_main_v69_apply, val_main_v68_apply, val_main_v67_apply, val_main_v66_apply, val_main_v65_apply]
  refine (mul_comm _ _).trans ((congrArg₂ (· * ·) ((congrArg _ ?_).trans (ref_pad x g wi bi p ⟨s.val + 5, by omega⟩ n))
    (congrArg w ?_)).trans (T_of x g wi bi w p s n 5 (by decide))) <;> blk_ext

theorem tap_6 (p : Fin 8) (s : Fin 4096) (n : Fin 1024) :
    val_main_v77 (F := Ideal) x g wi bi w (ix3 p s n) = T x g wi bi w p s n 6 := by
  simp only [val_main_v77_apply, val_main_v76_apply, val_main_v75_apply, val_main_v74_apply, val_main_v73_apply, val_main_v72_apply]
  refine (mul_comm _ _).trans ((congrArg₂ (· * ·) ((congrArg _ ?_).trans (ref_pad x g wi bi p ⟨s.val + 6, by omega⟩ n))
    (congrArg w ?_)).trans (T_of x g wi bi w p s n 6 (by decide))) <;> blk_ext

theorem tap_7 (p : Fin 8) (s : Fin 4096) (n : Fin 1024) :
    val_main_v84 (F := Ideal) x g wi bi w (ix3 p s n) = T x g wi bi w p s n 7 := by
  simp only [val_main_v84_apply, val_main_v83_apply, val_main_v82_apply, val_main_v81_apply, val_main_v80_apply, val_main_v79_apply]
  refine (mul_comm _ _).trans ((congrArg₂ (· * ·) ((congrArg _ ?_).trans (ref_pad x g wi bi p ⟨s.val + 7, by omega⟩ n))
    (congrArg w ?_)).trans (T_of x g wi bi w p s n 7 (by decide))) <;> blk_ext

theorem tap_8 (p : Fin 8) (s : Fin 4096) (n : Fin 1024) :
    val_main_v91 (F := Ideal) x g wi bi w (ix3 p s n) = T x g wi bi w p s n 8 := by
  simp only [val_main_v91_apply, val_main_v90_apply, val_main_v89_apply, val_main_v88_apply, val_main_v87_apply, val_main_v86_apply]
  refine (mul_comm _ _).trans ((congrArg₂ (· * ·) ((congrArg _ ?_).trans (ref_pad x g wi bi p ⟨s.val + 8, by omega⟩ n))
    (congrArg w ?_)).trans (T_of x g wi bi w p s n 8 (by decide))) <;> blk_ext

theorem tap_9 (p : Fin 8) (s : Fin 4096) (n : Fin 1024) :
    val_main_v98 (F := Ideal) x g wi bi w (ix3 p s n) = T x g wi bi w p s n 9 := by
  simp only [val_main_v98_apply, val_main_v97_apply, val_main_v96_apply, val_main_v95_apply, val_main_v94_apply, val_main_v93_apply]
  refine (mul_comm _ _).trans ((congrArg₂ (· * ·) ((congrArg _ ?_).trans (ref_pad x g wi bi p ⟨s.val + 9, by omega⟩ n))
    (congrArg w ?_)).trans (T_of x g wi bi w p s n 9 (by decide))) <;> blk_ext

theorem tap_10 (p : Fin 8) (s : Fin 4096) (n : Fin 1024) :
    val_main_v105 (F := Ideal) x g wi bi w (ix3 p s n) = T x g wi bi w p s n 10 := by
  simp only [val_main_v105_apply, val_main_v104_apply, val_main_v103_apply, val_main_v102_apply, val_main_v101_apply, val_main_v100_apply]
  refine (mul_comm _ _).trans ((congrArg₂ (· * ·) ((congrArg _ ?_).trans (ref_pad x g wi bi p ⟨s.val + 10, by omega⟩ n))
    (congrArg w ?_)).trans (T_of x g wi bi w p s n 10 (by decide))) <;> blk_ext

theorem tap_11 (p : Fin 8) (s : Fin 4096) (n : Fin 1024) :
    val_main_v112 (F := Ideal) x g wi bi w (ix3 p s n) = T x g wi bi w p s n 11 := by
  simp only [val_main_v112_apply, val_main_v111_apply, val_main_v110_apply, val_main_v109_apply, val_main_v108_apply, val_main_v107_apply]
  refine (mul_comm _ _).trans ((congrArg₂ (· * ·) ((congrArg _ ?_).trans (ref_pad x g wi bi p ⟨s.val + 11, by omega⟩ n))
    (congrArg w ?_)).trans (T_of x g wi bi w p s n 11 (by decide))) <;> blk_ext

theorem tap_12 (p : Fin 8) (s : Fin 4096) (n : Fin 1024) :
    val_main_v119 (F := Ideal) x g wi bi w (ix3 p s n) = T x g wi bi w p s n 12 := by
  simp only [val_main_v119_apply, val_main_v118_apply, val_main_v117_apply, val_main_v116_apply, val_main_v115_apply, val_main_v114_apply]
  refine (mul_comm _ _).trans ((congrArg₂ (· * ·) ((congrArg _ ?_).trans (ref_pad x g wi bi p ⟨s.val + 12, by omega⟩ n))
    (congrArg w ?_)).trans (T_of x g wi bi w p s n 12 (by decide))) <;> blk_ext

theorem tap_13 (p : Fin 8) (s : Fin 4096) (n : Fin 1024) :
    val_main_v126 (F := Ideal) x g wi bi w (ix3 p s n) = T x g wi bi w p s n 13 := by
  simp only [val_main_v126_apply, val_main_v125_apply, val_main_v124_apply, val_main_v123_apply, val_main_v122_apply, val_main_v121_apply]
  refine (mul_comm _ _).trans ((congrArg₂ (· * ·) ((congrArg _ ?_).trans (ref_pad x g wi bi p ⟨s.val + 13, by omega⟩ n))
    (congrArg w ?_)).trans (T_of x g wi bi w p s n 13 (by decide))) <;> blk_ext

theorem tap_14 (p : Fin 8) (s : Fin 4096) (n : Fin 1024) :
    val_main_v133 (F := Ideal) x g wi bi w (ix3 p s n) = T x g wi bi w p s n 14 := by
  simp only [val_main_v133_apply, val_main_v132_apply, val_main_v131_apply, val_main_v130_apply, val_main_v129_apply, val_main_v128_apply]
  refine (mul_comm _ _).trans ((congrArg₂ (· * ·) ((congrArg _ ?_).trans (ref_pad x g wi bi p ⟨s.val + 14, by omega⟩ n))
    (congrArg w ?_)).trans (T_of x g wi bi w p s n 14 (by decide))) <;> blk_ext

theorem tap_15 (p : Fin 8) (s : Fin 4096) (n : Fin 1024) :
    val_main_v140 (F := Ideal) x g wi bi w (ix3 p s n) = T x g wi bi w p s n 15 := by
  simp only [val_main_v140_apply, val_main_v139_apply, val_main_v138_apply, val_main_v137_apply, val_main_v136_apply, val_main_v135_apply]
  refine (mul_comm _ _).trans ((congrArg₂ (· * ·) ((congrArg _ ?_).trans (ref_pad x g wi bi p ⟨s.val + 15, by omega⟩ n))
    (congrArg w ?_)).trans (T_of x g wi bi w p s n 15 (by decide))) <;> blk_ext

theorem tap_16 (p : Fin 8) (s : Fin 4096) (n : Fin 1024) :
    val_main_v147 (F := Ideal) x g wi bi w (ix3 p s n) = T x g wi bi w p s n 16 := by
  simp only [val_main_v147_apply, val_main_v146_apply, val_main_v145_apply, val_main_v144_apply, val_main_v143_apply, val_main_v142_apply]
  refine (mul_comm _ _).trans ((congrArg₂ (· * ·) ((congrArg _ ?_).trans (ref_pad x g wi bi p ⟨s.val + 16, by omega⟩ n))
    (congrArg w ?_)).trans (T_of x g wi bi w p s n 16 (by decide))) <;> blk_ext

theorem tap_17 (p : Fin 8) (s : Fin 4096) (n : Fin 1024) :
    val_main_v154 (F := Ideal) x g wi bi w (ix3 p s n) = T x g wi bi w p s n 17 := by
  simp only [val_main_v154_apply, val_main_v153_apply, val_main_v152_apply, val_main_v151_apply, val_main_v150_apply, val_main_v149_apply]
  refine (mul_comm _ _).trans ((congrArg₂ (· * ·) ((congrArg _ ?_).trans (ref_pad x g wi bi p ⟨s.val + 17, by omega⟩ n))
    (congrArg w ?_)).trans (T_of x g wi bi w p s n 17 (by decide))) <;> blk_ext

theorem tap_18 (p : Fin 8) (s : Fin 4096) (n : Fin 1024) :
    val_main_v161 (F := Ideal) x g wi bi w (ix3 p s n) = T x g wi bi w p s n 18 := by
  simp only [val_main_v161_apply, val_main_v160_apply, val_main_v159_apply, val_main_v158_apply, val_main_v157_apply, val_main_v156_apply]
  refine (mul_comm _ _).trans ((congrArg₂ (· * ·) ((congrArg _ ?_).trans (ref_pad x g wi bi p ⟨s.val + 18, by omega⟩ n))
    (congrArg w ?_)).trans (T_of x g wi bi w p s n 18 (by decide))) <;> blk_ext

theorem tap_19 (p : Fin 8) (s : Fin 4096) (n : Fin 1024) :
    val_main_v168 (F := Ideal) x g wi bi w (ix3 p s n) = T x g wi bi w p s n 19 := by
  simp only [val_main_v168_apply, val_main_v167_apply, val_main_v166_apply, val_main_v165_apply, val_main_v164_apply, val_main_v163_apply]
  refine (mul_comm _ _).trans ((congrArg₂ (· * ·) ((congrArg _ ?_).trans (ref_pad x g wi bi p ⟨s.val + 19, by omega⟩ n))
    (congrArg w ?_)).trans (T_of x g wi bi w p s n 19 (by decide))) <;> blk_ext

theorem tap_20 (p : Fin 8) (s : Fin 4096) (n : Fin 1024) :
    val_main_v175 (F := Ideal) x g wi bi w (ix3 p s n) = T x g wi bi w p s n 20 := by
  simp only [val_main_v175_apply, val_main_v174_apply, val_main_v173_apply, val_main_v172_apply, val_main_v171_apply, val_main_v170_apply]
  refine (mul_comm _ _).trans ((congrArg₂ (· * ·) ((congrArg _ ?_).trans (ref_pad x g wi bi p ⟨s.val + 20, by omega⟩ n))
    (congrArg w ?_)).trans (T_of x g wi bi w p s n 20 (by decide))) <;> blk_ext

theorem tap_21 (p : Fin 8) (s : Fin 4096) (n : Fin 1024) :
    val_main_v182 (F := Ideal) x g wi bi w (ix3 p s n) = T x g wi bi w p s n 21 := by
  simp only [val_main_v182_apply, val_main_v181_apply, val_main_v180_apply, val_main_v179_apply, val_main_v178_apply, val_main_v177_apply]
  refine (mul_comm _ _).trans ((congrArg₂ (· * ·) ((congrArg _ ?_).trans (ref_pad x g wi bi p ⟨s.val + 21, by omega⟩ n))
    (congrArg w ?_)).trans (T_of x g wi bi w p s n 21 (by decide))) <;> blk_ext

theorem tap_22 (p : Fin 8) (s : Fin 4096) (n : Fin 1024) :
    val_main_v189 (F := Ideal) x g wi bi w (ix3 p s n) = T x g wi bi w p s n 22 := by
  simp only [val_main_v189_apply, val_main_v188_apply, val_main_v187_apply, val_main_v186_apply, val_main_v185_apply, val_main_v184_apply]
  refine (mul_comm _ _).trans ((congrArg₂ (· * ·) ((congrArg _ ?_).trans (ref_pad x g wi bi p ⟨s.val + 22, by omega⟩ n))
    (congrArg w ?_)).trans (T_of x g wi bi w p s n 22 (by decide))) <;> blk_ext

theorem tap_23 (p : Fin 8) (s : Fin 4096) (n : Fin 1024) :
    val_main_v196 (F := Ideal) x g wi bi w (ix3 p s n) = T x g wi bi w p s n 23 := by
  simp only [val_main_v196_apply, val_main_v195_apply, val_main_v194_apply, val_main_v193_apply, val_main_v192_apply, val_main_v191_apply]
  refine (mul_comm _ _).trans ((congrArg₂ (· * ·) ((congrArg _ ?_).trans (ref_pad x g wi bi p ⟨s.val + 23, by omega⟩ n))
    (congrArg w ?_)).trans (T_of x g wi bi w p s n 23 (by decide))) <;> blk_ext

theorem tap_24 (p : Fin 8) (s : Fin 4096) (n : Fin 1024) :
    val_main_v203 (F := Ideal) x g wi bi w (ix3 p s n) = T x g wi bi w p s n 24 := by
  simp only [val_main_v203_apply, val_main_v202_apply, val_main_v201_apply, val_main_v200_apply, val_main_v199_apply, val_main_v198_apply]
  refine (mul_comm _ _).trans ((congrArg₂ (· * ·) ((congrArg _ ?_).trans (ref_pad x g wi bi p ⟨s.val + 24, by omega⟩ n))
    (congrArg w ?_)).trans (T_of x g wi bi w p s n 24 (by decide))) <;> blk_ext

theorem tap_25 (p : Fin 8) (s : Fin 4096) (n : Fin 1024) :
    val_main_v210 (F := Ideal) x g wi bi w (ix3 p s n) = T x g wi bi w p s n 25 := by
  simp only [val_main_v210_apply, val_main_v209_apply, val_main_v208_apply, val_main_v207_apply, val_main_v206_apply, val_main_v205_apply]
  refine (mul_comm _ _).trans ((congrArg₂ (· * ·) ((congrArg _ ?_).trans (ref_pad x g wi bi p ⟨s.val + 25, by omega⟩ n))
    (congrArg w ?_)).trans (T_of x g wi bi w p s n 25 (by decide))) <;> blk_ext

theorem tap_26 (p : Fin 8) (s : Fin 4096) (n : Fin 1024) :
    val_main_v217 (F := Ideal) x g wi bi w (ix3 p s n) = T x g wi bi w p s n 26 := by
  simp only [val_main_v217_apply, val_main_v216_apply, val_main_v215_apply, val_main_v214_apply, val_main_v213_apply, val_main_v212_apply]
  refine (mul_comm _ _).trans ((congrArg₂ (· * ·) ((congrArg _ ?_).trans (ref_pad x g wi bi p ⟨s.val + 26, by omega⟩ n))
    (congrArg w ?_)).trans (T_of x g wi bi w p s n 26 (by decide))) <;> blk_ext

theorem tap_27 (p : Fin 8) (s : Fin 4096) (n : Fin 1024) :
    val_main_v224 (F := Ideal) x g wi bi w (ix3 p s n) = T x g wi bi w p s n 27 := by
  simp only [val_main_v224_apply, val_main_v223_apply, val_main_v222_apply, val_main_v221_apply, val_main_v220_apply, val_main_v219_apply]
  refine (mul_comm _ _).trans ((congrArg₂ (· * ·) ((congrArg _ ?_).trans (ref_pad x g wi bi p ⟨s.val + 27, by omega⟩ n))
    (congrArg w ?_)).trans (T_of x g wi bi w p s n 27 (by decide))) <;> blk_ext

theorem tap_28 (p : Fin 8) (s : Fin 4096) (n : Fin 1024) :
    val_main_v231 (F := Ideal) x g wi bi w (ix3 p s n) = T x g wi bi w p s n 28 := by
  simp only [val_main_v231_apply, val_main_v230_apply, val_main_v229_apply, val_main_v228_apply, val_main_v227_apply, val_main_v226_apply]
  refine (mul_comm _ _).trans ((congrArg₂ (· * ·) ((congrArg _ ?_).trans (ref_pad x g wi bi p ⟨s.val + 28, by omega⟩ n))
    (congrArg w ?_)).trans (T_of x g wi bi w p s n 28 (by decide))) <;> blk_ext

theorem tap_29 (p : Fin 8) (s : Fin 4096) (n : Fin 1024) :
    val_main_v238 (F := Ideal) x g wi bi w (ix3 p s n) = T x g wi bi w p s n 29 := by
  simp only [val_main_v238_apply, val_main_v237_apply, val_main_v236_apply, val_main_v235_apply, val_main_v234_apply, val_main_v233_apply]
  refine (mul_comm _ _).trans ((congrArg₂ (· * ·) ((congrArg _ ?_).trans (ref_pad x g wi bi p ⟨s.val + 29, by omega⟩ n))
    (congrArg w ?_)).trans (T_of x g wi bi w p s n 29 (by decide))) <;> blk_ext

theorem tap_30 (p : Fin 8) (s : Fin 4096) (n : Fin 1024) :
    val_main_v245 (F := Ideal) x g wi bi w (ix3 p s n) = T x g wi bi w p s n 30 := by
  simp only [val_main_v245_apply, val_main_v244_apply, val_main_v243_apply, val_main_v242_apply, val_main_v241_apply, val_main_v240_apply]
  refine (mul_comm _ _).trans ((congrArg₂ (· * ·) ((congrArg _ ?_).trans (ref_pad x g wi bi p ⟨s.val + 30, by omega⟩ n))
    (congrArg w ?_)).trans (T_of x g wi bi w p s n 30 (by decide))) <;> blk_ext

theorem acc_0 (p : Fin 8) (s : Fin 4096) (n : Fin 1024) :
    val_main_v36 (F := Ideal) x g wi bi w (ix3 p s n) = ∑ k ∈ Finset.range 1, T x g wi bi w p s n k :=
  (tap_0 x g wi bi w p s n).trans (Finset.sum_range_one _).symm

theorem acc_1 (p : Fin 8) (s : Fin 4096) (n : Fin 1024) :
    val_main_v43 (F := Ideal) x g wi bi w (ix3 p s n) = ∑ k ∈ Finset.range 2, T x g wi bi w p s n k := by
  rw [val_main_v43_apply, tap_1, acc_0]
  exact (Finset.sum_range_succ _ 1).symm

theorem acc_2 (p : Fin 8) (s : Fin 4096) (n : Fin 1024) :
    val_main_v50 (F := Ideal) x g wi bi w (ix3 p s n) = ∑ k ∈ Finset.range 3, T x g wi bi w p s n k := by
  rw [val_main_v50_apply, tap_2, acc_1]
  exact (Finset.sum_range_succ _ 2).symm

theorem acc_3 (p : Fin 8) (s : Fin 4096) (n : Fin 1024) :
    val_main_v57 (F := Ideal) x g wi bi w (ix3 p s n) = ∑ k ∈ Finset.range 4, T x g wi bi w p s n k := by
  rw [val_main_v57_apply, tap_3, acc_2]
  exact (Finset.sum_range_succ _ 3).symm

theorem acc_4 (p : Fin 8) (s : Fin 4096) (n : Fin 1024) :
    val_main_v64 (F := Ideal) x g wi bi w (ix3 p s n) = ∑ k ∈ Finset.range 5, T x g wi bi w p s n k := by
  rw [val_main_v64_apply, tap_4, acc_3]
  exact (Finset.sum_range_succ _ 4).symm

theorem acc_5 (p : Fin 8) (s : Fin 4096) (n : Fin 1024) :
    val_main_v71 (F := Ideal) x g wi bi w (ix3 p s n) = ∑ k ∈ Finset.range 6, T x g wi bi w p s n k := by
  rw [val_main_v71_apply, tap_5, acc_4]
  exact (Finset.sum_range_succ _ 5).symm

theorem acc_6 (p : Fin 8) (s : Fin 4096) (n : Fin 1024) :
    val_main_v78 (F := Ideal) x g wi bi w (ix3 p s n) = ∑ k ∈ Finset.range 7, T x g wi bi w p s n k := by
  rw [val_main_v78_apply, tap_6, acc_5]
  exact (Finset.sum_range_succ _ 6).symm

theorem acc_7 (p : Fin 8) (s : Fin 4096) (n : Fin 1024) :
    val_main_v85 (F := Ideal) x g wi bi w (ix3 p s n) = ∑ k ∈ Finset.range 8, T x g wi bi w p s n k := by
  rw [val_main_v85_apply, tap_7, acc_6]
  exact (Finset.sum_range_succ _ 7).symm

theorem acc_8 (p : Fin 8) (s : Fin 4096) (n : Fin 1024) :
    val_main_v92 (F := Ideal) x g wi bi w (ix3 p s n) = ∑ k ∈ Finset.range 9, T x g wi bi w p s n k := by
  rw [val_main_v92_apply, tap_8, acc_7]
  exact (Finset.sum_range_succ _ 8).symm

theorem acc_9 (p : Fin 8) (s : Fin 4096) (n : Fin 1024) :
    val_main_v99 (F := Ideal) x g wi bi w (ix3 p s n) = ∑ k ∈ Finset.range 10, T x g wi bi w p s n k := by
  rw [val_main_v99_apply, tap_9, acc_8]
  exact (Finset.sum_range_succ _ 9).symm

theorem acc_10 (p : Fin 8) (s : Fin 4096) (n : Fin 1024) :
    val_main_v106 (F := Ideal) x g wi bi w (ix3 p s n) = ∑ k ∈ Finset.range 11, T x g wi bi w p s n k := by
  rw [val_main_v106_apply, tap_10, acc_9]
  exact (Finset.sum_range_succ _ 10).symm

theorem acc_11 (p : Fin 8) (s : Fin 4096) (n : Fin 1024) :
    val_main_v113 (F := Ideal) x g wi bi w (ix3 p s n) = ∑ k ∈ Finset.range 12, T x g wi bi w p s n k := by
  rw [val_main_v113_apply, tap_11, acc_10]
  exact (Finset.sum_range_succ _ 11).symm

theorem acc_12 (p : Fin 8) (s : Fin 4096) (n : Fin 1024) :
    val_main_v120 (F := Ideal) x g wi bi w (ix3 p s n) = ∑ k ∈ Finset.range 13, T x g wi bi w p s n k := by
  rw [val_main_v120_apply, tap_12, acc_11]
  exact (Finset.sum_range_succ _ 12).symm

theorem acc_13 (p : Fin 8) (s : Fin 4096) (n : Fin 1024) :
    val_main_v127 (F := Ideal) x g wi bi w (ix3 p s n) = ∑ k ∈ Finset.range 14, T x g wi bi w p s n k := by
  rw [val_main_v127_apply, tap_13, acc_12]
  exact (Finset.sum_range_succ _ 13).symm

theorem acc_14 (p : Fin 8) (s : Fin 4096) (n : Fin 1024) :
    val_main_v134 (F := Ideal) x g wi bi w (ix3 p s n) = ∑ k ∈ Finset.range 15, T x g wi bi w p s n k := by
  rw [val_main_v134_apply, tap_14, acc_13]
  exact (Finset.sum_range_succ _ 14).symm

theorem acc_15 (p : Fin 8) (s : Fin 4096) (n : Fin 1024) :
    val_main_v141 (F := Ideal) x g wi bi w (ix3 p s n) = ∑ k ∈ Finset.range 16, T x g wi bi w p s n k := by
  rw [val_main_v141_apply, tap_15, acc_14]
  exact (Finset.sum_range_succ _ 15).symm

theorem acc_16 (p : Fin 8) (s : Fin 4096) (n : Fin 1024) :
    val_main_v148 (F := Ideal) x g wi bi w (ix3 p s n) = ∑ k ∈ Finset.range 17, T x g wi bi w p s n k := by
  rw [val_main_v148_apply, tap_16, acc_15]
  exact (Finset.sum_range_succ _ 16).symm

theorem acc_17 (p : Fin 8) (s : Fin 4096) (n : Fin 1024) :
    val_main_v155 (F := Ideal) x g wi bi w (ix3 p s n) = ∑ k ∈ Finset.range 18, T x g wi bi w p s n k := by
  rw [val_main_v155_apply, tap_17, acc_16]
  exact (Finset.sum_range_succ _ 17).symm

theorem acc_18 (p : Fin 8) (s : Fin 4096) (n : Fin 1024) :
    val_main_v162 (F := Ideal) x g wi bi w (ix3 p s n) = ∑ k ∈ Finset.range 19, T x g wi bi w p s n k := by
  rw [val_main_v162_apply, tap_18, acc_17]
  exact (Finset.sum_range_succ _ 18).symm

theorem acc_19 (p : Fin 8) (s : Fin 4096) (n : Fin 1024) :
    val_main_v169 (F := Ideal) x g wi bi w (ix3 p s n) = ∑ k ∈ Finset.range 20, T x g wi bi w p s n k := by
  rw [val_main_v169_apply, tap_19, acc_18]
  exact (Finset.sum_range_succ _ 19).symm

theorem acc_20 (p : Fin 8) (s : Fin 4096) (n : Fin 1024) :
    val_main_v176 (F := Ideal) x g wi bi w (ix3 p s n) = ∑ k ∈ Finset.range 21, T x g wi bi w p s n k := by
  rw [val_main_v176_apply, tap_20, acc_19]
  exact (Finset.sum_range_succ _ 20).symm

theorem acc_21 (p : Fin 8) (s : Fin 4096) (n : Fin 1024) :
    val_main_v183 (F := Ideal) x g wi bi w (ix3 p s n) = ∑ k ∈ Finset.range 22, T x g wi bi w p s n k := by
  rw [val_main_v183_apply, tap_21, acc_20]
  exact (Finset.sum_range_succ _ 21).symm

theorem acc_22 (p : Fin 8) (s : Fin 4096) (n : Fin 1024) :
    val_main_v190 (F := Ideal) x g wi bi w (ix3 p s n) = ∑ k ∈ Finset.range 23, T x g wi bi w p s n k := by
  rw [val_main_v190_apply, tap_22, acc_21]
  exact (Finset.sum_range_succ _ 22).symm

theorem acc_23 (p : Fin 8) (s : Fin 4096) (n : Fin 1024) :
    val_main_v197 (F := Ideal) x g wi bi w (ix3 p s n) = ∑ k ∈ Finset.range 24, T x g wi bi w p s n k := by
  rw [val_main_v197_apply, tap_23, acc_22]
  exact (Finset.sum_range_succ _ 23).symm

theorem acc_24 (p : Fin 8) (s : Fin 4096) (n : Fin 1024) :
    val_main_v204 (F := Ideal) x g wi bi w (ix3 p s n) = ∑ k ∈ Finset.range 25, T x g wi bi w p s n k := by
  rw [val_main_v204_apply, tap_24, acc_23]
  exact (Finset.sum_range_succ _ 24).symm

theorem acc_25 (p : Fin 8) (s : Fin 4096) (n : Fin 1024) :
    val_main_v211 (F := Ideal) x g wi bi w (ix3 p s n) = ∑ k ∈ Finset.range 26, T x g wi bi w p s n k := by
  rw [val_main_v211_apply, tap_25, acc_24]
  exact (Finset.sum_range_succ _ 25).symm

theorem acc_26 (p : Fin 8) (s : Fin 4096) (n : Fin 1024) :
    val_main_v218 (F := Ideal) x g wi bi w (ix3 p s n) = ∑ k ∈ Finset.range 27, T x g wi bi w p s n k := by
  rw [val_main_v218_apply, tap_26, acc_25]
  exact (Finset.sum_range_succ _ 26).symm

theorem acc_27 (p : Fin 8) (s : Fin 4096) (n : Fin 1024) :
    val_main_v225 (F := Ideal) x g wi bi w (ix3 p s n) = ∑ k ∈ Finset.range 28, T x g wi bi w p s n k := by
  rw [val_main_v225_apply, tap_27, acc_26]
  exact (Finset.sum_range_succ _ 27).symm

theorem acc_28 (p : Fin 8) (s : Fin 4096) (n : Fin 1024) :
    val_main_v232 (F := Ideal) x g wi bi w (ix3 p s n) = ∑ k ∈ Finset.range 29, T x g wi bi w p s n k := by
  rw [val_main_v232_apply, tap_28, acc_27]
  exact (Finset.sum_range_succ _ 28).symm

theorem acc_29 (p : Fin 8) (s : Fin 4096) (n : Fin 1024) :
    val_main_v239 (F := Ideal) x g wi bi w (ix3 p s n) = ∑ k ∈ Finset.range 30, T x g wi bi w p s n k := by
  rw [val_main_v239_apply, tap_29, acc_28]
  exact (Finset.sum_range_succ _ 29).symm

theorem acc_30 (p : Fin 8) (s : Fin 4096) (n : Fin 1024) :
    val_main_v246 (F := Ideal) x g wi bi w (ix3 p s n) = ∑ k ∈ Finset.range 31, T x g wi bi w p s n k := by
  rw [val_main_v246_apply, tap_30, acc_29]
  exact (Finset.sum_range_succ _ 30).symm

theorem ref_conv (p : Fin 8) (s : Fin 4096) (n : Fin 1024) :
    val_main_v250 (F := Ideal) x g wi bi w b (ix3 p s n) = Y x g wi bi w b p s n := by
  rw [val_main_v250_apply, acc_30]
  simp only [val_main_v249_apply, val_main_v248_apply, val_main_v247_apply]
  unfold Y dw
  refine (add_comm _ _).trans (congrArg₂ (· + ·) (congrArg b (by blk_ext)) ?_)
  rw [Finset.sum_range]
  exact Finset.sum_congr rfl fun k _ => dif_pos k.isLt

/-! ## The layer norm and the output -/

theorem ref_mean (p : Fin 8) (s : Fin 4096) :
    val_main_v254 (F := Ideal) x g wi bi w b (ix3 p s 0) = mean (Y x g wi bi w b p s) := by
  simp only [val_main_v254_apply, val_main_v253_apply, val_main_v252_apply, val_main_v251_apply, val_main_cst_4_apply, val_main_cst_5_apply]
  unfold mean
  refine congrArg₂ Ideal.div ((congrArg (· + _) Ideal.ofBits_zero_f32).trans ((zero_add _).trans ?_)) rfl
  refine Finset.sum_congr rfl fun i _ => ?_
  rw [← ref_conv]
  exact congrArg _ (by blk_ext)

theorem ref_var (p : Fin 8) (s : Fin 4096) :
    val_main_v261 (F := Ideal) x g wi bi w b (ix3 p s 0)
      = Ideal.div (∑ i, (Y x g wi bi w b p s i - mean (Y x g wi bi w b p s)) * (Y x g wi bi w b p s i - mean (Y x g wi bi w b p s)))
          (Ideal.ofBits .f32 0x44800000#32) := by
  simp only [val_main_v261_apply, val_main_v260_apply, val_main_v259_apply, val_main_v258_apply, val_main_cst_6_apply, val_main_cst_7_apply]
  refine congrArg₂ Ideal.div ((congrArg (· + _) Ideal.ofBits_zero_f32).trans ((zero_add _).trans ?_)) rfl
  refine Finset.sum_congr rfl fun i _ => ?_
  simp only [val_main_v257_apply, val_main_v256_apply, val_main_v255_apply]
  rw [← ref_conv, ← ref_mean]
  refine congrArg₂ (· * ·) (congrArg₂ (· - ·) (congrArg _ ?_) (congrArg _ ?_)) (congrArg₂ (· - ·) (congrArg _ ?_) (congrArg _ ?_)) <;> blk_ext

theorem ref_scaled (p : Fin 8) (s : Fin 4096) (n : Fin 1024) :
    val_main_v276 (F := Ideal) x g wi bi w b lg lb (ix3 p s n)
      = scaled (Y x g wi bi w b p s) (fun k => lg (ix2 0 k)) n + lb (ix2 0 n) := by
  simp only [val_main_v276_apply, val_main_v275_apply, val_main_v274_apply, val_main_v273_apply, val_main_v272_apply, val_main_v271_apply, val_main_v270_apply, val_main_v269_apply, val_main_v268_apply, val_main_v267_apply, val_main_v266_apply, val_main_v265_apply, val_main_v264_apply, val_main_v263_apply, val_main_v262_apply, val_main_cst_8_apply]
  unfold scaled
  rw [← ref_conv, ← ref_var, ← ref_mean]
  refine congrArg₂ (· + ·) (congrArg₂ (· * ·) (congrArg₂ (· * ·) (congrArg₂ (· - ·) rfl (congrArg _ ?_))
    (congrArg Ideal.rsqrt (congrArg₂ (· + ·) (congrArg _ ?_) rfl))) (congrArg lg ?_)) (congrArg lb ?_) <;> blk_ext

theorem ref_eq : val_main_v284 (F := Ideal) x g wi bi w b lg lb wo bo = G x g wi bi w b lg lb wo bo := by
  funext i
  obtain ⟨p, s, n, rfl⟩ : ∃ (p : Fin 8) (s : Fin 4096) (n : Fin 1024), i = ix3 p s n := ⟨i 0, i 1, i 2, by blk_ext⟩
  simp only [val_main_v284_apply, val_main_v283_apply, val_main_v282_apply, val_main_v281_apply, val_main_v280_apply, val_main_v279_apply, val_main_v278_apply]
  unfold G res
  refine congrArg₂ (· + ·) rfl (congrArg₂ (· + ·) (Finset.sum_congr rfl fun k _ => congrArg₂ (· * ·) ?_ (congrArg wo (by blk_ext))) (congrArg bo (by blk_ext)))
  have e : ∀ j : S8x4096x1024.Idx, j = ix3 p s k → val_main_v277 (F := Ideal) x g wi bi w b lg lb j
      = (scaled (Y x g wi bi w b p s) (fun k => lg (ix2 0 k)) k + lb (ix2 0 k))
        * sg (scaled (Y x g wi bi w b p s) (fun k => lg (ix2 0 k)) k + lb (ix2 0 k)) := by
    rintro _ rfl
    simp only [val_main_v277_apply, val_main_call1_v5_apply, val_main_call1_v4_apply, val_main_call1_v3_apply, val_main_call1_v2_apply,
      val_main_call1_v1_apply, val_main_call1_v0_apply, val_main_call1_cst_apply, val_main_call1_cst_0_apply]
    rw [ref_scaled]
    unfold sg
    rw [← Ideal.ofBits_one_f32]
    rfl
  exact e _ (by blk_ext)

end

end Cert.Proof.Conv

end
-- ==== Proof.Conv.Kernel.lean ====
/- The convolution over the grid: the windows' reads, the carried rows, and the result array as a function of the
   arguments. -/
module

public import proofs.«01_k».proof.Proof.Conv.Out
public import Idealize.ShloMosaic.Lib.StableHlo.ReadAt
public import proofs.«01_k».proof.Proof.Conv.Reference

@[expose] public section

noncomputable section

namespace Cert.Proof.Conv

open Cert.Kernel5Ideal Cert.Kernel5Ideal.Gen Idealize.ShloMosaic Idealize.ShloMosaic.TcCoe Idealize.SL.Sem
open scoped BigOperators

/-- Row `r` of tile `q`. -/
def row (q : Fin 4) (r : Fin 1024) : Fin 4096 := ⟨1024 * q.val + r.val, by omega⟩

/-! ## The windows -/

variable (m : (ℓ : Loc nD τ sig) → Buf (Elt Ideal) ℓ)

theorem idx0 : ∀ t : Fin cfg0.N, win0_0.index t = ![t.val / 4, t.val % 4, 0] := by decide +kernel
theorem idx1 : ∀ t : Fin cfg0.N, win0_1.index t = ![0, 0] := by decide +kernel
theorem idx2 : ∀ t : Fin cfg0.N, win0_2.index t = ![0, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0, 0] := by decide +kernel
theorem idx9 : ∀ t : Fin cfg0.N, win0_9.index t = ![0, 0] := by decide +kernel
theorem idx10 : ∀ t : Fin cfg0.N, win0_10.index t = ![t.val / 4, t.val % 4, 0] := by decide +kernel

/-- A grid point's batch. -/
def bat (t : Fin cfg0.N) : Fin 8 := ⟨t.val / 4, by have h := Nat.lt_of_lt_of_eq t.isLt N_0; omega⟩

/-- A grid point's tile. -/
def til (t : Fin cfg0.N) : Fin 4 := ⟨t.val % 4, Nat.mod_lt _ (by decide)⟩

theorem x_read (c : Dev nD) (t : Fin cfg0.N) (r k : Fin 1024) :
    iblk m c 0 t (ix3 0 r k) = m ((c : Thread nD τ).loc main_arg0) (ix3 (bat t) (row (til t) r) k) := by
  unfold bat til row
  blk_ext [iblk, V, idx0 t]

theorem read1 (t : Fin cfg0.N) (X : FVec Ideal S1x1024 .f32) (k : Fin 1024) :
    ((cfg0.win 1).blk t).view.read (Elt Ideal) X (ix2 0 k) = X (ix2 0 k) := by
  blk_ext [idx1 t]

theorem g_read (c : Dev nD) (t : Fin cfg0.N) (k : Fin 1024) :
    iblk m c 1 t (ix2 0 k) = m ((c : Thread nD τ).loc main_arg1) (ix2 2 k) := by
  unfold iblk
  refine (read1 t _ k).trans ?_
  show StableHlo.after (List.flatten [hostOps0]) (fun b => m (c, b)) (Proc.devRef .tc main_v2) (ix2 0 k) = _
  simp only [hostOps0, List.flatten_cons, List.flatten_nil, List.append_nil, List.cons_append, List.nil_append]
  after_reads_at

theorem read3 (t : Fin cfg0.N) (X : FVec Ideal S1x2048 .f32) (k : Fin 2048) :
    ((cfg0.win 3).blk t).view.read (Elt Ideal) X (ix2 0 k) = X (ix2 0 k) := by
  blk_ext [idx3 t]

theorem bi_read (c : Dev nD) (t : Fin cfg0.N) (k : Fin 2048) :
    iblk m c 3 t (ix2 0 k) = m ((c : Thread nD τ).loc main_arg3) (ix2 0 k) := by
  unfold iblk
  refine (read3 t _ k).trans ?_
  show StableHlo.after (List.flatten [hostOps0]) (fun b => m (c, b)) (Proc.devRef .tc main_v5) (ix2 0 k) = _
  simp only [hostOps0, List.flatten_cons, List.flatten_nil, List.append_nil, List.cons_append, List.nil_append]
  after_reads_at

theorem read5 (t : Fin cfg0.N) (X : FVec Ideal S1x1024 .f32) (k : Fin 1024) :
    ((cfg0.win 5).blk t).view.read (Elt Ideal) X (ix2 0 k) = X (ix2 0 k) := by
  blk_ext [idx5 t]

theorem b_read (c : Dev nD) (t : Fin cfg0.N) (k : Fin 1024) :
    iblk m c 5 t (ix2 0 k) = m ((c : Thread nD τ).loc main_arg5) (ix2 0 k) := by
  unfold iblk
  refine (read5 t _ k).trans ?_
  show StableHlo.after (List.flatten [hostOps0]) (fun b => m (c, b)) (Proc.devRef .tc main_v8) (ix2 0 k) = _
  simp only [hostOps0, List.flatten_cons, List.flatten_nil, List.append_nil, List.cons_append, List.nil_append]
  after_reads_at

theorem read6 (t : Fin cfg0.N) (X : FVec Ideal S1x1024 .f32) (k : Fin 1024) :
    ((cfg0.win 6).blk t).view.read (Elt Ideal) X (ix2 0 k) = X (ix2 0 k) := by
  blk_ext [idx6 t]

theorem lg_read (c : Dev nD) (t : Fin cfg0.N) (k : Fin 1024) :
    iblk m c 6 t (ix2 0 k) = m ((c : Thread nD τ).loc main_arg6) (ix2 0 k) := by
  unfold iblk
  refine (read6 t _ k).trans ?_
  show StableHlo.after (List.flatten [hostOps0]) (fun b => m (c, b)) (Proc.devRef .tc main_v10) (ix2 0 k) = _
  simp only [hostOps0, List.flatten_cons, List.flatten_nil, List.append_nil, List.cons_append, List.nil_append]
  after_reads_at

theorem read7 (t : Fin cfg0.N) (X : FVec Ideal S1x1024 .f32) (k : Fin 1024) :
    ((cfg0.win 7).blk t).view.read (Elt Ideal) X (ix2 0 k) = X (ix2 0 k) := by
  blk_ext [idx7 t]

theorem lb_read (c : Dev nD) (t : Fin cfg0.N) (k : Fin 1024) :
    iblk m c 7 t (ix2 0 k) = m ((c : Thread nD τ).loc main_arg7) (ix2 0 k) := by
  unfold iblk
  refine (read7 t _ k).trans ?_
  show StableHlo.after (List.flatten [hostOps0]) (fun b => m (c, b)) (Proc.devRef .tc main_v12) (ix2 0 k) = _
  simp only [hostOps0, List.flatten_cons, List.flatten_nil, List.append_nil, List.cons_append, List.nil_append]
  after_reads_at

theorem read9 (t : Fin cfg0.N) (X : FVec Ideal S1x1024 .f32) (k : Fin 1024) :
    ((cfg0.win 9).blk t).view.read (Elt Ideal) X (ix2 0 k) = X (ix2 0 k) := by
  blk_ext [idx9 t]

theorem bo_read (c : Dev nD) (t : Fin cfg0.N) (k : Fin 1024) :
    iblk m c 9 t (ix2 0 k) = m ((c : Thread nD τ).loc main_arg9) (ix2 0 k) := by
  unfold iblk
  refine (read9 t _ k).trans ?_
  show StableHlo.after (List.flatten [hostOps0]) (fun b => m (c, b)) (Proc.devRef .tc main_v15) (ix2 0 k) = _
  simp only [hostOps0, List.flatten_cons, List.flatten_nil, List.append_nil, List.cons_append, List.nil_append]
  after_reads_at

theorem read2 (t : Fin cfg0.N) (X : FVec Ideal S1x1024x2048 .bf16) (k : Fin 1024) (n : Fin 2048) :
    ((cfg0.win 2).blk t).view.read (Elt Ideal) X (ix3 0 k n) = X (ix3 0 k n) := by
  blk_ext [idx2 t]

theorem wi_read (c : Dev nD) (t : Fin cfg0.N) (k : Fin 1024) (n : Fin 2048) :
    iblk m c 2 t (ix3 0 k n) = m ((c : Thread nD τ).loc main_arg2) (ix3 0 k n) := by
  unfold iblk
  refine (read2 t _ k n).trans ?_
  show StableHlo.after (List.flatten [hostOps0]) (fun b => m (c, b)) (Proc.devRef .tc main_v3) (ix3 0 k n) = _
  simp only [hostOps0, List.flatten_cons, List.flatten_nil, List.append_nil, List.cons_append, List.nil_append]
  after_reads_at

theorem read4 (t : Fin cfg0.N) (X : FVec Ideal S31x1024 .f32) (k : Fin 31) (n : Fin 1024) :
    ((cfg0.win 4).blk t).view.read (Elt Ideal) X (ix2 k n) = X (ix2 k n) := by
  blk_ext [idx4 t]

theorem w_read (c : Dev nD) (t : Fin cfg0.N) (k : Fin 31) (n : Fin 1024) :
    iblk m c 4 t (ix2 k n) = m ((c : Thread nD τ).loc main_arg4) (ix3 0 k n) := by
  unfold iblk
  refine (read4 t _ k n).trans ?_
  show StableHlo.after (List.flatten [hostOps0]) (fun b => m (c, b)) (Proc.devRef .tc main_v6) (ix2 k n) = _
  simp only [hostOps0, List.flatten_cons, List.flatten_nil, List.append_nil, List.cons_append, List.nil_append]
  after_reads_at

theorem read8 (t : Fin cfg0.N) (X : FVec Ideal S1x1024x1024 .bf16) (k : Fin 1024) (n : Fin 1024) :
    ((cfg0.win 8).blk t).view.read (Elt Ideal) X (ix3 0 k n) = X (ix3 0 k n) := by
  blk_ext [idx8 t]

theorem wo_read (c : Dev nD) (t : Fin cfg0.N) (k : Fin 1024) (n : Fin 1024) :
    iblk m c 8 t (ix3 0 k n) = m ((c : Thread nD τ).loc main_arg8) (ix3 0 k n) := by
  unfold iblk
  refine (read8 t _ k n).trans ?_
  show StableHlo.after (List.flatten [hostOps0]) (fun b => m (c, b)) (Proc.devRef .tc main_v13) (ix3 0 k n) = _
  simp only [hostOps0, List.flatten_cons, List.flatten_nil, List.append_nil, List.cons_append, List.nil_append]
  after_reads_at

/-! ## One grid point -/

theorem padded_zero (f : Fin 4096 → EReal) (j : ℕ) (hj : j < 4126) (h : ¬30 ≤ j) : padded f j hj = 0 := by
  unfold padded
  rw [dif_neg h]

/-- The arguments' hidden rows. -/
abbrev hm (c : Dev nD) (p : Fin 8) (s : Fin 4096) (n : Fin 1024) : EReal :=
  H (m ((c : Thread nD τ).loc main_arg0)) (m ((c : Thread nD τ).loc main_arg1)) (m ((c : Thread nD τ).loc main_arg2)) (m ((c : Thread nD τ).loc main_arg3)) p s n

theorem h_row (c : Dev nD) (t : Fin cfg0.N) (r n : Fin 1024) :
    hh (iblk m c 0 t) (iblk m c 1 t) (iblk m c 2 t) (iblk m c 3 t) r n = hm m c (bat t) (row (til t) r) n := by
  unfold hh hm H
  simp only [x_read, g_read, wi_read, bi_read]

theorem s_out (c : Dev nD) (t : Fin cfg0.N) (R : Fin 32) (n : Fin 1024) :
    (outsAt0 m c t.val t.isLt).2 (ix2 ⟨R.val, by omega⟩ n) = hm m c (bat t) (row (til t) ⟨992 + R.val, by omega⟩) n := by
  by_cases h0 : t.val % 4 = 0
  · rw [outsAt0_A m c t h0]
    dsimp only
    exact (s_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) R n).trans (h_row m c t _ n)
  · rw [outsAt0_B m c t h0]
    dsimp only
    exact (s_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 (fun h => h0 ((hcond0_0 t).mp h)) R n).trans (h_row m c t _ n)

/-- The window over the extended block is the window over the batch's padded rows. -/
theorem conv_row (c : Dev nD) (t : Fin cfg0.N) (e : Fin 1056 → Fin 1024 → EReal)
    (he : ∀ (R : Fin 1056) (n : Fin 1024) (h2 : 2 ≤ R.val) (h : 1024 * (til t).val + R.val - 2 < 4126),
      e R n = padded (fun s => hm m c (bat t) s n) (1024 * (til t).val + R.val - 2) h) (r n : Fin 1024) :
    yb e (iblk m c 4 t) (iblk m c 5 t) r n = Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bat t) (row (til t) r) n := by
  unfold yb Y dw
  refine congrArg₂ (· + ·) (b_read m c t n) (Finset.sum_congr rfl fun k _ => congrArg₂ (· * ·) ?_ (w_read m c t k n))
  refine (he _ n (by show 2 ≤ r.val + 2 + k.val; omega) (by have := (til t).isLt; show 1024 * (til t).val + (r.val + 2 + k.val) - 2 < 4126; omega)).trans ?_
  congr 1
  show 1024 * (til t).val + (r.val + 2 + k.val) - 2 = 1024 * (til t).val + r.val + k.val
  omega

theorem ext_pad (c : Dev nD) (t : Fin cfg0.N) (hist : Fin 32 → Fin 1024 → EReal)
    (hh0 : ∀ (R : Fin 32) (n : Fin 1024) (h2 : 2 ≤ R.val) (h : 1024 * (til t).val + R.val - 2 < 4126),
      hist R n = padded (fun s => hm m c (bat t) s n) (1024 * (til t).val + R.val - 2) h)
    (R : Fin 1056) (n : Fin 1024) (h2 : 2 ≤ R.val) (h : 1024 * (til t).val + R.val - 2 < 4126) :
    ext hist (hh (iblk m c 0 t) (iblk m c 1 t) (iblk m c 2 t) (iblk m c 3 t)) R n
      = padded (fun s => hm m c (bat t) s n) (1024 * (til t).val + R.val - 2) h := by
  unfold ext
  by_cases hR : R.val < 32
  · rw [dif_pos hR]
    exact hh0 ⟨R.val, hR⟩ n h2 h
  · rw [dif_neg hR, h_row]
    refine Eq.trans ?_ (dif_pos (by omega)).symm
    refine congrArg (fun s => hm m c (bat t) s n) (Fin.ext ?_)
    show 1024 * (til t).val + (R.val - 32) = 1024 * (til t).val + R.val - 2 - 30
    omega

theorem out (c : Dev nD) (t : Fin cfg0.N) (r n : Fin 1024) :
    (outsAt0 m c t.val t.isLt).1 (ix3 0 r n) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 (bat t) (row (til t) r) n) := by
  have fin : ∀ e : Fin 1056 → Fin 1024 → EReal,
      (∀ (R : Fin 1056) (n : Fin 1024) (h2 : 2 ≤ R.val) (h : 1024 * (til t).val + R.val - 2 < 4126),
        e R n = padded (fun s => hm m c (bat t) s n) (1024 * (til t).val + R.val - 2) h) →
      res (fun k => iblk m c 0 t (ix3 0 r k)) (yb e (iblk m c 4 t) (iblk m c 5 t) r) (fun k => iblk m c 6 t (ix2 0 k)) (fun k => iblk m c 7 t (ix2 0 k))
        (fun k n => iblk m c 8 t (ix3 0 k n)) (fun k => iblk m c 9 t (ix2 0 k)) n = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 (bat t) (row (til t) r) n) := by
    intro e he
    have ey : yb e (iblk m c 4 t) (iblk m c 5 t) r = Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bat t) (row (til t) r) := funext fun n => conv_row m c t e he r n
    rw [ey]
    simp only [x_read, lg_read, lb_read, wo_read, bo_read]
    rfl
  by_cases h0 : t.val % 4 = 0
  · rw [outsAt0_A m c t h0]
    dsimp only
    refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) r n).trans (fin _ (ext_pad m c t _ fun R n h2 h => ?_))
    refine (padded_zero _ _ _ ?_).symm
    have ht : (til t).val = 0 := h0
    have hR := R.isLt
    omega
  · rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 (fun h => h0 ((hcond0_0 t).mp h)) r n).trans (fin _ (ext_pad m c t _ fun R n h2 h => ?_))
    have ht : (til t).val = t.val % 4 := rfl
    refine (s_out m c ⟨t.val - 1, Nat.lt_of_le_of_lt (Nat.sub_le _ _) t.isLt⟩ R n).trans (Eq.trans ?_ (dif_pos (by omega)).symm)
    have e1 : bat ⟨t.val - 1, Nat.lt_of_le_of_lt (Nat.sub_le _ _) t.isLt⟩ = bat t := Fin.ext (by show (t.val - 1) / 4 = t.val / 4; omega)
    rw [e1]
    refine congrArg (fun s => hm m c (bat t) s n) (Fin.ext ?_)
    show 1024 * ((t.val - 1) % 4) + (992 + R.val) = 1024 * (t.val % 4) + R.val - 2 - 30
    omega

theorem final10 (c : Dev nD) :
    (dats m 0 c).arrAt 10 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]
  revert y
  intro (y : S1x1024x1024.Idx)
  obtain ⟨r, n, rfl⟩ : ∃ (r : Fin 1024) (n : Fin 1024), y = ix3 0 r n := ⟨y 1, y 2, by blk_ext⟩
  refine (out m c t r n).trans ?_
  have e : ((cfg0.win 10).blk t).view.emb (ix3 0 r n : S1x1024x1024.Idx) = ix3 (bat t) (row (til t) r) n := by
    unfold bat til row
    blk_ext [idx10 t]
  rw [e]

end Cert.Proof.Conv

end
-- ==== Proof.Conv.Claims.lean ====
/- What the certificate claims of the convolution module: both programs run, their arguments end unchanged, and from equal
   arguments their results are equal. -/
module

public import proofs.«01_k».proof.Defs
public import proofs.«01_k».proof.Proof.Conv.Kernel
public import proofs.«01_k».proof.Proof.Gen.Kernel5
public import proofs.«01_k».proof.Proof.Gen.Kernel5.Frame
public import proofs.«01_k».proof.Proof.Gen.Reference5Ideal.Run

@[expose] public section

noncomputable section

namespace Cert.Proof.Conv

open Idealize.ShloMosaic Idealize.SL.Sem

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

theorem preserves : Cert.preserves_Kernel5_Kernel5Ideal := trivial

/-- From equal arguments both end at the same function of them. -/
theorem algebraic : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨e0, e1, e2, e3, e4, e5, e6, e7, e8, e9⟩ := hagree c
  rw [final10 m c, Cert.Reference5Ideal.Read.val_main_v284_eq, ref_eq, ← e0, ← e1, ← e2, ← e3, ← e4, ← e5, ← e6, ← e7, ← e8, ← e9]

end Cert.Proof.Conv

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_scores
public import proofs.«01_k».proof.Proof.Attn.Claims
public import proofs.«01_k».proof.Proof.Ffn.Claims
public import proofs.«01_k».proof.Proof.Proj.Claims
public import proofs.«01_k».proof.Proof.Fox.Claims
public import proofs.«01_k».proof.Proof.Conv.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_scores.Gen.facts,
    Attn.frame_p, Attn.frame_pi, Attn.frame_pi_pre, Attn.frame_ri, Attn.frame_ri_pre, Ffn.frame_p, Ffn.frame_pi, Ffn.frame_ri,
    Proj.frame_p, Proj.frame_pi, Proj.frame_ri, Fox.frame_p, Fox.frame_pi, Fox.frame_ri, Conv.frame_p, Conv.frame_pi, Conv.frame_ri,
    Attn.preserves, Attn.algebraic, Ffn.preserves, Ffn.algebraic, Proj.preserves, Proj.algebraic,
    Fox.preserves, Fox.algebraic, Conv.preserves, Conv.algebraic⟩

end Cert.Proof

end
